-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v77) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_v35) = v4 c
          ∧ r.2.mem ((c.tc : Thread Cert.Reference5Ideal.nD Cert.Reference5Ideal.τ).loc Cert.Reference5Ideal.main_v36) = v5 c
          ∧ r.2.mem ((c.tc : Thread Cert.Reference5Ideal.nD Cert.Reference5Ideal.τ).loc Cert.Reference5Ideal.main_v37) = v6 c
          ∧ r.2.mem ((c.tc : Thread Cert.Reference5Ideal.nD Cert.Reference5Ideal.τ).loc Cert.Reference5Ideal.main_v38) = v7 c
          ∧ r.2.mem ((c.tc : Thread Cert.Reference5Ideal.nD Cert.Reference5Ideal.τ).loc Cert.Reference5Ideal.main_v39) = v8 c
          ∧ r.2.mem ((c.tc : Thread Cert.Reference5Ideal.nD Cert.Reference5Ideal.τ).loc Cert.Reference5Ideal.main_v31) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)) (v4 : (c : Dev Cert.Kernel6Ideal.nD) → Buf (Elt Ideal) ((c.tc : Thread Cert.Kernel6Ideal.nD Cert.Kernel6Ideal.τ).loc Cert.Kernel6Ideal.main_v6_4)) (v5 : (c : Dev Cert.Kernel6Ideal.nD) → Buf (Elt Ideal) ((c.tc : Thread Cert.Kernel6Ideal.nD Cert.Kernel6Ideal.τ).loc Cert.Kernel6Ideal.main_v6_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_v6_4) = v4 c
          ∧ r.2.mem ((c.tc : Thread Cert.Kernel6Ideal.nD Cert.Kernel6Ideal.τ).loc Cert.Kernel6Ideal.main_v6_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_v24) = v4 c
          ∧ r.2.mem ((c.tc : Thread Cert.Reference6Ideal.nD Cert.Reference6Ideal.τ).loc Cert.Reference6Ideal.main_v21) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S4096x384 : Shape := ⟨2, ![4096, 384]⟩
abbrev S2x6x2048 : Shape := ⟨3, ![2, 6, 2048]⟩
abbrev S_ : Shape := ⟨0, ![]⟩

class Facts : Prop where
  bitsLt_bf16_f32 : FTy.bits .bf16 < FTy.bits .f32
  bcast_S_S4096x384 : S_.BroadcastsInDim S4096x384 (![] : Fin 0 → Fin S4096x384.rank)
  reducesTo_S4096x384_S_d0_1 : S4096x384.ReducesTo [0, 1] S_
  h_S_ : 0 < S_.numel
  bcast_S_S2x6x2048 : S_.BroadcastsInDim S2x6x2048 (![] : Fin 0 → Fin S2x6x2048.rank)
  reducesTo_S2x6x2048_S_d0_1_2 : S2x6x2048.ReducesTo [0, 1, 2] S_

variable [Facts]

def fn_part1 {F : FTy → Type} [FloatOps F] (main_arg4 : FVec F S4096x384 .f32) (main_v16 : IVec S_ 1) (main_v17 : FVec F S2x6x2048 .f32) : IVec S_ 1 :=
  let main_cst_4 : FVec F S_ .f32 := constant S_ .f32 0x7F800000#32
  let main_v18 : FVec F S2x6x2048 .f32 := broadcastInDim S2x6x2048 ![] bcast_S_S2x6x2048 main_cst_4
  let main_v19 : IVec S2x6x2048 1 := cmpf .olt main_v17 main_v18
  let main_c_5 : IVec S_ 1 := constantI S_ 1 1#1
  let main_v20 : IVec S_ 1 := (fun x v => Host.reduce IntOp.andi x v reducesTo_S2x6x2048_S_d0_1_2 h_S_) main_v19 main_c_5
  let main_v21 : IVec S_ 1 := andi main_v16 main_v20
  let main_v22 : FVec F S4096x384 .f32 := Host.absf main_arg4
  let main_cst_6 : FVec F S_ .f32 := constant S_ .f32 0x7F800000#32
  let main_v23 : FVec F S4096x384 .f32 := broadcastInDim S4096x384 ![] bcast_S_S4096x384 main_cst_6
  let main_v24 : IVec S4096x384 1 := cmpf .olt main_v22 main_v23
  let main_c_7 : IVec S_ 1 := constantI S_ 1 1#1
  let main_v25 : IVec S_ 1 := (fun x v => Host.reduce IntOp.andi x v reducesTo_S4096x384_S_d0_1 h_S_) main_v24 main_c_7
  let main_v26 : IVec S_ 1 := andi main_v21 main_v25
  main_v26

def fn {F : FTy → Type} [FloatOps F] (main_arg0 : FVec F S4096x384 .bf16) (main_arg1 : FVec F S4096x384 .bf16) (main_arg2 : FVec F S4096x384 .bf16) (main_arg3 : FVec F S2x6x2048 .f32) (main_arg4 : FVec F S4096x384 .f32) : IVec S_ 1 :=
  let main_v0 : FVec F S4096x384 .f32 := (extf .f32 · bitsLt_bf16_f32) main_arg0
  let main_v1 : FVec F S4096x384 .f32 := Host.absf main_v0
  let main_cst : FVec F S_ .f32 := constant S_ .f32 0x7F800000#32
  let main_v2 : FVec F S4096x384 .f32 := broadcastInDim S4096x384 ![] bcast_S_S4096x384 main_cst
  let main_v3 : IVec S4096x384 1 := cmpf .olt main_v1 main_v2
  let main_c : IVec S_ 1 := constantI S_ 1 1#1
  let main_v4 : IVec S_ 1 := (fun x v => Host.reduce IntOp.andi x v reducesTo_S4096x384_S_d0_1 h_S_) main_v3 main_c
  let main_v5 : FVec F S4096x384 .f32 := (extf .f32 · bitsLt_bf16_f32) main_arg1
  let main_v6 : FVec F S4096x384 .f32 := Host.absf main_v5
  let main_cst_0 : FVec F S_ .f32 := constant S_ .f32 0x7F800000#32
  let main_v7 : FVec F S4096x384 .f32 := broadcastInDim S4096x384 ![] bcast_S_S4096x384 main_cst_0
  let main_v8 : IVec S4096x384 1 := cmpf .olt main_v6 main_v7
  let main_c_1 : IVec S_ 1 := constantI S_ 1 1#1
  let main_v9 : IVec S_ 1 := (fun x v => Host.reduce IntOp.andi x v reducesTo_S4096x384_S_d0_1 h_S_) main_v8 main_c_1
  let main_v10 : IVec S_ 1 := andi main_v4 main_v9
  let main_v11 : FVec F S4096x384 .f32 := (extf .f32 · bitsLt_bf16_f32) main_arg2
  let main_v12 : FVec F S4096x384 .f32 := Host.absf main_v11
  let main_cst_2 : FVec F S_ .f32 := constant S_ .f32 0x7F800000#32
  let main_v13 : FVec F S4096x384 .f32 := broadcastInDim S4096x384 ![] bcast_S_S4096x384 main_cst_2
  let main_v14 : IVec S4096x384 1 := cmpf .olt main_v12 main_v13
  let main_c_3 : IVec S_ 1 := constantI S_ 1 1#1
  let main_v15 : IVec S_ 1 := (fun x v => Host.reduce IntOp.andi x v reducesTo_S4096x384_S_d0_1 h_S_) main_v14 main_c_3
  let main_v16 : IVec S_ 1 := andi main_v10 main_v15
  let main_v17 : FVec F S2x6x2048 .f32 := Host.absf main_arg3
  fn_part1 (F := F) main_arg4 main_v16 main_v17
-- ==== Pre_finite2.lean ====
abbrev S4096x768 : Shape := ⟨2, ![4096, 768]⟩
abbrev S4096x1152 : Shape := ⟨2, ![4096, 1152]⟩
abbrev S4096x384 : Shape := ⟨2, ![4096, 384]⟩
abbrev S4096x128 : Shape := ⟨2, ![4096, 128]⟩
abbrev S4096x1024 : Shape := ⟨2, ![4096, 1024]⟩
abbrev S2x1x1024 : Shape := ⟨3, ![2, 1, 1024]⟩
abbrev S1x1024 : Shape := ⟨2, ![1, 1024]⟩
abbrev S1024x4352 : Shape := ⟨2, ![1024, 4352]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x1152 : S_.BroadcastsInDim S4096x1152 (![] : Fin 0 → Fin S4096x1152.rank)
  reducesTo_S4096x1152_S_d0_1 : S4096x1152.ReducesTo [0, 1] S_
  bcast_S_S4096x384 : S_.BroadcastsInDim S4096x384 (![] : Fin 0 → Fin S4096x384.rank)
  reducesTo_S4096x384_S_d0_1 : S4096x384.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x4352 : S_.BroadcastsInDim S1024x4352 (![] : Fin 0 → Fin S1024x4352.rank)
  reducesTo_S1024x4352_S_d0_1 : S1024x4352.ReducesTo [0, 1] S_

variable [Facts]

def fn_part4 {F : FTy → Type} [FloatOps F] (main_v68 : IVec S_ 1) (main_v70 : FVec F S1024x4352 .f32) : IVec S_ 1 :=
  let main_cst_23 : FVec F S_ .f32 := constant S_ .f32 0x7F800000#32
  let main_v71 : FVec F S1024x4352 .f32 := broadcastInDim S1024x4352 ![] bcast_S_S1024x4352 main_cst_23
  let main_v72 : IVec S1024x4352 1 := cmpf .olt main_v70 main_v71
  let main_c_24 : IVec S_ 1 := constantI S_ 1 1#1
  let main_v73 : IVec S_ 1 := (fun x v => Host.reduce IntOp.andi x v reducesTo_S1024x4352_S_d0_1 h_S_) main_v72 main_c_24
  let main_v74 : IVec S_ 1 := andi main_v68 main_v73
  main_v74

def fn_part3 {F : FTy → Type} [FloatOps F] (main_arg10 : FVec F S4096x1024 .f32) (main_arg12 : FVec F S2x1x1024 .f32) (main_arg13 : FVec F S1x1024 .f32) (main_arg14 : FVec F S1024x4352 .bf16) (main_v47 : IVec S_ 1) (main_v52 : IVec S_ 1) : IVec S_ 1 :=
  let main_v53 : IVec S_ 1 := andi main_v47 main_v52
  let main_v54 : FVec F S4096x1024 .f32 := Host.absf main_arg10
  let main_cst_17 : FVec F S_ .f32 := constant S_ .f32 0x7F800000#32
  let main_v55 : FVec F S4096x1024 .f32 := broadcastInDim S4096x1024 ![] bcast_S_S4096x1024 main_cst_17
  let main_v56 : IVec S4096x1024 1 := cmpf .olt main_v54 main_v55
  let main_c_18 : IVec S_ 1 := constantI S_ 1 1#1
  let main_v57 : IVec S_ 1 := (fun x v => Host.reduce IntOp.andi x v reducesTo_S4096x1024_S_d0_1 h_S_) main_v56 main_c_18
  let main_v58 : IVec S_ 1 := andi main_v53 main_v57
  let main_v59 : FVec F S2x1x1024 .f32 := Host.absf main_arg12
  let main_cst_19 : FVec F S_ .f32 := constant S_ .f32 0x7F800000#32
  let main_v60 : FVec F S2x1x1024 .f32 := broadcastInDim S2x1x1024 ![] bcast_S_S2x1x1024 main_cst_19
  let main_v61 : IVec S2x1x1024 1 := cmpf .olt main_v59 main_v60
  let main_c_20 : IVec S_ 1 := constantI S_ 1 1#1
  let main_v62 : IVec S_ 1 := (fun x v => Host.reduce IntOp.andi x v reducesTo_S2x1x1024_S_d0_1_2 h_S_) main_v61 main_c_20
  let main_v63 : IVec S_ 1 := andi main_v58 main_v62
  let main_v64 : FVec F S1x1024 .f32 := Host.absf main_arg13
  let main_cst_21 : FVec F S_ .f32 := constant S_ .f32 0x7F800000#32
  let main_v65 : FVec F S1x1024 .f32 := broadcastInDim S1x1024 ![] bcast_S_S1x1024 main_cst_21
  let main_v66 : IVec S1x1024 1 := cmpf .olt main_v64 main_v65
  let main_c_22 : IVec S_ 1 := constantI S_ 1 1#1
  let main_v67 : IVec S_ 1 := (fun x v => Host.reduce IntOp.andi x v reducesTo_S1x1024_S_d0_1 h_S_) main_v66 main_c_22
  let main_v68 : IVec S_ 1 := andi main_v63 main_v67
  let main_v69 : FVec F S1024x4352 .f32 := (extf .f32 · bitsLt_bf16_f32) main_arg14
  let main_v70 : FVec F S1024x4352 .f32 := Host.absf main_v69
  fn_part4 (F := F) main_v68 main_v70

def fn_part2 {F : FTy → Type} [FloatOps F] (main_arg6 : FVec F S4096x384 .bf16) (main_arg7 : FVec F S4096x384 .bf16) (main_arg8 : FVec F S4096x128 .bf16) (main_arg10 : FVec F S4096x1024 .f32) (main_arg12 : FVec F S2x1x1024 .f32) (main_arg13 : FVec F S1x1024 .f32) (main_arg14 : FVec F S1024x4352 .bf16) (main_v29 : IVec S_ 1) (main_v34 : IVec S_ 1) : IVec S_ 1 :=
  let main_v35 : IVec S_ 1 := andi main_v29 main_v34
  let main_v36 : FVec F S4096x384 .f32 := (extf .f32 · bitsLt_bf16_f32) main_arg6
  let main_v37 : FVec F S4096x384 .f32 := Host.absf main_v36
  let main_cst_11 : FVec F S_ .f32 := constant S_ .f32 0x7F800000#32
  let main_v38 : FVec F S4096x384 .f32 := broadcastInDim S4096x384 ![] bcast_S_S4096x384 main_cst_11
  let main_v39 : IVec S4096x384 1 := cmpf .olt main_v37 main_v38
  let main_c_12 : IVec S_ 1 := constantI S_ 1 1#1
  let main_v40 : IVec S_ 1 := (fun x v => Host.reduce IntOp.andi x v reducesTo_S4096x384_S_d0_1 h_S_) main_v39 main_c_12
  let main_v41 : IVec S_ 1 := andi main_v35 main_v40
  let main_v42 : FVec F S4096x384 .f32 := (extf .f32 · bitsLt_bf16_f32) main_arg7
  let main_v43 : FVec F S4096x384 .f32 := Host.absf main_v42
  let main_cst_13 : FVec F S_ .f32 := constant S_ .f32 0x7F800000#32
  let main_v44 : FVec F S4096x384 .f32 := broadcastInDim S4096x384 ![] bcast_S_S4096x384 main_cst_13
  let main_v45 : IVec S4096x384 1 := cmpf .olt main_v43 main_v44
  let main_c_14 : IVec S_ 1 := constantI S_ 1 1#1
  let main_v46 : IVec S_ 1 := (fun x v => Host.reduce IntOp.andi x v reducesTo_S4096x384_S_d0_1 h_S_) main_v45 main_c_14
  let main_v47 : IVec S_ 1 := andi main_v41 main_v46
  let main_v48 : FVec F S4096x128 .f32 := (extf .f32 · bitsLt_bf16_f32) main_arg8
  let main_v49 : FVec F S4096x128 .f32 := Host.absf main_v48
  let main_cst_15 : FVec F S_ .f32 := constant S_ .f32 0x7F800000#32
  let main_v50 : FVec F S4096x128 .f32 := broadcastInDim S4096x128 ![] bcast_S_S4096x128 main_cst_15
  let main_v51 : IVec S4096x128 1 := cmpf .olt main_v49 main_v50
  let main_c_16 : IVec S_ 1 := constantI S_ 1 1#1
  let main_v52 : IVec S_ 1 := (fun x v => Host.reduce IntOp.andi x v reducesTo_S4096x128_S_d0_1 h_S_) main_v51 main_c_16
  fn_part3 (F := F) main_arg10 main_arg12 main_arg13 main_arg14 main_v47 main_v52

def fn_part1 {F : FTy → Type} [FloatOps F] (main_arg3 : FVec F S4096x384 .bf16) (main_arg4 : FVec F S4096x384 .bf16) (main_arg5 : FVec F S4096x384 .bf16) (main_arg6 : FVec F S4096x384 .bf16) (main_arg7 : FVec F S4096x384 .bf16) (main_arg8 : FVec F S4096x128 .bf16) (main_arg10 : FVec F S4096x1024 .f32) (main_arg12 : FVec F S2x1x1024 .f32) (main_arg13 : FVec F S1x1024 .f32) (main_arg14 : FVec F S1024x4352 .bf16) (main_v11 : IVec S_ 1) (main_v16 : IVec S_ 1) : IVec S_ 1 :=
  let main_v17 : IVec S_ 1 := andi main_v11 main_v16
  let main_v18 : FVec F S4096x384 .f32 := (extf .f32 · bitsLt_bf16_f32) main_arg3
  let main_v19 : FVec F S4096x384 .f32 := Host.absf main_v18
  let main_cst_5 : FVec F S_ .f32 := constant S_ .f32 0x7F800000#32
  let main_v20 : FVec F S4096x384 .f32 := broadcastInDim S4096x384 ![] bcast_S_S4096x384 main_cst_5
  let main_v21 : IVec S4096x384 1 := cmpf .olt main_v19 main_v20
  let main_c_6 : IVec S_ 1 := constantI S_ 1 1#1
  let main_v22 : IVec S_ 1 := (fun x v => Host.reduce IntOp.andi x v reducesTo_S4096x384_S_d0_1 h_S_) main_v21 main_c_6
  let main_v23 : IVec S_ 1 := andi main_v17 main_v22
  let main_v24 : FVec F S4096x384 .f32 := (extf .f32 · bitsLt_bf16_f32) main_arg4
  let main_v25 : FVec F S4096x384 .f32 := Host.absf main_v24
  let main_cst_7 : FVec F S_ .f32 := constant S_ .f32 0x7F800000#32
  let main_v26 : FVec F S4096x384 .f32 := broadcastInDim S4096x384 ![] bcast_S_S4096x384 main_cst_7
  let main_v27 : IVec S4096x384 1 := cmpf .olt main_v25 main_v26
  let main_c_8 : IVec S_ 1 := constantI S_ 1 1#1
  let main_v28 : IVec S_ 1 := (fun x v => Host.reduce IntOp.andi x v reducesTo_S4096x384_S_d0_1 h_S_) main_v27 main_c_8
  let main_v29 : IVec S_ 1 := andi main_v23 main_v28
  let main_v30 : FVec F S4096x384 .f32 := (extf .f32 · bitsLt_bf16_f32) main_arg5
  let main_v31 : FVec F S4096x384 .f32 := Host.absf main_v30
  let main_cst_9 : FVec F S_ .f32 := constant S_ .f32 0x7F800000#32
  let main_v32 : FVec F S4096x384 .f32 := broadcastInDim S4096x384 ![] bcast_S_S4096x384 main_cst_9
  let main_v33 : IVec S4096x384 1 := cmpf .olt main_v31 main_v32
  let main_c_10 : IVec S_ 1 := constantI S_ 1 1#1
  let main_v34 : IVec S_ 1 := (fun x v => Host.reduce IntOp.andi x v reducesTo_S4096x384_S_d0_1 h_S_) main_v33 main_c_10
  fn_part2 (F := F) main_arg6 main_arg7 main_arg8 main_arg10 main_arg12 main_arg13 main_arg14 main_v29 main_v34

def fn {F : FTy → Type} [FloatOps F] (main_arg0 : FVec F S4096x768 .bf16) (main_arg1 : FVec F S4096x1152 .bf16) (main_arg2 : FVec F S4096x384 .bf16) (main_arg3 : FVec F S4096x384 .bf16) (main_arg4 : FVec F S4096x384 .bf16) (main_arg5 : FVec F S4096x384 .bf16) (main_arg6 : FVec F S4096x384 .bf16) (main_arg7 : FVec F S4096x384 .bf16) (main_arg8 : FVec F S4096x128 .bf16) (main_arg9 : FVec F S4096x1024 .f32) (main_arg10 : FVec F S4096x1024 .f32) (main_arg11 : FVec F S2x1x1024 .f32) (main_arg12 : FVec F S2x1x1024 .f32) (main_arg13 : FVec F S1x1024 .f32) (main_arg14 : FVec F S1024x4352 .bf16) : IVec S_ 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  let main_c_0 : IVec S_ 1 := constantI S_ 1 1#1
  let main_v5 : IVec S_ 1 := andi main_c_0 main_v4
  let main_v6 : FVec F S4096x1152 .f32 := (extf .f32 · bitsLt_bf16_f32) main_arg1
  let main_v7 : FVec F S4096x1152 .f32 := Host.absf main_v6
  let main_cst_1 : FVec F S_ .f32 := constant S_ .f32 0x7F800000#32
  let main_v8 : FVec F S4096x1152 .f32 := broadcastInDim S4096x1152 ![] bcast_S_S4096x1152 main_cst_1
  let main_v9 : IVec S4096x1152 1 := cmpf .olt main_v7 main_v8
  let main_c_2 : IVec S_ 1 := constantI S_ 1 1#1
  let main_v10 : IVec S_ 1 := (fun x v => Host.reduce IntOp.andi x v reducesTo_S4096x1152_S_d0_1 h_S_) main_v9 main_c_2
  let main_v11 : IVec S_ 1 := andi main_v5 main_v10
  let main_v12 : FVec F S4096x384 .f32 := (extf .f32 · bitsLt_bf16_f32) main_arg2
  let main_v13 : FVec F S4096x384 .f32 := Host.absf main_v12
  let main_cst_3 : FVec F S_ .f32 := constant S_ .f32 0x7F800000#32
  let main_v14 : FVec F S4096x384 .f32 := broadcastInDim S4096x384 ![] bcast_S_S4096x384 main_cst_3
  let main_v15 : IVec S4096x384 1 := cmpf .olt main_v13 main_v14
  let main_c_4 : IVec S_ 1 := constantI S_ 1 1#1
  let main_v16 : IVec S_ 1 := (fun x v => Host.reduce IntOp.andi x v reducesTo_S4096x384_S_d0_1 h_S_) main_v15 main_c_4
  fn_part1 (F := F) main_arg3 main_arg4 main_arg5 main_arg6 main_arg7 main_arg8 main_arg10 main_arg12 main_arg13 main_arg14 main_v11 main_v16
-- ==== Pre_finite6.lean ====
abbrev S4096x1024 : Shape := ⟨2, ![4096, 1024]⟩
abbrev S2x1x1024 : Shape := ⟨3, ![2, 1, 1024]⟩
abbrev S4096x384 : Shape := ⟨2, ![4096, 384]⟩
abbrev S4096x1152 : Shape := ⟨2, ![4096, 1152]⟩
abbrev S1152x1024 : Shape := ⟨2, ![1152, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S4096x384 : S_.BroadcastsInDim S4096x384 (![] : Fin 0 → Fin S4096x384.rank)
  reducesTo_S4096x384_S_d0_1 : S4096x384.ReducesTo [0, 1] S_
  bitsLt_bf16_f32 : FTy.bits .bf16 < FTy.bits .f32
  bcast_S_S1152x1024 : S_.BroadcastsInDim S1152x1024 (![] : Fin 0 → Fin S1152x1024.rank)
  reducesTo_S1152x1024_S_d0_1 : S1152x1024.ReducesTo [0, 1] S_

variable [Facts]

def fn_part1 {F : FTy → Type} [FloatOps F] (main_arg4 : FVec F S4096x384 .f32) (main_arg6 : FVec F S1152x1024 .bf16) (main_v13 : IVec S_ 1) (main_v16 : IVec S4096x384 1) : IVec S_ 1 :=
  let main_c_5 : IVec S_ 1 := constantI S_ 1 1#1
  let main_v17 : IVec S_ 1 := (fun x v => Host.reduce IntOp.andi x v reducesTo_S4096x384_S_d0_1 h_S_) main_v16 main_c_5
  let main_v18 : IVec S_ 1 := andi main_v13 main_v17
  let main_v19 : FVec F S4096x384 .f32 := Host.absf main_arg4
  let main_cst_6 : FVec F S_ .f32 := constant S_ .f32 0x7F800000#32
  let main_v20 : FVec F S4096x384 .f32 := broadcastInDim S4096x384 ![] bcast_S_S4096x384 main_cst_6
  let main_v21 : IVec S4096x384 1 := cmpf .olt main_v19 main_v20
  let main_c_7 : IVec S_ 1 := constantI S_ 1 1#1
  let main_v22 : IVec S_ 1 := (fun x v => Host.reduce IntOp.andi x v reducesTo_S4096x384_S_d0_1 h_S_) main_v21 main_c_7
  let main_v23 : IVec S_ 1 := andi main_v18 main_v22
  let main_v24 : FVec F S1152x1024 .f32 := (extf .f32 · bitsLt_bf16_f32) main_arg6
  let main_v25 : FVec F S1152x1024 .f32 := Host.absf main_v24
  let main_cst_8 : FVec F S_ .f32 := constant S_ .f32 0x7F800000#32
  let main_v26 : FVec F S1152x1024 .f32 := broadcastInDim S1152x1024 ![] bcast_S_S1152x1024 main_cst_8
  let main_v27 : IVec S1152x1024 1 := cmpf .olt main_v25 main_v26
  let main_c_9 : IVec S_ 1 := constantI S_ 1 1#1
  let main_v28 : IVec S_ 1 := (fun x v => Host.reduce IntOp.andi x v reducesTo_S1152x1024_S_d0_1 h_S_) main_v27 main_c_9
  let main_v29 : IVec S_ 1 := andi main_v23 main_v28
  main_v29

def fn {F : FTy → Type} [FloatOps F] (main_arg0 : FVec F S4096x1024 .f32) (main_arg1 : FVec F S2x1x1024 .f32) (main_arg2 : FVec F S4096x384 .f32) (main_arg3 : FVec F S4096x384 .f32) (main_arg4 : FVec F S4096x384 .f32) (main_arg5 : FVec F S4096x1152 .f32) (main_arg6 : FVec F S1152x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x1x1024 .f32 := Host.absf main_arg1
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : IVec S_ 1 := andi main_v3 main_v7
  let main_v9 : FVec F S4096x384 .f32 := Host.absf main_arg2
  let main_cst_2 : FVec F S_ .f32 := constant S_ .f32 0x7F800000#32
  let main_v10 : FVec F S4096x384 .f32 := broadcastInDim S4096x384 ![] bcast_S_S4096x384 main_cst_2
  let main_v11 : IVec S4096x384 1 := cmpf .olt main_v9 main_v10
  let main_c_3 : IVec S_ 1 := constantI S_ 1 1#1
  let main_v12 : IVec S_ 1 := (fun x v => Host.reduce IntOp.andi x v reducesTo_S4096x384_S_d0_1 h_S_) main_v11 main_c_3
  let main_v13 : IVec S_ 1 := andi main_v8 main_v12
  let main_v14 : FVec F S4096x384 .f32 := Host.absf main_arg3
  let main_cst_4 : FVec F S_ .f32 := constant S_ .f32 0x7F800000#32
  let main_v15 : FVec F S4096x384 .f32 := broadcastInDim S4096x384 ![] bcast_S_S4096x384 main_cst_4
  let main_v16 : IVec S4096x384 1 := cmpf .olt main_v14 main_v15
  fn_part1 (F := F) main_arg4 main_arg6 main_v13 main_v16
-- ==== Kernel.lean ====
abbrev S4096x384 : Shape := ⟨2, ![4096, 384]⟩
abbrev S2x6x2048 : Shape := ⟨3, ![2, 6, 2048]⟩
abbrev S2x2048x6x64 : Shape := ⟨4, ![2, 2048, 6, 64]⟩
abbrev S2x6x2048x64 : Shape := ⟨4, ![2, 6, 2048, 64]⟩
abbrev S2x6x2048x2048 : Shape := ⟨4, ![2, 6, 2048, 2048]⟩
abbrev S_ : Shape := ⟨0, ![]⟩
abbrev S2x6x1x2048 : Shape := ⟨4, ![2, 6, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x6x2048x1 : Shape := ⟨4, ![2, 6, 2048, 1]⟩
abbrev S2048x128 : Shape := ⟨2, ![2048, 128]⟩
abbrev S1x2x1x2048 : Shape := ⟨4, ![1, 2, 1, 2048]⟩
abbrev S128x2048 : Shape := ⟨2, ![128, 2048]⟩
abbrev S256x128 : Shape := ⟨2, ![256, 128]⟩
abbrev S256x256 : Shape := ⟨2, ![256, 256]⟩
abbrev S1x1x1x256 : Shape := ⟨4, ![1, 1, 1, 256]⟩
abbrev S1x256 : Shape := ⟨2, ![1, 256]⟩
abbrev S128x256 : Shape := ⟨2, ![128, 256]⟩
abbrev S256 : Shape := ⟨1, ![256]⟩
abbrev S256x1 : Shape := ⟨2, ![256, 1]⟩
abbrev S64x256 : Shape := ⟨2, ![64, 256]⟩
abbrev S512x128 : Shape := ⟨2, ![512, 128]⟩
abbrev S256x512 : Shape := ⟨2, ![256, 512]⟩
abbrev S1x1x1x512 : Shape := ⟨4, ![1, 1, 1, 512]⟩
abbrev S1x512 : Shape := ⟨2, ![1, 512]⟩
abbrev S768x128 : Shape := ⟨2, ![768, 128]⟩
abbrev S256x768 : Shape := ⟨2, ![256, 768]⟩
abbrev S1x1x1x768 : Shape := ⟨4, ![1, 1, 1, 768]⟩
abbrev S1x768 : Shape := ⟨2, ![1, 768]⟩
abbrev S512 : Shape := ⟨1, ![512]⟩
abbrev S64x512 : Shape := ⟨2, ![64, 512]⟩
abbrev S1024x128 : Shape := ⟨2, ![1024, 128]⟩
abbrev S256x1024 : Shape := ⟨2, ![256, 1024]⟩
abbrev S1x1x1x1024 : Shape := ⟨4, ![1, 1, 1, 1024]⟩
abbrev S1x1024 : Shape := ⟨2, ![1, 1024]⟩
abbrev S768 : Shape := ⟨1, ![768]⟩
abbrev S64x768 : Shape := ⟨2, ![64, 768]⟩
abbrev S1280x128 : Shape := ⟨2, ![1280, 128]⟩
abbrev S256x1280 : Shape := ⟨2, ![256, 1280]⟩
abbrev S1x1x1x1280 : Shape := ⟨4, ![1, 1, 1, 1280]⟩
abbrev S1x1280 : Shape := ⟨2, ![1, 1280]⟩
abbrev S1024 : Shape := ⟨1, ![1024]⟩
abbrev S64x1024 : Shape := ⟨2, ![64, 1024]⟩
abbrev S1536x128 : Shape := ⟨2, ![1536, 128]⟩
abbrev S256x1536 : Shape := ⟨2, ![256, 1536]⟩
abbrev S1x1x1x1536 : Shape := ⟨4, ![1, 1, 1, 1536]⟩
abbrev S1x1536 : Shape := ⟨2, ![1, 1536]⟩
abbrev S1280 : Shape := ⟨1, ![1280]⟩
abbrev S64x1280 : Shape := ⟨2, ![64, 1280]⟩
abbrev S1792x128 : Shape := ⟨2, ![1792, 128]⟩
abbrev S256x1792 : Shape := ⟨2, ![256, 1792]⟩
abbrev S1x1x1x1792 : Shape := ⟨4, ![1, 1, 1, 1792]⟩
abbrev S1x1792 : Shape := ⟨2, ![1, 1792]⟩
abbrev S1536 : Shape := ⟨1, ![1536]⟩
abbrev S64x1536 : Shape := ⟨2, ![64, 1536]⟩
abbrev S1792 : Shape := ⟨1, ![1792]⟩
abbrev S64x1792 : Shape := ⟨2, ![64, 1792]⟩

abbrev nBuf : Space → Nat
  | .hbm => 66
  | .vmem => 26
  | .smem => 0
  | _ => 0

abbrev bufTy : (tb : Table) → Fin (tcTables nBuf tb) → BufTy
  | .hbm, ⟨0, _⟩ => ⟨S4096x384, .bf16⟩
  | .hbm, ⟨1, _⟩ => ⟨S4096x384, .bf16⟩
  | .hbm, ⟨2, _⟩ => ⟨S4096x384, .bf16⟩
  | .hbm, ⟨3, _⟩ => ⟨S2x6x2048, .f32⟩
  | .hbm, ⟨4, _⟩ => ⟨S4096x384, .f32⟩
  | .hbm, ⟨5, _⟩ => ⟨S4096x384, .f32⟩
  | .hbm, ⟨6, _⟩ => ⟨S2x2048x6x64, .f32⟩
  | .hbm, ⟨7, _⟩ => ⟨S2x6x2048x64, .f32⟩
  | .hbm, ⟨8, _⟩ => ⟨S4096x384, .f32⟩
  | .hbm, ⟨9, _⟩ => ⟨S2x2048x6x64, .f32⟩
  | .hbm, ⟨10, _⟩ => ⟨S2x6x2048x64, .f32⟩
  | .hbm, ⟨11, _⟩ => ⟨S2x6x2048x2048, .f32⟩
  | .hbm, ⟨12, _⟩ => ⟨S_, .f32⟩
  | .hbm, ⟨13, _⟩ => ⟨S2x6x2048x2048, .f32⟩
  | .hbm, ⟨14, _⟩ => ⟨S2x6x2048x2048, .f32⟩
  | .hbm, ⟨15, _⟩ => ⟨S2x6x1x2048, .f32⟩
  | .hbm, ⟨16, _⟩ => ⟨S2x6x2048x2048, .f32⟩
  | .hbm, ⟨17, _⟩ => ⟨S2x6x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2x6x2048x2048, .i1⟩
  | .hbm, ⟨28, _⟩ => ⟨S2x6x2048x2048, .f32⟩
  | .hbm, ⟨29, _⟩ => ⟨S2x6x2048x2048, .f32⟩
  | .hbm, ⟨30, _⟩ => ⟨S_, .f32⟩
  | .hbm, ⟨31, _⟩ => ⟨S2x6x2048, .f32⟩
  | .hbm, ⟨32, _⟩ => ⟨S2x6x2048x1, .f32⟩
  | .hbm, ⟨33, _⟩ => ⟨S2x6x2048x2048, .f32⟩
  | .hbm, ⟨34, _⟩ => ⟨S2x6x2048x2048, .f32⟩
  | .hbm, ⟨35, _⟩ => ⟨S2x6x2048x2048, .f32⟩
  | .hbm, ⟨36, _⟩ => ⟨S_, .f32⟩
  | .hbm, ⟨37, _⟩ => ⟨S2x6x2048, .f32⟩
  | .hbm, ⟨38, _⟩ => ⟨S2x6x2048x1, .f32⟩
  | .hbm, ⟨39, _⟩ => ⟨S2x6x2048x2048, .f32⟩
  | .hbm, ⟨40, _⟩ => ⟨S2x6x2048x2048, .f32⟩
  | .hbm, ⟨41, _⟩ => ⟨S4096x384, .f32⟩
  | .hbm, ⟨42, _⟩ => ⟨S2x2048x6x64, .f32⟩
  | .hbm, ⟨43, _⟩ => ⟨S2x6x2048x64, .f32⟩
  | .hbm, ⟨44, _⟩ => ⟨S2x6x2048x64, .f32⟩
  | .hbm, ⟨45, _⟩ => ⟨S2x2048x6x64, .f32⟩
  | .hbm, ⟨46, _⟩ => ⟨S4096x384, .f32⟩
  | .hbm, ⟨47, _⟩ => ⟨S2x6x2048x1, .f32⟩
  | .hbm, ⟨48, _⟩ => ⟨S2x6x2048x1, .f32⟩
  | .hbm, ⟨49, _⟩ => ⟨S_, .f32⟩
  | .hbm, ⟨50, _⟩ => ⟨S_, .f32⟩
  | .hbm, ⟨51, _⟩ => ⟨S2x6x2048x1, .f32⟩
  | .hbm, ⟨52, _⟩ => ⟨S2x6x2048x1, .f32⟩
  | .hbm, ⟨53, _⟩ => ⟨S2x6x2048x64, .f32⟩
  | .hbm, ⟨54, _⟩ => ⟨S2x2048x6x64, .f32⟩
  | .hbm, ⟨55, _⟩ => ⟨S4096x384, .f32⟩
  | .hbm, ⟨56, _⟩ => ⟨S_, .f32⟩
  | .hbm, ⟨57, _⟩ => ⟨S_, .f32⟩
  | .hbm, ⟨58, _⟩ => ⟨S2x6x2048, .f32⟩
  | .hbm, ⟨59, _⟩ => ⟨S2x6x2048, .f32⟩
  | .hbm, ⟨60, _⟩ => ⟨S2x6x1x2048, .f32⟩
  | .hbm, ⟨61, _⟩ => ⟨S4096x384, .bf16⟩
  | .hbm, ⟨62, _⟩ => ⟨S4096x384, .bf16⟩
  | .hbm, ⟨63, _⟩ => ⟨S4096x384, .bf16⟩
  | .hbm, ⟨64, _⟩ => ⟨S2x6x1x2048, .f32⟩
  | .hbm, ⟨65, _⟩ => ⟨S4096x384, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x2x1x2048, .f32⟩
  | .local _ .vmem, ⟨13, _⟩ => ⟨S1x2x1x2048, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2x1x2048, .f32⟩
  | .local _ .vmem, ⟨21, _⟩ => ⟨S1x2x1x2048, .f32⟩
  | .local _ .vmem, ⟨22, _⟩ => ⟨S2048x128, .f32⟩
  | .local _ .vmem, ⟨23, _⟩ => ⟨S2048x128, .f32⟩
  | .local _ .vmem, ⟨24, _⟩ => ⟨S128x2048, .f32⟩
  | .local _ .vmem, ⟨25, _⟩ => ⟨S128x2048, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_v47_3 : Ref sig .tc := ⟨.hbm, 64, rfl⟩
abbrev main_v47_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | "qk_scale" => some (((1 / 8) * (Real.log 2)⁻¹ : ℝ) : EReal)
  | _ => none
-- ==== ReferenceIdeal.lean ====
abbrev S4096x384 : Shape := ⟨2, ![4096, 384]⟩
abbrev S2x6x2048 : Shape := ⟨3, ![2, 6, 2048]⟩
abbrev S2x2048x6x64 : Shape := ⟨4, ![2, 2048, 6, 64]⟩
abbrev S2x6x2048x64 : Shape := ⟨4, ![2, 6, 2048, 64]⟩
abbrev S2x6x2048x2048 : Shape := ⟨4, ![2, 6, 2048, 2048]⟩
abbrev S_ : Shape := ⟨0, ![]⟩
abbrev S2x6x2048x1 : Shape := ⟨4, ![2, 6, 2048, 1]⟩
abbrev S2x6x1x2048 : Shape := ⟨4, ![2, 6, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x6x64x2048 : Shape := ⟨4, ![2, 6, 64, 2048]⟩
abbrev S2x2048x6 : Shape := ⟨3, ![2, 2048, 6]⟩
abbrev S2x2048x6x1 : Shape := ⟨4, ![2, 2048, 6, 1]⟩

abbrev nBuf : Space → Nat
  | .hbm => 131
  | .vmem => 0
  | .smem => 0
  | _ => 0

abbrev hbmTy0_0 (i : Nat) : BufTy := match i % 128 with
  | 0 => ⟨S4096x384, .bf16⟩
  | 1 => ⟨S4096x384, .bf16⟩
  | 2 => ⟨S4096x384, .bf16⟩
  | 3 => ⟨S2x6x2048, .f32⟩
  | 4 => ⟨S4096x384, .f32⟩
  | 5 => ⟨S4096x384, .f32⟩
  | 6 => ⟨S2x2048x6x64, .f32⟩
  | 7 => ⟨S2x6x2048x64, .f32⟩
  | 8 => ⟨S4096x384, .f32⟩
  | 9 => ⟨S2x2048x6x64, .f32⟩
  | 10 => ⟨S2x6x2048x64, .f32⟩
  | 11 => ⟨S2x6x2048x2048, .f32⟩
  | 12 => ⟨S_, .f32⟩
  | 13 => ⟨S2x6x2048x2048, .f32⟩
  | 14 => ⟨S2x6x2048x2048, .f32⟩
  | 15 => ⟨S2x6x2048x1, .f32⟩
  | 16 => ⟨S2x6x2048x2048, .f32⟩
  | 17 => ⟨S2x6x2048x2048, .f32⟩
  | 18 => ⟨S2x6x1x2048, .f32⟩
  | 19 => ⟨S2x6x2048x2048, .f32⟩
  | 20 => ⟨S2x6x2048x2048, .f32⟩
  | 21 => ⟨S2048, .i32⟩
  | 22 => ⟨S1x2048, .i32⟩
  | 23 => ⟨S2048, .i32⟩
  | 24 => ⟨S2048x1, .i32⟩
  | 25 => ⟨S2048x2048, .i32⟩
  | 26 => ⟨S2048x2048, .i32⟩
  | 27 => ⟨S2048x2048, .i1⟩
  | 28 => ⟨S_, .f32⟩
  | 29 => ⟨S_, .f32⟩
  | 30 => ⟨S2x6x2048x2048, .i1⟩
  | 31 => ⟨S2x6x2048x2048, .f32⟩
  | 32 => ⟨S2x6x2048x2048, .f32⟩
  | 33 => ⟨S_, .f32⟩
  | 34 => ⟨S2x6x2048x2048, .f32⟩
  | 35 => ⟨S_, .f32⟩
  | 36 => ⟨S2x6x2048, .f32⟩
  | 37 => ⟨S2x6x2048x1, .f32⟩
  | 38 => ⟨S2x6x2048x2048, .f32⟩
  | 39 => ⟨S2x6x2048x2048, .i1⟩
  | 40 => ⟨S2x6x2048x2048, .f32⟩
  | 41 => ⟨S_, .f32⟩
  | 42 => ⟨S2x6x2048, .f32⟩
  | 43 => ⟨S_, .f32⟩
  | 44 => ⟨S2x6x2048, .f32⟩
  | 45 => ⟨S2x6x2048, .f32⟩
  | 46 => ⟨S_, .f32⟩
  | 47 => ⟨S2x6x2048, .f32⟩
  | 48 => ⟨S2x6x2048, .i1⟩
  | 49 => ⟨S_, .f32⟩
  | 50 => ⟨S2x6x2048, .f32⟩
  | 51 => ⟨S2x6x2048, .i1⟩
  | 52 => ⟨S_, .f32⟩
  | 53 => ⟨S2x6x2048, .f32⟩
  | 54 => ⟨S_, .f32⟩
  | 55 => ⟨S2x6x2048, .f32⟩
  | 56 => ⟨S_, .f32⟩
  | 57 => ⟨S2x6x2048, .f32⟩
  | 58 => ⟨S2x6x2048, .f32⟩
  | 59 => ⟨S2x6x2048, .f32⟩
  | 60 => ⟨S2x6x2048x1, .f32⟩
  | 61 => ⟨S2x6x2048x2048, .f32⟩
  | 62 => ⟨S2x6x2048x2048, .f32⟩
  | 63 => ⟨S2x6x2048x2048, .f32⟩
  | 64 => ⟨S_, .f32⟩
  | 65 => ⟨S2x6x2048, .f32⟩
  | 66 => ⟨S2x6x2048x1, .f32⟩
  | 67 => ⟨S2x6x2048x2048, .f32⟩
  | 68 => ⟨S2x6x2048x2048, .f32⟩
  | 69 => ⟨S2x6x2048x1, .f32⟩
  | 70 => ⟨S_, .f32⟩
  | 71 => ⟨S2x6x2048x1, .f32⟩
  | 72 => ⟨S2x6x2048x1, .f32⟩
  | 73 => ⟨S4096x384, .f32⟩
  | 74 => ⟨S2x2048x6x64, .f32⟩
  | 75 => ⟨S2x6x2048x64, .f32⟩
  | 76 => ⟨S2x6x2048x64, .f32⟩
  | 77 => ⟨S2x2048x6x64, .f32⟩
  | 78 => ⟨S4096x384, .f32⟩
  | 79 => ⟨S2x2048x6x64, .f32⟩
  | 80 => ⟨S2x6x2048x64, .f32⟩
  | 81 => ⟨S2x6x64x2048, .f32⟩
  | 82 => ⟨S2x6x2048x64, .f32⟩
  | 83 => ⟨S2x6x2048x2048, .f32⟩
  | 84 => ⟨S2x2048x6x64, .f32⟩
  | 85 => ⟨S4096x384, .f32⟩
  | 86 => ⟨S4096x384, .bf16⟩
  | 87 => ⟨S2x6x2048x2048, .f32⟩
  | 88 => ⟨S2x6x2048x2048, .f32⟩
  | 89 => ⟨S2x6x2048x2048, .f32⟩
  | 90 => ⟨S_, .f32⟩
  | 91 => ⟨S2x6x2048, .f32⟩
  | 92 => ⟨S2x6x2048x1, .f32⟩
  | 93 => ⟨S2x6x2048x1, .f32⟩
  | 94 => ⟨S2x6x2048x2048, .f32⟩
  | 95 => ⟨S2x6x2048x2048, .f32⟩
  | 96 => ⟨S_, .f32⟩
  | 97 => ⟨S2x6x2048, .f32⟩
  | 98 => ⟨S2x6x2048x2048, .f32⟩
  | 99 => ⟨S2x6x2048x2048, .f32⟩
  | 100 => ⟨S2x6x2048x2048, .f32⟩
  | 101 => ⟨S_, .f32⟩
  | 102 => ⟨S2x6x2048x2048, .f32⟩
  | 103 => ⟨S2x6x2048x2048, .f32⟩
  | 104 => ⟨S2x6x2048x2048, .f32⟩
  | 105 => ⟨S_, .f32⟩
  | 106 => ⟨S2x6x2048, .f32⟩
  | 107 => ⟨S2x6x1x2048, .f32⟩
  | 108 => ⟨S_, .f32⟩
  | 109 => ⟨S2x6x2048, .f32⟩
  | 110 => ⟨S_, .f32⟩
  | 111 => ⟨S2x6x2048, .f32⟩
  | 112 => ⟨S2x6x2048x1, .f32⟩
  | 113 => ⟨S_, .f32⟩
  | 114 => ⟨S2x6x2048, .f32⟩
  | 115 => ⟨S_, .f32⟩
  | 116 => ⟨S2x6x2048x2048, .f32⟩
  | 117 => ⟨S2x6x2048x2048, .f32⟩
  | 118 => ⟨S2x6x2048x64, .f32⟩
  | 119 => ⟨S2x6x2048x64, .f32⟩
  | 120 => ⟨S2x2048x6x64, .f32⟩
  | 121 => ⟨S4096x384, .f32⟩
  | 122 => ⟨S4096x384, .bf16⟩
  | 123 => ⟨S2x2048x6x64, .f32⟩
  | 124 => ⟨S4096x384, .f32⟩
  | 125 => ⟨S4096x384, .bf16⟩
  | 126 => ⟨S2x2048x6, .f32⟩
  | 127 => ⟨S2x2048x6x1, .f32⟩
  | _ => ⟨S4096x384, .bf16⟩

abbrev hbmTy0_1 (i : Nat) : BufTy := match i % 128 with
  | 0 => ⟨S2x2048x6x64, .f32⟩
  | 1 => ⟨S4096x384, .f32⟩
  | 2 => ⟨S2x6x1x2048, .f32⟩
  | _ => ⟨S4096x384, .bf16⟩

abbrev hbmTy (i : Nat) : BufTy := match i / 128 with
  | 0 => hbmTy0_0 i
  | 1 => hbmTy0_1 i
  | _ => ⟨S4096x384, .bf16⟩

abbrev bufTy : (tb : Table) → Fin (tcTables nBuf tb) → BufTy
  | .hbm, ⟨i, _⟩ => hbmTy i
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]
-- ==== Kernel2.lean ====
abbrev S4096x768 : Shape := ⟨2, ![4096, 768]⟩
abbrev S4096x1152 : Shape := ⟨2, ![4096, 1152]⟩
abbrev S4096x384 : Shape := ⟨2, ![4096, 384]⟩
abbrev S4096x128 : Shape := ⟨2, ![4096, 128]⟩
abbrev S4096x1024 : Shape := ⟨2, ![4096, 1024]⟩
abbrev S2x1x1024 : Shape := ⟨3, ![2, 1, 1024]⟩
abbrev S1x1024 : Shape := ⟨2, ![1, 1024]⟩
abbrev S1024x4352 : Shape := ⟨2, ![1024, 4352]⟩
abbrev S8x1024 : Shape := ⟨2, ![8, 1024]⟩
abbrev S512x768 : Shape := ⟨2, ![512, 768]⟩
abbrev S512x1152 : Shape := ⟨2, ![512, 1152]⟩
abbrev S512x384 : Shape := ⟨2, ![512, 384]⟩
abbrev S512x128 : Shape := ⟨2, ![512, 128]⟩
abbrev S512x1024 : Shape := ⟨2, ![512, 1024]⟩
abbrev S1x1x1024 : Shape := ⟨3, ![1, 1, 1024]⟩
abbrev S1024x768 : Shape := ⟨2, ![1024, 768]⟩
abbrev S1024x1152 : Shape := ⟨2, ![1024, 1152]⟩
abbrev S1024x384 : Shape := ⟨2, ![1024, 384]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 19
  | .vmem => 35
  | .smem => 0
  | _ => 0

abbrev bufTy : (tb : Table) → Fin (tcTables nBuf tb) → BufTy
  | .hbm, ⟨0, _⟩ => ⟨S4096x768, .bf16⟩
  | .hbm, ⟨1, _⟩ => ⟨S4096x1152, .bf16⟩
  | .hbm, ⟨2, _⟩ => ⟨S4096x384, .bf16⟩
  | .hbm, ⟨3, _⟩ => ⟨S4096x384, .bf16⟩
  | .hbm, ⟨4, _⟩ => ⟨S4096x384, .bf16⟩
  | .hbm, ⟨5, _⟩ => ⟨S4096x384, .bf16⟩
  | .hbm, ⟨6, _⟩ => ⟨S4096x384, .bf16⟩
  | .hbm, ⟨7, _⟩ => ⟨S4096x384, .bf16⟩
  | .hbm, ⟨8, _⟩ => ⟨S4096x128, .bf16⟩
  | .hbm, ⟨9, _⟩ => ⟨S4096x1024, .f32⟩
  | .hbm, ⟨10, _⟩ => ⟨S4096x1024, .f32⟩
  | .hbm, ⟨11, _⟩ => ⟨S2x1x1024, .f32⟩
  | .hbm, ⟨12, _⟩ => ⟨S2x1x1024, .f32⟩
  | .hbm, ⟨13, _⟩ => ⟨S1x1024, .f32⟩
  | .hbm, ⟨14, _⟩ => ⟨S1024x4352, .bf16⟩
  | .hbm, ⟨15, _⟩ => ⟨S4096x1024, .f32⟩
  | .hbm, ⟨16, _⟩ => ⟨S2x1x1024, .f32⟩
  | .hbm, ⟨17, _⟩ => ⟨S2x1x1024, .f32⟩
  | .hbm, ⟨18, _⟩ => ⟨S8x1024, .f32⟩
  | .local _ .vmem, ⟨0, _⟩ => ⟨S512x768, .bf16⟩
  | .local _ .vmem, ⟨1, _⟩ => ⟨S512x768, .bf16⟩
  | .local _ .vmem, ⟨2, _⟩ => ⟨S512x1152, .bf16⟩
  | .local _ .vmem, ⟨3, _⟩ => ⟨S512x1152, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1024x4352, .bf16⟩
  | .local _ .vmem, ⟨28, _⟩ => ⟨S512x1024, .f32⟩
  | .local _ .vmem, ⟨29, _⟩ => ⟨S512x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S8x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x4352 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S4096x768 : Shape := ⟨2, ![4096, 768]⟩
abbrev S4096x1152 : Shape := ⟨2, ![4096, 1152]⟩
abbrev S4096x384 : Shape := ⟨2, ![4096, 384]⟩
abbrev S4096x128 : Shape := ⟨2, ![4096, 128]⟩
abbrev S4096x1024 : Shape := ⟨2, ![4096, 1024]⟩
abbrev S2x1x1024 : Shape := ⟨3, ![2, 1, 1024]⟩
abbrev S1x1024 : Shape := ⟨2, ![1, 1024]⟩
abbrev S1024x4352 : Shape := ⟨2, ![1024, 4352]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4352 : Shape := ⟨3, ![2, 2048, 4352]⟩
abbrev S4096x4352 : Shape := ⟨2, ![4096, 4352]⟩
abbrev S2x1024 : Shape := ⟨2, ![2, 1024]⟩
abbrev S1024 : Shape := ⟨1, ![1024]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1152, .bf16⟩
  | .hbm, ⟨2, _⟩ => ⟨S4096x384, .bf16⟩
  | .hbm, ⟨3, _⟩ => ⟨S4096x384, .bf16⟩
  | .hbm, ⟨4, _⟩ => ⟨S4096x384, .bf16⟩
  | .hbm, ⟨5, _⟩ => ⟨S4096x384, .bf16⟩
  | .hbm, ⟨6, _⟩ => ⟨S4096x384, .bf16⟩
  | .hbm, ⟨7, _⟩ => ⟨S4096x384, .bf16⟩
  | .hbm, ⟨8, _⟩ => ⟨S4096x128, .bf16⟩
  | .hbm, ⟨9, _⟩ => ⟨S4096x1024, .f32⟩
  | .hbm, ⟨10, _⟩ => ⟨S4096x1024, .f32⟩
  | .hbm, ⟨11, _⟩ => ⟨S2x1x1024, .f32⟩
  | .hbm, ⟨12, _⟩ => ⟨S2x1x1024, .f32⟩
  | .hbm, ⟨13, _⟩ => ⟨S1x1024, .f32⟩
  | .hbm, ⟨14, _⟩ => ⟨S1024x4352, .bf16⟩
  | .hbm, ⟨15, _⟩ => ⟨S4096x768, .f32⟩
  | .hbm, ⟨16, _⟩ => ⟨S4096x1152, .f32⟩
  | .hbm, ⟨17, _⟩ => ⟨S4096x384, .f32⟩
  | .hbm, ⟨18, _⟩ => ⟨S4096x384, .f32⟩
  | .hbm, ⟨19, _⟩ => ⟨S4096x384, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x128, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S1024x4352, .f32⟩
  | .hbm, ⟨53, _⟩ => ⟨S2x2048x4352, .f32⟩
  | .hbm, ⟨54, _⟩ => ⟨S4096x4352, .f32⟩
  | .hbm, ⟨55, _⟩ => ⟨S4096x768, .f32⟩
  | .hbm, ⟨56, _⟩ => ⟨S4096x1152, .f32⟩
  | .hbm, ⟨57, _⟩ => ⟨S4096x384, .f32⟩
  | .hbm, ⟨58, _⟩ => ⟨S4096x384, .f32⟩
  | .hbm, ⟨59, _⟩ => ⟨S4096x384, .f32⟩
  | .hbm, ⟨60, _⟩ => ⟨S4096x384, .f32⟩
  | .hbm, ⟨61, _⟩ => ⟨S4096x384, .f32⟩
  | .hbm, ⟨62, _⟩ => ⟨S4096x384, .f32⟩
  | .hbm, ⟨63, _⟩ => ⟨S4096x128, .f32⟩
  | .hbm, ⟨64, _⟩ => ⟨S4096x4352, .f32⟩
  | .hbm, ⟨65, _⟩ => ⟨S2x2048x4352, .f32⟩
  | .hbm, ⟨66, _⟩ => ⟨S2x2048x1024, .f32⟩
  | .hbm, ⟨67, _⟩ => ⟨S_, .f32⟩
  | .hbm, ⟨68, _⟩ => ⟨S2x1024, .f32⟩
  | .hbm, ⟨69, _⟩ => ⟨S2x1x1024, .f32⟩
  | .hbm, ⟨70, _⟩ => ⟨S2x2048x1024, .f32⟩
  | .hbm, ⟨71, _⟩ => ⟨S_, .f32⟩
  | .hbm, ⟨72, _⟩ => ⟨S2x1024, .f32⟩
  | .hbm, ⟨73, _⟩ => ⟨S2x1x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S2x2048x1024, .f32⟩
  | .hbm, ⟨81, _⟩ => ⟨S2x2048x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S2x2048x1024, .f32⟩
  | .hbm, ⟨86, _⟩ => ⟨S_, .f32⟩
  | .hbm, ⟨87, _⟩ => ⟨S2x2048, .f32⟩
  | .hbm, ⟨88, _⟩ => ⟨S2x2048x1, .f32⟩
  | .hbm, ⟨89, _⟩ => ⟨S2x2048x1024, .f32⟩
  | .hbm, ⟨90, _⟩ => ⟨S2x2048x1024, .f32⟩
  | .hbm, ⟨91, _⟩ => ⟨S2x2048x1, .f32⟩
  | .hbm, ⟨92, _⟩ => ⟨S_, .f32⟩
  | .hbm, ⟨93, _⟩ => ⟨S2x2048x1, .f32⟩
  | .hbm, ⟨94, _⟩ => ⟨S2x2048x1, .f32⟩
  | .hbm, ⟨95, _⟩ => ⟨S_, .f32⟩
  | .hbm, ⟨96, _⟩ => ⟨S2x2048, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S4096x1024, .f32⟩
  | .hbm, ⟨103, _⟩ => ⟨S4096x1024, .f32⟩
  | .hbm, ⟨104, _⟩ => ⟨S8x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel3.lean ====
abbrev S4096x1024 : Shape := ⟨2, ![4096, 1024]⟩
abbrev S4096x384 : Shape := ⟨2, ![4096, 384]⟩
abbrev S4096x128 : Shape := ⟨2, ![4096, 128]⟩
abbrev S2x1024x2432 : Shape := ⟨3, ![2, 1024, 2432]⟩
abbrev S512x1024 : Shape := ⟨2, ![512, 1024]⟩
abbrev S512x384 : Shape := ⟨2, ![512, 384]⟩
abbrev S512x128 : Shape := ⟨2, ![512, 128]⟩
abbrev S1x1024x2432 : Shape := ⟨3, ![1, 1024, 2432]⟩
abbrev S1x1024x384 : Shape := ⟨3, ![1, 1024, 384]⟩
abbrev S1024x384 : Shape := ⟨2, ![1024, 384]⟩
abbrev S1x1024x128 : Shape := ⟨3, ![1, 1024, 128]⟩
abbrev S1024x128 : Shape := ⟨2, ![1024, 128]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x384, .bf16⟩
  | .hbm, ⟨3, _⟩ => ⟨S4096x384, .bf16⟩
  | .hbm, ⟨4, _⟩ => ⟨S4096x384, .bf16⟩
  | .hbm, ⟨5, _⟩ => ⟨S4096x384, .bf16⟩
  | .hbm, ⟨6, _⟩ => ⟨S4096x384, .bf16⟩
  | .hbm, ⟨7, _⟩ => ⟨S4096x128, .bf16⟩
  | .hbm, ⟨8, _⟩ => ⟨S2x1024x2432, .f32⟩
  | .hbm, ⟨9, _⟩ => ⟨S2x1024x2432, .f32⟩
  | .local _ .vmem, ⟨0, _⟩ => ⟨S512x1024, .bf16⟩
  | .local _ .vmem, ⟨1, _⟩ => ⟨S512x1024, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x128, .bf16⟩
  | .local _ .vmem, ⟨15, _⟩ => ⟨S512x128, .bf16⟩
  | .local _ .vmem, ⟨16, _⟩ => ⟨S1x1024x2432, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x2432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x1024 : Shape := ⟨2, ![4096, 1024]⟩
abbrev S4096x384 : Shape := ⟨2, ![4096, 384]⟩
abbrev S4096x128 : Shape := ⟨2, ![4096, 128]⟩
abbrev S2x1024x2432 : Shape := ⟨3, ![2, 1024, 2432]⟩
abbrev S1x1024x2432 : Shape := ⟨3, ![1, 1024, 2432]⟩
abbrev S1024x2432 : Shape := ⟨2, ![1024, 2432]⟩
abbrev S4096x2432 : Shape := ⟨2, ![4096, 2432]⟩
abbrev S2432x1024 : Shape := ⟨2, ![2432, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x384, .bf16⟩
  | .hbm, ⟨3, _⟩ => ⟨S4096x384, .bf16⟩
  | .hbm, ⟨4, _⟩ => ⟨S4096x384, .bf16⟩
  | .hbm, ⟨5, _⟩ => ⟨S4096x384, .bf16⟩
  | .hbm, ⟨6, _⟩ => ⟨S4096x384, .bf16⟩
  | .hbm, ⟨7, _⟩ => ⟨S4096x128, .bf16⟩
  | .hbm, ⟨8, _⟩ => ⟨S2x1024x2432, .f32⟩
  | .hbm, ⟨9, _⟩ => ⟨S1x1024x2432, .f32⟩
  | .hbm, ⟨10, _⟩ => ⟨S1024x2432, .f32⟩
  | .hbm, ⟨11, _⟩ => ⟨S4096x1024, .f32⟩
  | .hbm, ⟨12, _⟩ => ⟨S4096x2432, .f32⟩
  | .hbm, ⟨13, _⟩ => ⟨S4096x384, .f32⟩
  | .hbm, ⟨14, _⟩ => ⟨S4096x384, .f32⟩
  | .hbm, ⟨15, _⟩ => ⟨S4096x384, .f32⟩
  | .hbm, ⟨16, _⟩ => ⟨S4096x384, .f32⟩
  | .hbm, ⟨17, _⟩ => ⟨S4096x384, .f32⟩
  | .hbm, ⟨18, _⟩ => ⟨S4096x384, .f32⟩
  | .hbm, ⟨19, _⟩ => ⟨S4096x128, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S4096x128, .f32⟩
  | .hbm, ⟨27, _⟩ => ⟨S4096x2432, .f32⟩
  | .hbm, ⟨28, _⟩ => ⟨S2432x1024, .f32⟩
  | .hbm, ⟨29, _⟩ => ⟨S1024x2432, .f32⟩
  | .hbm, ⟨30, _⟩ => ⟨S1x1024x2432, .f32⟩
  | .hbm, ⟨31, _⟩ => ⟨S1024x2432, .f32⟩
  | .hbm, ⟨32, _⟩ => ⟨S1x1024x2432, .f32⟩
  | .hbm, ⟨33, _⟩ => ⟨S1x1024x2432, .f32⟩
  | .hbm, ⟨34, _⟩ => ⟨S2x1024x2432, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S4096x1024 : Shape := ⟨2, ![4096, 1024]⟩
abbrev S4096x768 : Shape := ⟨2, ![4096, 768]⟩
abbrev S4096x1152 : Shape := ⟨2, ![4096, 1152]⟩
abbrev S2x1024x1920 : Shape := ⟨3, ![2, 1024, 1920]⟩
abbrev S512x1024 : Shape := ⟨2, ![512, 1024]⟩
abbrev S512x768 : Shape := ⟨2, ![512, 768]⟩
abbrev S512x1152 : Shape := ⟨2, ![512, 1152]⟩
abbrev S1x1024x1920 : Shape := ⟨3, ![1, 1024, 1920]⟩
abbrev S1x1024x768 : Shape := ⟨3, ![1, 1024, 768]⟩
abbrev S1024x768 : Shape := ⟨2, ![1024, 768]⟩
abbrev S1x1024x1152 : Shape := ⟨3, ![1, 1024, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x1152, .bf16⟩
  | .hbm, ⟨3, _⟩ => ⟨S2x1024x1920, .f32⟩
  | .hbm, ⟨4, _⟩ => ⟨S2x1024x1920, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x1152, .bf16⟩
  | .local _ .vmem, ⟨5, _⟩ => ⟨S512x1152, .bf16⟩
  | .local _ .vmem, ⟨6, _⟩ => ⟨S1x1024x1920, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S4096x1024 : Shape := ⟨2, ![4096, 1024]⟩
abbrev S4096x768 : Shape := ⟨2, ![4096, 768]⟩
abbrev S4096x1152 : Shape := ⟨2, ![4096, 1152]⟩
abbrev S2x1024x1920 : Shape := ⟨3, ![2, 1024, 1920]⟩
abbrev S1x1024x1920 : Shape := ⟨3, ![1, 1024, 1920]⟩
abbrev S1024x1920 : Shape := ⟨2, ![1024, 1920]⟩
abbrev S4096x1920 : Shape := ⟨2, ![4096, 1920]⟩
abbrev S1920x1024 : Shape := ⟨2, ![1920, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x1152, .bf16⟩
  | .hbm, ⟨3, _⟩ => ⟨S2x1024x1920, .f32⟩
  | .hbm, ⟨4, _⟩ => ⟨S1x1024x1920, .f32⟩
  | .hbm, ⟨5, _⟩ => ⟨S1024x1920, .f32⟩
  | .hbm, ⟨6, _⟩ => ⟨S4096x1024, .f32⟩
  | .hbm, ⟨7, _⟩ => ⟨S4096x1920, .f32⟩
  | .hbm, ⟨8, _⟩ => ⟨S4096x768, .f32⟩
  | .hbm, ⟨9, _⟩ => ⟨S4096x1152, .f32⟩
  | .hbm, ⟨10, _⟩ => ⟨S4096x768, .f32⟩
  | .hbm, ⟨11, _⟩ => ⟨S4096x1152, .f32⟩
  | .hbm, ⟨12, _⟩ => ⟨S4096x1920, .f32⟩
  | .hbm, ⟨13, _⟩ => ⟨S1920x1024, .f32⟩
  | .hbm, ⟨14, _⟩ => ⟨S1024x1920, .f32⟩
  | .hbm, ⟨15, _⟩ => ⟨S1x1024x1920, .f32⟩
  | .hbm, ⟨16, _⟩ => ⟨S1024x1920, .f32⟩
  | .hbm, ⟨17, _⟩ => ⟨S1x1024x1920, .f32⟩
  | .hbm, ⟨18, _⟩ => ⟨S1x1024x1920, .f32⟩
  | .hbm, ⟨19, _⟩ => ⟨S2x1024x1920, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel5.lean ====
abbrev S4096x1024 : Shape := ⟨2, ![4096, 1024]⟩
abbrev S2x1x1024 : Shape := ⟨3, ![2, 1, 1024]⟩
abbrev S1x1024 : Shape := ⟨2, ![1, 1024]⟩
abbrev S1024x4352 : Shape := ⟨2, ![1024, 4352]⟩
abbrev S4096x768 : Shape := ⟨2, ![4096, 768]⟩
abbrev S4096x1152 : Shape := ⟨2, ![4096, 1152]⟩
abbrev S4096x384 : Shape := ⟨2, ![4096, 384]⟩
abbrev S4096x128 : Shape := ⟨2, ![4096, 128]⟩
abbrev S512x1024 : Shape := ⟨2, ![512, 1024]⟩
abbrev S1x1x1024 : Shape := ⟨3, ![1, 1, 1024]⟩
abbrev S512x768 : Shape := ⟨2, ![512, 768]⟩
abbrev S512x1152 : Shape := ⟨2, ![512, 1152]⟩
abbrev S512x384 : Shape := ⟨2, ![512, 384]⟩
abbrev S512x128 : Shape := ⟨2, ![512, 128]⟩
abbrev S512 : Shape := ⟨1, ![512]⟩
abbrev S512x1 : Shape := ⟨2, ![512, 1]⟩
abbrev S1024x768 : Shape := ⟨2, ![1024, 768]⟩
abbrev S1024x1152 : Shape := ⟨2, ![1024, 1152]⟩
abbrev S1024x384 : Shape := ⟨2, ![1024, 384]⟩
abbrev S1024x128 : Shape := ⟨2, ![1024, 128]⟩

abbrev nBuf : Space → Nat
  | .hbm => 15
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x4352, .bf16⟩
  | .hbm, ⟨5, _⟩ => ⟨S4096x1024, .bf16⟩
  | .hbm, ⟨6, _⟩ => ⟨S4096x768, .f32⟩
  | .hbm, ⟨7, _⟩ => ⟨S4096x1152, .f32⟩
  | .hbm, ⟨8, _⟩ => ⟨S4096x384, .bf16⟩
  | .hbm, ⟨9, _⟩ => ⟨S4096x384, .bf16⟩
  | .hbm, ⟨10, _⟩ => ⟨S4096x384, .bf16⟩
  | .hbm, ⟨11, _⟩ => ⟨S4096x384, .bf16⟩
  | .hbm, ⟨12, _⟩ => ⟨S4096x384, .bf16⟩
  | .hbm, ⟨13, _⟩ => ⟨S4096x384, .bf16⟩
  | .hbm, ⟨14, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4352, .bf16⟩
  | .local _ .vmem, ⟨8, _⟩ => ⟨S512x1024, .bf16⟩
  | .local _ .vmem, ⟨9, _⟩ => ⟨S512x1024, .bf16⟩
  | .local _ .vmem, ⟨10, _⟩ => ⟨S512x768, .f32⟩
  | .local _ .vmem, ⟨11, _⟩ => ⟨S512x768, .f32⟩
  | .local _ .vmem, ⟨12, _⟩ => ⟨S512x1152, .f32⟩
  | .local _ .vmem, ⟨13, _⟩ => ⟨S512x1152, .f32⟩
  | .local _ .vmem, ⟨14, _⟩ => ⟨S512x384, .bf16⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S512x384, .bf16⟩
  | .local _ .vmem, ⟨22, _⟩ => ⟨S512x384, .bf16⟩
  | .local _ .vmem, ⟨23, _⟩ => ⟨S512x384, .bf16⟩
  | .local _ .vmem, ⟨24, _⟩ => ⟨S512x384, .bf16⟩
  | .local _ .vmem, ⟨25, _⟩ => ⟨S512x384, .bf16⟩
  | .local _ .vmem, ⟨26, _⟩ => ⟨S512x128, .f32⟩
  | .local _ .vmem, ⟨27, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S4096x1024 : Shape := ⟨2, ![4096, 1024]⟩
abbrev S2x1x1024 : Shape := ⟨3, ![2, 1, 1024]⟩
abbrev S1x1024 : Shape := ⟨2, ![1, 1024]⟩
abbrev S1024x4352 : Shape := ⟨2, ![1024, 4352]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4352 : Shape := ⟨3, ![2, 2048, 4352]⟩
abbrev S4096x4352 : Shape := ⟨2, ![4096, 4352]⟩
abbrev S4096x768 : Shape := ⟨2, ![4096, 768]⟩
abbrev S4096x1152 : Shape := ⟨2, ![4096, 1152]⟩
abbrev S4096x384 : Shape := ⟨2, ![4096, 384]⟩
abbrev S4096x128 : Shape := ⟨2, ![4096, 128]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x4352, .bf16⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S1024x4352, .f32⟩
  | .hbm, ⟨30, _⟩ => ⟨S2x2048x4352, .f32⟩
  | .hbm, ⟨31, _⟩ => ⟨S4096x4352, .f32⟩
  | .hbm, ⟨32, _⟩ => ⟨S4096x768, .f32⟩
  | .hbm, ⟨33, _⟩ => ⟨S4096x1152, .f32⟩
  | .hbm, ⟨34, _⟩ => ⟨S4096x384, .f32⟩
  | .hbm, ⟨35, _⟩ => ⟨S4096x384, .f32⟩
  | .hbm, ⟨36, _⟩ => ⟨S4096x384, .f32⟩
  | .hbm, ⟨37, _⟩ => ⟨S4096x384, .f32⟩
  | .hbm, ⟨38, _⟩ => ⟨S4096x384, .f32⟩
  | .hbm, ⟨39, _⟩ => ⟨S4096x384, .f32⟩
  | .hbm, ⟨40, _⟩ => ⟨S4096x128, .f32⟩
  | .hbm, ⟨41, _⟩ => ⟨S4096x1024, .f32⟩
  | .hbm, ⟨42, _⟩ => ⟨S4096x1024, .bf16⟩
  | .hbm, ⟨43, _⟩ => ⟨S4096x384, .bf16⟩
  | .hbm, ⟨44, _⟩ => ⟨S4096x384, .bf16⟩
  | .hbm, ⟨45, _⟩ => ⟨S4096x384, .bf16⟩
  | .hbm, ⟨46, _⟩ => ⟨S4096x384, .bf16⟩
  | .hbm, ⟨47, _⟩ => ⟨S4096x384, .bf16⟩
  | .hbm, ⟨48, _⟩ => ⟨S4096x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel6.lean ====
abbrev S4096x1024 : Shape := ⟨2, ![4096, 1024]⟩
abbrev S2x1x1024 : Shape := ⟨3, ![2, 1, 1024]⟩
abbrev S4096x384 : Shape := ⟨2, ![4096, 384]⟩
abbrev S4096x1152 : Shape := ⟨2, ![4096, 1152]⟩
abbrev S1152x1024 : Shape := ⟨2, ![1152, 1024]⟩
abbrev S_ : Shape := ⟨0, ![]⟩
abbrev S1024x1152 : Shape := ⟨2, ![1024, 1152]⟩
abbrev S512x1024 : Shape := ⟨2, ![512, 1024]⟩
abbrev S1x1x1024 : Shape := ⟨3, ![1, 1, 1024]⟩
abbrev S512x384 : Shape := ⟨2, ![512, 384]⟩
abbrev S512x1152 : Shape := ⟨2, ![512, 1152]⟩
abbrev S1x1024 : Shape := ⟨2, ![1, 1024]⟩
abbrev S1024 : Shape := ⟨1, ![1024]⟩
abbrev S1024x384 : Shape := ⟨2, ![1024, 384]⟩
abbrev S384x1024 : Shape := ⟨2, ![384, 1024]⟩

abbrev nBuf : Space → Nat
  | .hbm => 27
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x1152, .f32⟩
  | .hbm, ⟨6, _⟩ => ⟨S1152x1024, .bf16⟩
  | .hbm, ⟨7, _⟩ => ⟨S4096x1152, .f32⟩
  | .hbm, ⟨8, _⟩ => ⟨S4096x1152, .f32⟩
  | .hbm, ⟨9, _⟩ => ⟨S4096x1152, .f32⟩
  | .hbm, ⟨10, _⟩ => ⟨S_, .f32⟩
  | .hbm, ⟨11, _⟩ => ⟨S4096x1152, .f32⟩
  | .hbm, ⟨12, _⟩ => ⟨S4096x1152, .f32⟩
  | .hbm, ⟨13, _⟩ => ⟨S_, .f32⟩
  | .hbm, ⟨14, _⟩ => ⟨S4096x1152, .f32⟩
  | .hbm, ⟨15, _⟩ => ⟨S4096x1152, .f32⟩
  | .hbm, ⟨16, _⟩ => ⟨S4096x1152, .f32⟩
  | .hbm, ⟨17, _⟩ => ⟨S4096x1152, .f32⟩
  | .hbm, ⟨18, _⟩ => ⟨S1152x1024, .f32⟩
  | .hbm, ⟨19, _⟩ => ⟨S4096x1024, .f32⟩
  | .hbm, ⟨20, _⟩ => ⟨S1024x1152, .bf16⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S4096x1152, .bf16⟩
  | .hbm, ⟨25, _⟩ => ⟨S1152x1024, .f32⟩
  | .hbm, ⟨26, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x1152, .f32⟩
  | .local _ .vmem, ⟨13, _⟩ => ⟨S512x1152, .f32⟩
  | .local _ .vmem, ⟨14, _⟩ => ⟨S1152x1024, .bf16⟩
  | .local _ .vmem, ⟨15, _⟩ => ⟨S1024x1152, .bf16⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x384, .f32⟩
  | .local _ .vmem, ⟨22, _⟩ => ⟨S512x1152, .bf16⟩
  | .local _ .vmem, ⟨23, _⟩ => ⟨S512x1152, .bf16⟩
  | .local _ .vmem, ⟨24, _⟩ => ⟨S1152x1024, .f32⟩
  | .local _ .vmem, ⟨25, _⟩ => ⟨S1x1x1024, .f32⟩
  | .local _ .vmem, ⟨26, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1152x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1152 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1152x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S4096x1024 : Shape := ⟨2, ![4096, 1024]⟩
abbrev S2x1x1024 : Shape := ⟨3, ![2, 1, 1024]⟩
abbrev S4096x384 : Shape := ⟨2, ![4096, 384]⟩
abbrev S4096x1152 : Shape := ⟨2, ![4096, 1152]⟩
abbrev S1152x1024 : Shape := ⟨2, ![1152, 1024]⟩
abbrev S_ : Shape := ⟨0, ![]⟩
abbrev S2x2048x1024 : Shape := ⟨3, ![2, 2048, 1024]⟩
abbrev S2x1024 : Shape := ⟨2, ![2, 1024]⟩
abbrev S1024x1152 : Shape := ⟨2, ![1024, 1152]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x1152, .f32⟩
  | .hbm, ⟨6, _⟩ => ⟨S1152x1024, .bf16⟩
  | .hbm, ⟨7, _⟩ => ⟨S1152x1024, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x384, .f32⟩
  | .hbm, ⟨12, _⟩ => ⟨S4096x384, .f32⟩
  | .hbm, ⟨13, _⟩ => ⟨S_, .f32⟩
  | .hbm, ⟨14, _⟩ => ⟨S4096x384, .f32⟩
  | .hbm, ⟨15, _⟩ => ⟨S4096x384, .f32⟩
  | .hbm, ⟨16, _⟩ => ⟨S_, .f32⟩
  | .hbm, ⟨17, _⟩ => ⟨S4096x384, .f32⟩
  | .hbm, ⟨18, _⟩ => ⟨S4096x384, .f32⟩
  | .hbm, ⟨19, _⟩ => ⟨S_, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S4096x384, .f32⟩
  | .hbm, ⟨27, _⟩ => ⟨S_, .f32⟩
  | .hbm, ⟨28, _⟩ => ⟨S4096x384, .f32⟩
  | .hbm, ⟨29, _⟩ => ⟨S4096x384, .f32⟩
  | .hbm, ⟨30, _⟩ => ⟨S_, .f32⟩
  | .hbm, ⟨31, _⟩ => ⟨S4096x384, .f32⟩
  | .hbm, ⟨32, _⟩ => ⟨S4096x384, .f32⟩
  | .hbm, ⟨33, _⟩ => ⟨S_, .f32⟩
  | .hbm, ⟨34, _⟩ => ⟨S4096x384, .f32⟩
  | .hbm, ⟨35, _⟩ => ⟨S4096x384, .f32⟩
  | .hbm, ⟨36, _⟩ => ⟨S4096x384, .f32⟩
  | .hbm, ⟨37, _⟩ => ⟨S4096x384, .f32⟩
  | .hbm, ⟨38, _⟩ => ⟨S4096x384, .f32⟩
  | .hbm, ⟨39, _⟩ => ⟨S4096x384, .f32⟩
  | .hbm, ⟨40, _⟩ => ⟨S4096x384, .f32⟩
  | .hbm, ⟨41, _⟩ => ⟨S_, .f32⟩
  | .hbm, ⟨42, _⟩ => ⟨S4096x384, .f32⟩
  | .hbm, ⟨43, _⟩ => ⟨S4096x384, .f32⟩
  | .hbm, ⟨44, _⟩ => ⟨S_, .f32⟩
  | .hbm, ⟨45, _⟩ => ⟨S4096x384, .f32⟩
  | .hbm, ⟨46, _⟩ => ⟨S4096x384, .f32⟩
  | .hbm, ⟨47, _⟩ => ⟨S_, .f32⟩
  | .hbm, ⟨48, _⟩ => ⟨S4096x384, .f32⟩
  | .hbm, ⟨49, _⟩ => ⟨S4096x384, .f32⟩
  | .hbm, ⟨50, _⟩ => ⟨S4096x384, .f32⟩
  | .hbm, ⟨51, _⟩ => ⟨S4096x384, .f32⟩
  | .hbm, ⟨52, _⟩ => ⟨S4096x384, .f32⟩
  | .hbm, ⟨53, _⟩ => ⟨S4096x1152, .f32⟩
  | .hbm, ⟨54, _⟩ => ⟨S4096x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S4096x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S2x1024, .f32⟩
  | .hbm, ⟨65, _⟩ => ⟨S2x1x1024, .f32⟩
  | .hbm, ⟨66, _⟩ => ⟨S4096x1024, .f32⟩
  | .hbm, ⟨67, _⟩ => ⟨S1024x1152, .f32⟩
  | .hbm, ⟨68, _⟩ => ⟨S1152x1024, .f32⟩
  | .hbm, ⟨69, _⟩ => ⟨S4096x1152, .f32⟩
  | .hbm, ⟨70, _⟩ => ⟨S4096x384, .f32⟩
  | .hbm, ⟨71, _⟩ => ⟨S4096x384, .f32⟩
  | .hbm, ⟨72, _⟩ => ⟨S4096x384, .f32⟩
  | .hbm, ⟨73, _⟩ => ⟨S4096x384, .f32⟩
  | .hbm, ⟨74, _⟩ => ⟨S4096x384, .f32⟩
  | .hbm, ⟨75, _⟩ => ⟨S4096x384, .f32⟩
  | .hbm, ⟨76, _⟩ => ⟨S4096x384, .f32⟩
  | .hbm, ⟨77, _⟩ => ⟨S4096x384, .f32⟩
  | .hbm, ⟨78, _⟩ => ⟨S4096x384, .f32⟩
  | .hbm, ⟨79, _⟩ => ⟨S4096x384, .f32⟩
  | .hbm, ⟨80, _⟩ => ⟨S4096x384, .f32⟩
  | .hbm, ⟨81, _⟩ => ⟨S4096x384, .f32⟩
  | .hbm, ⟨82, _⟩ => ⟨S4096x384, .f32⟩
  | .hbm, ⟨83, _⟩ => ⟨S4096x384, .f32⟩
  | .hbm, ⟨84, _⟩ => ⟨S4096x384, .f32⟩
  | .hbm, ⟨85, _⟩ => ⟨S4096x384, .f32⟩
  | .hbm, ⟨86, _⟩ => ⟨S4096x384, .f32⟩
  | .hbm, ⟨87, _⟩ => ⟨S4096x384, .f32⟩
  | .hbm, ⟨88, _⟩ => ⟨S4096x384, .f32⟩
  | .hbm, ⟨89, _⟩ => ⟨S4096x384, .f32⟩
  | .hbm, ⟨90, _⟩ => ⟨S4096x384, .f32⟩
  | .hbm, ⟨91, _⟩ => ⟨S4096x1152, .f32⟩
  | .hbm, ⟨92, _⟩ => ⟨S4096x1152, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v4_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v4_1 : Ref sig .tc := ⟨.hbm, 22, rfl⟩
abbrev main_v4_0 : Ref sig .tc := ⟨.hbm, 23, rfl⟩
abbrev main_v5 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_v6_2 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_v6_1 : Ref sig .tc := ⟨.hbm, 36, rfl⟩
abbrev main_v6_0 : Ref sig .tc := ⟨.hbm, 37, rfl⟩
abbrev main_v7 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_v8_2 : Ref sig .tc := ⟨.hbm, 46, rfl⟩
abbrev main_call2_cst_1 : Ref sig .tc := ⟨.hbm, 47, rfl⟩
abbrev main_call2_v6 : Ref sig .tc := ⟨.hbm, 48, rfl⟩
abbrev main_call2_v7 : Ref sig .tc := ⟨.hbm, 49, rfl⟩
abbrev main_v8_1 : Ref sig .tc := ⟨.hbm, 50, rfl⟩
abbrev main_v8_0 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩

abbrev nD : Nat := 1
abbrev τ : Topo := Topo.v7x

variable {F : FTy → Type} [FloatOps F]
-- ==== Kernel7.lean ====
abbrev S4096x1024 : Shape := ⟨2, ![4096, 1024]⟩
abbrev S2x1x1024 : Shape := ⟨3, ![2, 1, 1024]⟩
abbrev S4096x384 : Shape := ⟨2, ![4096, 384]⟩
abbrev S4096x1152 : Shape := ⟨2, ![4096, 1152]⟩
abbrev S1152x1024 : Shape := ⟨2, ![1152, 1024]⟩
abbrev S512x1024 : Shape := ⟨2, ![512, 1024]⟩
abbrev S1x1x1024 : Shape := ⟨3, ![1, 1, 1024]⟩
abbrev S512x384 : Shape := ⟨2, ![512, 384]⟩
abbrev S512x1152 : Shape := ⟨2, ![512, 1152]⟩
abbrev S384x1024 : Shape := ⟨2, ![384, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x1152, .f32⟩
  | .hbm, ⟨6, _⟩ => ⟨S1152x1024, .bf16⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x1152, .f32⟩
  | .local _ .vmem, ⟨11, _⟩ => ⟨S512x1152, .f32⟩
  | .local _ .vmem, ⟨12, _⟩ => ⟨S1152x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1152x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x1024 : Shape := ⟨2, ![4096, 1024]⟩
abbrev S2x1x1024 : Shape := ⟨3, ![2, 1, 1024]⟩
abbrev S4096x384 : Shape := ⟨2, ![4096, 384]⟩
abbrev S4096x1152 : Shape := ⟨2, ![4096, 1152]⟩
abbrev S1152x1024 : Shape := ⟨2, ![1152, 1024]⟩
abbrev S_ : Shape := ⟨0, ![]⟩
abbrev S2x2048x1024 : Shape := ⟨3, ![2, 2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x1024, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x1152, .f32⟩
  | .hbm, ⟨6, _⟩ => ⟨S1152x1024, .bf16⟩
  | .hbm, ⟨7, _⟩ => ⟨S1152x1024, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x384, .f32⟩
  | .hbm, ⟨12, _⟩ => ⟨S4096x384, .f32⟩
  | .hbm, ⟨13, _⟩ => ⟨S_, .f32⟩
  | .hbm, ⟨14, _⟩ => ⟨S4096x384, .f32⟩
  | .hbm, ⟨15, _⟩ => ⟨S4096x384, .f32⟩
  | .hbm, ⟨16, _⟩ => ⟨S_, .f32⟩
  | .hbm, ⟨17, _⟩ => ⟨S4096x384, .f32⟩
  | .hbm, ⟨18, _⟩ => ⟨S4096x384, .f32⟩
  | .hbm, ⟨19, _⟩ => ⟨S4096x384, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S_, .f32⟩
  | .hbm, ⟨24, _⟩ => ⟨S4096x384, .f32⟩
  | .hbm, ⟨25, _⟩ => ⟨S4096x384, .f32⟩
  | .hbm, ⟨26, _⟩ => ⟨S_, .f32⟩
  | .hbm, ⟨27, _⟩ => ⟨S4096x384, .f32⟩
  | .hbm, ⟨28, _⟩ => ⟨S4096x384, .f32⟩
  | .hbm, ⟨29, _⟩ => ⟨S4096x384, .f32⟩
  | .hbm, ⟨30, _⟩ => ⟨S4096x384, .f32⟩
  | .hbm, ⟨31, _⟩ => ⟨S4096x384, .f32⟩
  | .hbm, ⟨32, _⟩ => ⟨S4096x384, .f32⟩
  | .hbm, ⟨33, _⟩ => ⟨S_, .f32⟩
  | .hbm, ⟨34, _⟩ => ⟨S4096x384, .f32⟩
  | .hbm, ⟨35, _⟩ => ⟨S4096x384, .f32⟩
  | .hbm, ⟨36, _⟩ => ⟨S_, .f32⟩
  | .hbm, ⟨37, _⟩ => ⟨S4096x384, .f32⟩
  | .hbm, ⟨38, _⟩ => ⟨S4096x384, .f32⟩
  | .hbm, ⟨39, _⟩ => ⟨S4096x384, .f32⟩
  | .hbm, ⟨40, _⟩ => ⟨S4096x384, .f32⟩
  | .hbm, ⟨41, _⟩ => ⟨S4096x1152, .f32⟩
  | .hbm, ⟨42, _⟩ => ⟨S4096x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v6 : Ref sig .tc := ⟨.hbm, 29, rfl⟩
abbrev main_v7 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩

abbrev nD : Nat := 1
abbrev τ : Topo := Topo.v7x

variable {F : FTy → Type} [FloatOps F]
-- ==== Proof.Host.lean ====
module

public import proofs.«01_k».proof.Proof.Gen.KernelIdeal.Frame
public import Idealize.ShloMosaic.Lib.StableHlo.RunRead
public import Idealize.ShloMosaic.Lib.Pointwise

@[expose] public section

set_option maxRecDepth 16384

noncomputable section

namespace Cert.Own

open Idealize.ShloMosaic Idealize.ShloMosaic.TcCoe Cert.KernelIdeal Cert.KernelIdeal.Gen Idealize.SL.Sem

/-! The arrays by heads: batch, head, row, lane. -/

abbrev Flat := FVec Ideal S4096x384 .f32
abbrev Heads := FVec Ideal S2x6x2048x64 .f32
abbrev Pairs := FVec Ideal S2x6x2048x2048 .f32
abbrev Cols := FVec Ideal S2x6x2048x1 .f32
abbrev Gate := FVec Ideal S2x6x2048 .f32

/-- A flat array split into heads. -/
def heads (x : Flat) : Heads :=
  transpose S2x6x2048x64 [0, 2, 1, 3] (shapeCast _ x shapeCasts_S4096x384_S2x2048x6x64) transposes_S2x2048x6x64_S2x6x2048x64_0_2_1_3
/-- Heads laid side by side again. -/
def flat (y : Heads) : Flat :=
  shapeCast _ (transpose S2x2048x6x64 [0, 2, 1, 3] y transposes_S2x6x2048x64_S2x2048x6x64_0_2_1_3) shapeCasts_S2x2048x6x64_S4096x384
/-- The products of the rows of two arrays, head by head. -/
def dots (a b : Heads) : Pairs := Host.dotGeneral dot_S2x6x2048x64_S2x6x2048x64_S2x6x2048x2048_3_3_2_2_01_01 none a b
/-- An eighth of the row products. -/
def eighths (x : Pairs) : Pairs :=
  mulf x (broadcastInDim S2x6x2048x2048 ![] bcast_S_S2x6x2048x2048 (constant (F := Ideal) S_ .f32 0x3E000000#32))
/-- The gate along the keys. -/
def gateKeys (f : Gate) : Pairs :=
  broadcastInDim S2x6x2048x2048 ![0, 1, 2, 3] bcast_S2x6x1x2048_S2x6x2048x2048_0_1_2_3
    (broadcastInDim S2x6x1x2048 ![0, 1, 3] bcast_S2x6x2048_S2x6x1x2048_0_1_3 f)
/-- The pairs a query may see. -/
def causal : IVec S2x6x2048x2048 1 :=
  broadcastInDim S2x6x2048x2048 ![2, 3] bcast_S2048x2048_S2x6x2048x2048_2_3
    (cmpi .sle
      (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
/-- The scores with the unseen pairs at minus infinity. -/
def masked (s : Pairs) : Pairs :=
  select causal s (broadcastInDim S2x6x2048x2048 ![] bcast_S_S2x6x2048x2048 (constant (F := Ideal) S_ .f32 0xFF800000#32))
/-- A number per row, as a column. -/
def col (x : Gate) : Cols := broadcastInDim S2x6x2048x1 ![0, 1, 2] bcast_S2x6x2048_S2x6x2048x1_0_1_2 x
/-- A column along the keys. -/
def spread (x : Cols) : Pairs := broadcastInDim S2x6x2048x2048 ![0, 1, 2, 3] bcast_S2x6x2048x1_S2x6x2048x2048_0_1_2_3 x
/-- The row maxima. -/
def rowMax (s : Pairs) : Gate :=
  Host.reduce (FloatOps.maximumf (F := Ideal) (φ := .f32)) s (constant (F := Ideal) S_ .f32 0xFF800000#32) reducesTo_S2x6x2048x2048_S2x6x2048_d3 h_S_
/-- The row sums. -/
def rowSum (s : Pairs) : Gate :=
  Host.reduceAdd s (constant (F := Ideal) S_ .f32 0x00000000#32) reducesTo_S2x6x2048x2048_S2x6x2048_d3 h_S_
/-- The exponentials of the scores less a number per row. -/
def exps (s : Pairs) (m : Gate) : Pairs := Host.exp (subf s (spread (col m)))
/-- Each row over its sum. -/
def probs (e : Pairs) : Pairs := Host.divf e (spread (col (rowSum e)))
/-- Weighted sums of the rows of an array over the keys. -/
def mix (w : Pairs) (x : Heads) : Heads := Host.dotGeneral dot_S2x6x2048x2048_S2x6x2048x64_S2x6x2048x64_3_2_2_3_01_01 none w x

/-! What the host computes before the launch. -/

/-- The masked scores, the gate of the query left out. -/
def hostS (q k : FVec Ideal S4096x384 .bf16) (f : Gate) : Pairs :=
  masked (subf (eighths (dots (heads (extf .f32 q bitsLt_bf16_f32)) (heads (extf .f32 k bitsLt_bf16_f32)))) (gateKeys f))
/-- Their exponentials. -/
def hostX (q k : FVec Ideal S4096x384 .bf16) (f : Gate) : Pairs := exps (hostS q k f) (rowMax (hostS q k f))
/-- The forward output. -/
def hostO (q k v : FVec Ideal S4096x384 .bf16) (f : Gate) : Flat :=
  flat (mix (probs (hostX q k f)) (heads (extf .f32 v bitsLt_bf16_f32)))
/-- The rows' normalisers, as powers of two. -/
def hostE (q k : FVec Ideal S4096x384 .bf16) (f : Gate) : Flat :=
  flat (broadcastInDim S2x6x2048x64 ![0, 1, 2, 3] bcast_S2x6x2048x1_S2x6x2048x64_0_1_2_3
    (Host.divf (addf (col (rowMax (hostS q k f))) (Host.log (col (rowSum (hostX q k f)))))
      (broadcastInDim S2x6x2048x1 ![] bcast_S_S2x6x2048x1 (Host.log (constant (F := Ideal) S_ .f32 0x40000000#32)))))
/-- The gate in powers of two. -/
def hostF (f : Gate) : FVec Ideal S2x6x1x2048 .f32 :=
  broadcastInDim S2x6x1x2048 ![0, 1, 3] bcast_S2x6x2048_S2x6x1x2048_0_1_3
    (Host.divf f (broadcastInDim S2x6x2048 ![] bcast_S_S2x6x2048 (Host.log (constant (F := Ideal) S_ .f32 0x40000000#32))))

variable (m : (ℓ : Loc nD τ sig) → Buf (Elt Ideal) ℓ) (c : Dev nD)

abbrev arg0 : FVec Ideal S4096x384 .bf16 := m ((c.tc : Thread nD τ).loc main_arg0)
abbrev arg1 : FVec Ideal S4096x384 .bf16 := m ((c.tc : Thread nD τ).loc main_arg1)
abbrev arg2 : FVec Ideal S4096x384 .bf16 := m ((c.tc : Thread nD τ).loc main_arg2)
abbrev arg3 : Gate := m ((c.tc : Thread nD τ).loc main_arg3)
abbrev arg4 : Flat := m ((c.tc : Thread nD τ).loc main_arg4)

theorem V_o : V m c main_v34 = hostO (arg0 m c) (arg1 m c) (arg2 m c) (arg3 m c) := by
  unfold V
  after_reads_simp [hostOps0, hostOps0_1, hostOps0_2]
  rfl
theorem V_e : V m c main_v42 = hostE (arg0 m c) (arg1 m c) (arg3 m c) := by
  unfold V
  after_reads_simp [hostOps0, hostOps0_1, hostOps0_2]
  rfl
theorem V_f : V m c main_v46 = hostF (arg3 m c) := by
  unfold V
  after_reads_simp [hostOps0, hostOps0_1, hostOps0_2]
  rfl

end Cert.Own
-- ==== Proof.Unit.lean ====
module

public import proofs.«01_k».proof.Proof.Gen.KernelIdeal.Skeleton

@[expose] public section

set_option maxRecDepth 16384

noncomputable section

namespace Cert.Own

open Idealize.ShloMosaic Cert.KernelIdeal Cert.KernelIdeal.Gen

/-- The matrix shape of `r` rows and `c` columns. -/
abbrev Mx (r c : ℕ) : Shape := ⟨2, ![r, c]⟩

/-! The side conditions of the operations below, for any number `n` of key columns. -/

theorem bc_row (n : ℕ) : (Mx 1 n).Broadcasts (Mx 256 n) :=
  ⟨le_refl _, fun a => by fin_cases a; · exact .inl rfl
                          · exact .inr fun _ => rfl⟩
theorem bc_col (n : ℕ) : (Mx 256 1).Broadcasts (Mx 256 n) :=
  ⟨le_refl _, fun a => by fin_cases a; · exact .inr fun _ => rfl
                          · exact .inl rfl⟩
theorem sc_row (n : ℕ) : (⟨4, ![1, 1, 1, n]⟩ : Shape).ShapeCasts (Mx 1 n) := by
  simp [Shape.ShapeCasts, Shape.numel, Fin.prod_univ_succ]
theorem sc_row' (n : ℕ) : (Mx 1 n).ShapeCasts (⟨4, ![1, 1, 1, n]⟩ : Shape) := by
  simp [Shape.ShapeCasts, Shape.numel, Fin.prod_univ_succ]
theorem sc_vec (n : ℕ) : (⟨1, ![n]⟩ : Shape).ShapeCasts (Mx 1 n) := by
  simp [Shape.ShapeCasts, Shape.numel, Fin.prod_univ_succ]
theorem sc_id (s : Shape) : s.ShapeCasts s := rfl
theorem red_rows (n : ℕ) : (Mx 256 n).Reduces [1] (⟨1, ![256]⟩ : Shape) :=
  ⟨rfl, Nat.one_pos, fun b => by fin_cases b; rfl⟩
theorem red_cols (n : ℕ) : (Mx 256 n).Reduces [0] (⟨1, ![n]⟩ : Shape) :=
  ⟨rfl, Nat.one_pos, fun b => by fin_cases b; rfl⟩
theorem slice_rows (lo : ℕ) (h : lo + 64 ≤ 128) : (Mx 128 256).Slices ![lo, 0] (Mx 64 256) :=
  ⟨rfl, fun a => by fin_cases a; · exact h
                    · exact Nat.le_refl _⟩

/-! One unit of the kernel's work: the query tile's rows against `n` key columns, for the head whose lanes start
at `lo`. -/

/-- The lanes of the head that starts at lane `lo`. -/
def lanes (lo : ℕ) : IVec (Mx 256 128) 1 :=
  andi (cmpi .sge (iota .tc (Mx 256 128) 32 [1] iota_S256x128_d1_w32) (broadcast (Mx 256 128) (BitVec.ofNat 32 lo)))
    (cmpi .slt (iota .tc (Mx 256 128) 32 [1] iota_S256x128_d1_w32) (broadcast (Mx 256 128) (BitVec.ofNat 32 (lo + 64))))

/-- The query rows with the other head's lanes cleared. -/
def qHead (lo : ℕ) (Q : FVec Ideal (Mx 256 128) .bf16) : FVec Ideal (Mx 256 128) .bf16 :=
  select (lanes lo) Q (broadcast (Mx 256 128) (Scalar.ofBits (F := Ideal) .bf16 0x0000#16))

/-- The output gradient's rows with the other head's lanes cleared. -/
def gHead (lo : ℕ) (G : FVec Ideal (Mx 256 128) .f32) : FVec Ideal (Mx 256 128) .f32 :=
  select (lanes lo) G (broadcast (Mx 256 128) (Scalar.ofBits (F := Ideal) .f32 0x00000000#32))

/-- The scores, in powers of two, less the gate's row. -/
def scoreV (n lo : ℕ) (Q : FVec Ideal (Mx 256 128) .bf16) (K : FVec Ideal (Mx n 128) .bf16)
    (A : FVec Ideal ⟨4, ![1, 1, 1, n]⟩ .f32) : FVec Ideal (Mx 256 n) .f32 :=
  subf (mulf (matmul (DotDims.transposedRhs 256 128 n) none (qHead lo Q) K (constant (Mx 256 n) .f32 0x00000000#32))
      (broadcast (Mx 256 n) (Named.named κ "qk_scale" 0x3E38AA3B#32)))
    (broadcastTo (Mx 256 n) (shapeCast (Mx 1 n) A (sc_row n)) (bc_row n))

/-- The scores of the diagonal tile, masked. -/
def maskV (S : FVec Ideal (Mx 256 256) .f32) : FVec Ideal (Mx 256 256) .f32 :=
  select (cmpi .sle (iota .tc (Mx 256 256) 32 [1] iota_S256x256_d1_w32) (iota .tc (Mx 256 256) 32 [0] iota_S256x256_d0_w32)) S
    (broadcast (Mx 256 256) (Named.named κ "mask" 0xF149F2CA#32))

/-- The log-sum-exp column of the head. -/
def lseV (lo : ℕ) (E : FVec Ideal (Mx 256 128) .f32) : FVec Ideal (Mx 256 1) .f32 :=
  shapeCast (Mx 256 1) (multiReduction (F := Ideal) (φ := .f32) .maximumf [1] ⟨1, ![256]⟩
    (select (lanes lo) (shapeCast (Mx 256 128) E (sc_id _)) (broadcast (Mx 256 128) (Named.named κ "mask" 0xF149F2CA#32)))
    0xFF800000#32 (red_rows 128) (.inl rfl) rfl) shapeCasts_S256_S256x1

/-- The probabilities. -/
def probV (n lo : ℕ) (S : FVec Ideal (Mx 256 n) .f32) (E : FVec Ideal (Mx 256 128) .f32) : FVec Ideal (Mx 256 n) .f32 :=
  exp2 (subf S (broadcastTo (Mx 256 n) (lseV lo E) (bc_col n)))

/-- The row sums of output gradient times output. -/
def deltaV (lo : ℕ) (G O : FVec Ideal (Mx 256 128) .f32) : FVec Ideal (Mx 256 1) .f32 :=
  shapeCast (Mx 256 1) (multiReduction (F := Ideal) (φ := .f32) .add [1] ⟨1, ![256]⟩
    (mulf (gHead lo G) (shapeCast (Mx 256 128) O (sc_id _))) 0x00000000#32 (red_rows 128) (.inl rfl) rfl) shapeCasts_S256_S256x1

/-- The gradient of the probabilities. -/
def dprobV (n lo : ℕ) (G : FVec Ideal (Mx 256 128) .f32) (V : FVec Ideal (Mx n 128) .bf16) : FVec Ideal (Mx 256 n) .f32 :=
  matmul (DotDims.transposedRhs 256 128 n) none (truncf .bf16 (gHead lo G) bitsLt_bf16_f32 : FVec Ideal (Mx 256 128) .bf16) V
    (constant (Mx 256 n) .f32 0x00000000#32)

/-- The gradient of the scores. -/
def dscoreV (n lo : ℕ) (S : FVec Ideal (Mx 256 n) .f32) (E G O : FVec Ideal (Mx 256 128) .f32) (V : FVec Ideal (Mx n 128) .bf16) :
    FVec Ideal (Mx 256 n) .f32 :=
  mulf (probV n lo S E) (subf (dprobV n lo G V) (broadcastTo (Mx 256 n) (deltaV lo G O) (bc_col n)))

/-- The scaled gradient of the scores. -/
def sscoreV (n : ℕ) (D : FVec Ideal (Mx 256 n) .f32) : FVec Ideal (Mx 256 n) .bf16 :=
  truncf .bf16 (mulf D (broadcast (Mx 256 n) (Scalar.ofBits (F := Ideal) .f32 0x3E000000#32))) bitsLt_bf16_f32

/-- The head's rows of a transposed tile. -/
def trV (lo : ℕ) (hlo : lo + 64 ≤ 128) (X : FVec Ideal (Mx 256 128) .f32) : FVec Ideal (Mx 64 256) .bf16 :=
  extractStridedSlice (Mx 64 256) ![lo, 0] (truncf .bf16 (transpose (Mx 128 256) [1, 0] X transposes_S256x128_p1_0_S128x256) bitsLt_bf16_f32 : FVec Ideal (Mx 128 256) .bf16)
    (slice_rows lo hlo)

/-- An accumulator's update: what it held plus the head's transposed rows times the columns' matrix. -/
def accV (n lo : ℕ) (hlo : lo + 64 ≤ 128) (X : FVec Ideal (Mx 256 128) .f32) (W : FVec Ideal (Mx 256 n) .bf16)
    (prev : FVec Ideal (Mx 64 n) .f32) : FVec Ideal (Mx 64 n) .f32 :=
  shapeCast (Mx 64 n) (addf prev (matmul (DotDims.plain 64 256 n) none (trV lo hlo X) W (constant (Mx 64 n) .f32 0x00000000#32))) (sc_id _)

/-- The gate gradient's update: what it held less the column sums. -/
def gateV (n : ℕ) (D : FVec Ideal (Mx 256 n) .f32) (prev : FVec Ideal ⟨4, ![1, 1, 1, n]⟩ .f32) : FVec Ideal ⟨4, ![1, 1, 1, n]⟩ .f32 :=
  shapeCast ⟨4, ![1, 1, 1, n]⟩ (subf (shapeCast (Mx 1 n) prev (sc_row n))
    (shapeCast (Mx 1 n) (multiReduction (F := Ideal) (φ := .f32) .add [0] ⟨1, ![n]⟩ D 0x00000000#32 (red_cols n) (.inl rfl) rfl) (sc_vec n))) (sc_row' n)

/-- A row sum added to a column. -/
def rowV (n : ℕ) (D : FVec Ideal (Mx 256 n) .f32) (prev : FVec Ideal (Mx 256 1) .f32) : FVec Ideal (Mx 256 1) .f32 :=
  addf prev (shapeCast (Mx 256 1) (multiReduction (F := Ideal) (φ := .f32) .add [1] ⟨1, ![256]⟩ D 0x00000000#32 (red_rows n) (.inl rfl) rfl) shapeCasts_S256_S256x1)

/-- A product with the keys added to the query gradient. -/
def dqV (n : ℕ) (W : FVec Ideal (Mx 256 n) .bf16) (K : FVec Ideal (Mx n 128) .bf16) (prev : FVec Ideal (Mx 256 128) .f32) : FVec Ideal (Mx 256 128) .f32 :=
  addf prev (matmul (DotDims.plain 256 n 128) none W K (constant (Mx 256 128) .f32 0x00000000#32))

/-- The query gradient of one head, cleared off the head's lanes. -/
def dqHead (lo : ℕ) (D : FVec Ideal (Mx 256 128) .f32) : FVec Ideal (Mx 256 128) .bf16 :=
  truncf .bf16 (select (lanes lo) D (broadcast (Mx 256 128) (Scalar.ofBits (F := Ideal) .f32 0x00000000#32))) bitsLt_bf16_f32

/-- A column spread over the head's lanes. -/
def rowHead (lo : ℕ) (R : FVec Ideal (Mx 256 1) .f32) : FVec Ideal (Mx 256 128) .f32 :=
  select (lanes lo) (broadcastTo (Mx 256 128) (shapeCast (Mx 256 1) R (sc_id _)) (bc_col 128)) (broadcast (Mx 256 128) (Scalar.ofBits (F := Ideal) .f32 0x00000000#32))

end Cert.Own

end
-- ==== Proof.Body.lean ====
module

public import proofs.«01_k».proof.Proof.Unit
public import proofs.«01_k».proof.Proof.Gen.KernelIdeal.Frame.RunA

@[expose] public section

set_option maxRecDepth 16384

noncomputable section

namespace Cert.Own

open Idealize.ShloMosaic Cert.KernelIdeal Cert.KernelIdeal.Gen Idealize.SL.Sem

/-- One grid point of the kernel: its memrefs and the input blocks they hold. -/
structure Body where
  c : Dev nD
  i : grid0.Coords
  a2 : Memref sig .tc .vmem S2048x128 .bf16
  h2 : a2.IsWhole
  a3 : Memref sig .tc .vmem S2048x128 .bf16
  h3 : a3.IsWhole
  a4 : Memref sig .tc .vmem S2048x128 .bf16
  h4 : a4.IsWhole
  a5 : Memref sig .tc .vmem S2048x128 .f32
  h5 : a5.IsWhole
  a6 : Memref sig .tc .vmem S2048x128 .f32
  h6 : a6.IsWhole
  a7 : Memref sig .tc .vmem S2048x128 .f32
  h7 : a7.IsWhole
  a8 : Memref sig .tc .vmem S1x2x1x2048 .f32
  h8 : a8.IsWhole
  a9 : Memref sig .tc .vmem S2048x128 .bf16
  h9 : a9.IsWhole
  a10 : Memref sig .tc .vmem S2048x128 .bf16
  h10 : a10.IsWhole
  a11 : Memref sig .tc .vmem S2048x128 .bf16
  h11 : a11.IsWhole
  a12 : Memref sig .tc .vmem S1x2x1x2048 .f32
  h12 : a12.IsWhole
  a13 : Memref sig .tc .vmem S2048x128 .f32
  h13 : a13.IsWhole
  a14 : Memref sig .tc .vmem S128x2048 .f32
  h14 : a14.IsWhole
  a15 : Memref sig .tc .vmem S128x2048 .f32
  h15 : a15.IsWhole
  x0 : Vec Ideal S2048x128 .bf16
  x1 : Vec Ideal S2048x128 .bf16
  x2 : Vec Ideal S2048x128 .bf16
  x3 : Vec Ideal S2048x128 .f32
  x4 : Vec Ideal S2048x128 .f32
  x5 : Vec Ideal S2048x128 .f32
  x6 : Vec Ideal S1x2x1x2048 .f32

/-- What the body's run leaves: the piece lists of its outputs and scratch. -/
def Body.run (B : Body) := kernelRun0_A (F := Ideal) B.c B.i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.x0 B.x1 B.x2 B.x3 B.x4 B.x5 B.x6

/-! The tiles a point loads: 256 rows from row `r`, or `n` rows from row `a`. -/

theorem inbRows (n a : ℕ) (h : a + n ≤ 2048) : ∀ d, (![a, 0] : Fin 2 → ℕ) d + (![n, 128] : Fin 2 → ℕ) d ≤ S2048x128.size d :=
  fun d => by fin_cases d; · exact h
              · exact Nat.le_refl _
theorem inbGate (n p a : ℕ) (hp : p ≤ 1) (h : a + n ≤ 2048) :
    ∀ d, (![0, p, 0, a] : Fin 4 → ℕ) d + (![1, 1, 1, n] : Fin 4 → ℕ) d ≤ S1x2x1x2048.size d :=
  fun d => by fin_cases d; · exact Nat.le_refl _
              · exact Nat.add_le_add_right hp 1
              · exact Nat.le_refl _
              · exact h
theorem inbAcc (n lo a : ℕ) (hp : lo + 64 ≤ 128) (h : a + n ≤ 2048) :
    ∀ d, (![lo, a] : Fin 2 → ℕ) d + (![64, n] : Fin 2 → ℕ) d ≤ S128x2048.size d :=
  fun d => by fin_cases d; · exact hp
              · exact h

/-- Rows of a staged block. -/
abbrev rows {e : EltTy} (m : Memref sig .tc .vmem S2048x128 e) (hm : m.IsWhole) (x : Vec Ideal S2048x128 e) (n a : ℕ) (h : a + n ≤ 2048) :
    Vec Ideal (Mx n 128) e :=
  View.readAt (Elt Ideal) m.view (Rect.unit (s := S2048x128) ![a, 0] ![n, 128] (inbRows n a h)).toLoadRect (hm.unread x)
/-- A stretch of the gate's row of a head. -/
abbrev gates (m : Memref sig .tc .vmem S1x2x1x2048 .f32) (hm : m.IsWhole) (x : Vec Ideal S1x2x1x2048 .f32) (n p a : ℕ) (hp : p ≤ 1) (h : a + n ≤ 2048) :
    Vec Ideal ⟨4, ![1, 1, 1, n]⟩ .f32 :=
  View.readAt (Elt Ideal) m.view (Rect.unit (s := S1x2x1x2048) ![0, p, 0, a] ![1, 1, 1, n] (inbGate n p a hp h)).toLoadRect (hm.unread x)

theorem le_off (t : ℕ) (ht : t < 8) : 0 + 256 * t ≤ 2048 := by omega
theorem le_diag (t : ℕ) (ht : t < 8) : 256 * t + 256 ≤ 2048 := by omega
theorem le_lo (p : ℕ) (hp : p ≤ 1) : 64 * p + 64 ≤ 128 := by omega

namespace Body
variable (B : Body) (t p : ℕ) (ht : t < 8) (hp : p ≤ 1)

/-- The query tile `t`, the output gradient's, the output's, the log-sum-exps'. -/
def qT : FVec Ideal (Mx 256 128) .bf16 := rows B.a2 B.h2 B.x0 256 (256 * t) (le_diag t ht)
def gT : FVec Ideal (Mx 256 128) .f32 := rows B.a6 B.h6 B.x4 256 (256 * t) (le_diag t ht)
def oT : FVec Ideal (Mx 256 128) .f32 := rows B.a5 B.h5 B.x3 256 (256 * t) (le_diag t ht)
def eT : FVec Ideal (Mx 256 128) .f32 := rows B.a7 B.h7 B.x5 256 (256 * t) (le_diag t ht)
/-- `n` keys from row `a`, the values and the gate's row there. -/
def kR (n a : ℕ) (h : a + n ≤ 2048) : FVec Ideal (Mx n 128) .bf16 := rows B.a3 B.h3 B.x1 n a h
def vR (n a : ℕ) (h : a + n ≤ 2048) : FVec Ideal (Mx n 128) .bf16 := rows B.a4 B.h4 B.x2 n a h
def fR (n a : ℕ) (h : a + n ≤ 2048) : FVec Ideal ⟨4, ![1, 1, 1, n]⟩ .f32 := gates B.a8 B.h8 B.x6 n p a hp h

/-- The scores of tile `t` of head `p` against the keys before the tile, and against the tile's own. -/
def sOff : FVec Ideal (Mx 256 (256 * t)) .f32 :=
  scoreV (256 * t) (64 * p) (B.qT t ht) (B.kR (256 * t) 0 (le_off t ht)) (B.fR p hp (256 * t) 0 (le_off t ht))
def sDiag : FVec Ideal (Mx 256 256) .f32 :=
  maskV (scoreV 256 (64 * p) (B.qT t ht) (B.kR 256 (256 * t) (le_diag t ht)) (B.fR p hp 256 (256 * t) (le_diag t ht)))
/-- Their probabilities and gradients. -/
def pOff : FVec Ideal (Mx 256 (256 * t)) .f32 := probV (256 * t) (64 * p) (B.sOff t p ht hp) (B.eT t ht)
def pDiag : FVec Ideal (Mx 256 256) .f32 := probV 256 (64 * p) (B.sDiag t p ht hp) (B.eT t ht)
def dOff : FVec Ideal (Mx 256 (256 * t)) .f32 :=
  dscoreV (256 * t) (64 * p) (B.sOff t p ht hp) (B.eT t ht) (B.gT t ht) (B.oT t ht) (B.vR (256 * t) 0 (le_off t ht))
def dDiag : FVec Ideal (Mx 256 256) .f32 :=
  dscoreV 256 (64 * p) (B.sDiag t p ht hp) (B.eT t ht) (B.gT t ht) (B.oT t ht) (B.vR 256 (256 * t) (le_diag t ht))

end Body

end Cert.Own

end
-- ==== Proof.Read.lean ====
module

public import proofs.«01_k».proof.Proof.Body
public import Idealize.ShloMosaic.Lib.Pointwise
public import Idealize.ShloMosaic.Lib.Pointwise.IndexVar
public import Idealize.ShloMosaic.Lib.MatmulPlain
public import Idealize.ShloMosaic.Lib.WholeRead

@[expose] public section

set_option maxRecDepth 16384

noncomputable section

namespace Cert.Own

open Idealize.ShloMosaic Cert.KernelIdeal Cert.KernelIdeal.Gen Idealize.SL.Sem
open Finset (range)

/-! ## Sums and reshapes -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 128 lanes of what is not zero on one head's lanes only. -/
theorem lane_sum (p : ℕ) (hp : p ≤ 1) (F : ℕ → ℝ) :
    ∑ x : Fin 128, (if x.val / 64 = p then F x.val else 0) = ∑ d ∈ range 64, F (64 * p + d) := by
  rw [Fin.sum_univ_eq_sum_range (fun x => if x / 64 = p then F x else 0) 128, show 128 = 64 + 64 from rfl, Finset.sum_range_add]
  have h0 : ∀ d ∈ range 64, d / 64 = 0 := fun d hd => Nat.div_eq_of_lt (Finset.mem_range.1 hd)
  have h1 : ∀ d ∈ range 64, (64 + d) / 64 = 1 := fun d hd => by have := Finset.mem_range.1 hd; omega
  obtain rfl | rfl : p = 0 ∨ p = 1 := by omega
  · rw [Finset.sum_congr rfl fun d hd => by rw [if_pos (h0 d hd)],
      Finset.sum_eq_zero (s := range 64) (f := fun x => if (64 + x) / 64 = 0 then F (64 + x) else 0)
        fun d hd => by rw [if_neg]; rw [h1 d hd]; decide]
    simp
  · rw [Finset.sum_eq_zero (s := range 64) (f := fun x => if x / 64 = 1 then F x else 0)
        fun d hd => by rw [if_neg]; rw [h0 d hd]; decide,
      Finset.sum_congr rfl fun d hd => by rw [if_pos (h1 d hd)]]
    simp

theorem reshape_row {n : ℕ} (h : (⟨2, ![1, n]⟩ : Shape).numel = (⟨4, ![1, 1, 1, n]⟩ : Shape).numel) (j : Fin n) :
    Shape.reshapeEquiv h (ix2 (0 : Fin 1) j) = ix4 (0 : Fin 1) (0 : Fin 1) (0 : Fin 1) j :=
  Shape.reshapeEquiv_eq_of_rowMajor h (by
    rw [Shape.rowMajor_val_four, Shape.rowMajor_val_two]
    show ((0 * 1 + 0) * 1 + 0) * n + j.val = 0 * n + j.val
    simp)
theorem reshape_vec {n : ℕ} (h : (⟨4, ![1, 1, 1, n]⟩ : Shape).numel = (⟨1, ![n]⟩ : Shape).numel) (j : Fin n) :
    Shape.reshapeEquiv h (ix4 (0 : Fin 1) (0 : Fin 1) (0 : Fin 1) j) = ix1 j :=
  Shape.reshapeEquiv_eq_of_rowMajor h (by
    rw [Shape.rowMajor_val_four, Shape.rowMajor_val_one]
    show j.val = ((0 * 1 + 0) * 1 + 0) * n + j.val
    simp)

/-! ## The named constants -/

theorem mask_eq : (Named.named κ "mask" 0xF149F2CA#32 : Ideal .f32) = (⊥ : EReal) := by
  show ((κ "mask").getD _ : EReal) = ⊥
  rfl
theorem scale_eq : (Named.named κ "qk_scale" 0x3E38AA3B#32 : Ideal .f32) = (((1 / 8) * (Real.log 2)⁻¹ : ℝ) : EReal) := by
  show ((κ "qk_scale").getD _ : EReal) = _
  rfl

/-! ## One unit's operations at an index -/

theorem lanes_apply (p : ℕ) (hp : p ≤ 1) (i : Fin 256) (c : Fin 128) :
    lanes (64 * p) (ix2 i c) = if c.val / 64 = p then 1#1 else 0#1 := by
  pointwise [lanes]
  obtain rfl | rfl : p = 0 ∨ p = 1 := by omega
  · revert c; decide
  · revert c; decide

theorem qHead_apply (p : ℕ) (hp : p ≤ 1) (Q : FVec Ideal (Mx 256 128) .bf16) (i : Fin 256) (c : Fin 128) :
    qHead (64 * p) Q (ix2 i c) = if c.val / 64 = p then Q (ix2 i c) else (0 : EReal) := by
  pointwise [qHead]
  rw [lanes_apply p hp]; split <;> rfl
theorem gHead_apply (p : ℕ) (hp : p ≤ 1) (Q : FVec Ideal (Mx 256 128) .f32) (i : Fin 256) (c : Fin 128) :
    gHead (64 * p) Q (ix2 i c) = if c.val / 64 = p then Q (ix2 i c) else (0 : EReal) := by
  pointwise [gHead]
  rw [lanes_apply p hp]; split <;> rfl

theorem scoreV_apply (n lo : ℕ) (Q : FVec Ideal (Mx 256 128) .bf16) (K : FVec Ideal (Mx n 128) .bf16)
    (A : FVec Ideal ⟨4, ![1, 1, 1, n]⟩ .f32) (i : Fin 256) (j : Fin n) :
    scoreV n lo Q K A (ix2 i j) = (∑ x : Fin 128, qHead lo Q (ix2 i x) * K (ix2 j x)) * (((1 / 8) * (Real.log 2)⁻¹ : ℝ) : EReal)
      - A (ix4 (0 : Fin 1) (0 : Fin 1) (0 : Fin 1) j) := by
  pointwise [scoreV]
  rw [scale_eq]
  congr 2
  have hj : ∀ q : n = 1 → 0 < n, (if h : n = 1 then (⟨0, q h⟩ : Fin n) else j) = j := fun q => by
    split
    · next h => subst h; exact Subsingleton.elim _ _
    · rfl
  exact (congrArg (fun y : Fin n => Shape.reshapeEquiv _ (ix2 (0 : Fin 1) y)) (hj _)).trans (reshape_row _ j)

theorem maskV_apply (S : FVec Ideal (Mx 256 256) .f32) (i j : Fin 256) :
    maskV S (ix2 i j) = if j.val ≤ i.val then S (ix2 i j) else (⊥ : EReal) := by
  pointwise [maskV]
  rw [mask_eq, show IntOp.cmpi CmpIPredicate.sle (BitVec.ofNat 32 j.val) (BitVec.ofNat 32 i.val) = if j.val ≤ i.val then 1#1 else 0#1 by
    have h1 : (BitVec.ofNat 32 j.val).toInt = j.val := by
      rw [BitVec.toInt_eq_toNat_of_lt (by rw [BitVec.toNat_ofNat]; omega), BitVec.toNat_ofNat]; omega
    have h2 : (BitVec.ofNat 32 i.val).toInt = i.val := by
      rw [BitVec.toInt_eq_toNat_of_lt (by rw [BitVec.toNat_ofNat]; omega), BitVec.toNat_ofNat]; omega
    simp only [IntOp.cmpi, BitVec.sle, h1, h2]
    by_cases h : j.val ≤ i.val <;> simp [h]]
  split <;> rfl

theorem lseV_apply (p : ℕ) (hp : p ≤ 1) (E : FVec Ideal (Mx 256 128) .f32) (i : Fin 256) (r : ℝ)
    (h : ∀ c : Fin 128, c.val / 64 = p → E (ix2 i c) = (r : EReal)) : lseV (64 * p) E (ix2 i (0 : Fin 1)) = (r : EReal) := by
  pointwise [lseV]
  rw [mask_eq]
  have hf : ∀ x : Fin 128, Scalar.select (lanes (64 * p) (ix2 i x)) (E (ix2 i x)) (⊥ : EReal) = if x.val / 64 = p then (r : EReal) else ⊥ := fun x => by
    rw [lanes_apply p hp]; split
    · next hx => rw [← h x hx]; rfl
    · rfl
  rw [funext hf]
  apply le_antisymm
  · rw [Finset.fold_max_le]
    exact ⟨by simp [Ideal.ofBits, Ideal.ieee], fun x _ => by split <;> simp⟩
  · rw [Finset.le_fold_max]
    right
    exact ⟨⟨64 * p, by omega⟩, Finset.mem_univ _, by rw [if_pos (by simp)]⟩

theorem probV_apply (n lo : ℕ) (S : FVec Ideal (Mx 256 n) .f32) (E : FVec Ideal (Mx 256 128) .f32) (i : Fin 256) (j : Fin n) :
    probV n lo S E (ix2 i j) = Ideal.exp2 (S (ix2 i j) - lseV lo E (ix2 i (0 : Fin 1))) := by
  pointwise [probV]
  rfl

theorem deltaV_apply (lo : ℕ) (G O : FVec Ideal (Mx 256 128) .f32) (i : Fin 256) :
    deltaV lo G O (ix2 i (0 : Fin 1)) = ∑ x : Fin 128, gHead lo G (ix2 i x) * O (ix2 i x) := by
  pointwise [deltaV]

theorem dprobV_apply (n lo : ℕ) (G : FVec Ideal (Mx 256 128) .f32) (V : FVec Ideal (Mx n 128) .bf16) (i : Fin 256) (j : Fin n) :
    dprobV n lo G V (ix2 i j) = ∑ x : Fin 128, gHead lo G (ix2 i x) * V (ix2 j x) := by
  pointwise [dprobV]

theorem dscoreV_apply (n lo : ℕ) (S : FVec Ideal (Mx 256 n) .f32) (E G O : FVec Ideal (Mx 256 128) .f32) (V : FVec Ideal (Mx n 128) .bf16)
    (i : Fin 256) (j : Fin n) :
    dscoreV n lo S E G O V (ix2 i j) = probV n lo S E (ix2 i j) * (dprobV n lo G V (ix2 i j) - deltaV lo G O (ix2 i (0 : Fin 1))) := by
  pointwise [dscoreV]

theorem sscoreV_apply (n : ℕ) (D : FVec Ideal (Mx 256 n) .f32) (i : Fin 256) (j : Fin n) :
    sscoreV n D (ix2 i j) = D (ix2 i j) * ((1 / 8 : ℝ) : EReal) := by
  pointwise [sscoreV]
  congr 1
  simp [Ideal.ofBits, Ideal.ieee]
  rw [← EReal.coe_mul]; norm_num

theorem accV_apply (n p : ℕ) (hlo : 64 * p + 64 ≤ 128) (X : FVec Ideal (Mx 256 128) .f32) (W : FVec Ideal (Mx 256 n) .bf16) (prev : FVec Ideal (Mx 64 n) .f32)
    (r : Fin 64) (j : Fin n) :
    accV n (64 * p) hlo X W prev (ix2 r j) = prev (ix2 r j) + ∑ x : Fin 256, X (ix2 x (⟨64 * p + r.val, by omega⟩ : Fin 128)) * W (ix2 x j) := by
  pointwise [accV, trV]

theorem gateV_apply (n : ℕ) (D : FVec Ideal (Mx 256 n) .f32) (prev : FVec Ideal ⟨4, ![1, 1, 1, n]⟩ .f32) (j : Fin n) :
    gateV n D prev (ix4 (0 : Fin 1) (0 : Fin 1) (0 : Fin 1) j) = prev (ix4 (0 : Fin 1) (0 : Fin 1) (0 : Fin 1) j) - ∑ x : Fin 256, D (ix2 x j) := by
  pointwise [gateV]
  rw [reshape_vec]
  rfl

theorem rowV_apply (n : ℕ) (D : FVec Ideal (Mx 256 n) .f32) (prev : FVec Ideal (Mx 256 1) .f32) (i : Fin 256) :
    rowV n D prev (ix2 i (0 : Fin 1)) = prev (ix2 i (0 : Fin 1)) + ∑ x : Fin n, D (ix2 i x) := by
  pointwise [rowV]

theorem dqV_apply (n : ℕ) (W : FVec Ideal (Mx 256 n) .bf16) (K : FVec Ideal (Mx n 128) .bf16) (prev : FVec Ideal (Mx 256 128) .f32) (i : Fin 256) (c : Fin 128) :
    dqV n W K prev (ix2 i c) = prev (ix2 i c) + ∑ x : Fin n, W (ix2 i x) * K (ix2 x c) := by
  refine (congrArg (prev (ix2 i c) + ·) (Ideal.matmul_plain_apply none W K (constant (Mx 256 128) .f32 0x00000000#32) i c)).trans ?_
  congr 1
  pointwise
  rfl

theorem dqHead_apply (p : ℕ) (hp : p ≤ 1) (D : FVec Ideal (Mx 256 128) .f32) (i : Fin 256) (c : Fin 128) :
    dqHead (64 * p) D (ix2 i c) = if c.val / 64 = p then D (ix2 i c) else (0 : EReal) := by
  pointwise [dqHead]
  rw [lanes_apply p hp]; split <;> rfl

theorem rowHead_apply (p : ℕ) (hp : p ≤ 1) (R : FVec Ideal (Mx 256 1) .f32) (i : Fin 256) (c : Fin 128) :
    rowHead (64 * p) R (ix2 i c) = if c.val / 64 = p then R (ix2 i (0 : Fin 1)) else (0 : EReal) := by
  pointwise [rowHead]
  rw [lanes_apply p hp]; split <;> rfl

/-! ## The tiles at an index -/

namespace Body
variable (B : Body)

theorem rows_apply {e : EltTy} (m : Memref sig .tc .vmem S2048x128 e) (hm : m.IsWhole) (x : Vec Ideal S2048x128 e) (n a : ℕ) (h : a + n ≤ 2048)
    (i : Fin n) (c : Fin 128) : rows m hm x n a h (ix2 i c) = x (ix2 (⟨a + i.val, by omega⟩ : Fin 2048) c) := by
  refine (Memref.IsWhole.readAt_unread hm x _ _).trans (congrArg x ?_)
  funext d; apply Fin.ext
  fin_cases d
  · show a + 1 * i.val = a + i.val
    omega
  · show 0 + 1 * c.val = c.val
    omega
theorem gates_apply (m : Memref sig .tc .vmem S1x2x1x2048 .f32) (hm : m.IsWhole) (x : Vec Ideal S1x2x1x2048 .f32) (n p a : ℕ) (hp : p ≤ 1) (h : a + n ≤ 2048)
    (j : Fin n) : gates m hm x n p a hp h (ix4 (0 : Fin 1) (0 : Fin 1) (0 : Fin 1) j)
      = x (ix4 (0 : Fin 1) (⟨p, by omega⟩ : Fin 2) (0 : Fin 1) (⟨a + j.val, by omega⟩ : Fin 2048)) := by
  refine (Memref.IsWhole.readAt_unread hm x _ _).trans (congrArg x ?_)
  funext d; apply Fin.ext
  fin_cases d
  · rfl
  · show p + 1 * 0 = p
    omega
  · rfl
  · show a + 1 * j.val = a + j.val
    omega

/-- What the staged blocks hold when all of it is real. -/
structure Reals (q k v g o e f : ℕ → ℕ → ℝ) : Prop where
  hq : ∀ (i : Fin 2048) (c : Fin 128), B.x0 (ix2 i c) = (q i.val c.val : EReal)
  hk : ∀ (i : Fin 2048) (c : Fin 128), B.x1 (ix2 i c) = (k i.val c.val : EReal)
  hv : ∀ (i : Fin 2048) (c : Fin 128), B.x2 (ix2 i c) = (v i.val c.val : EReal)
  ho : ∀ (i : Fin 2048) (c : Fin 128), B.x3 (ix2 i c) = (o i.val c.val : EReal)
  hg : ∀ (i : Fin 2048) (c : Fin 128), B.x4 (ix2 i c) = (g i.val c.val : EReal)
  he : ∀ (i : Fin 2048) (c : Fin 128), B.x5 (ix2 i c) = (e (c.val / 64) i.val : EReal)
  hf : ∀ (p : Fin 2) (j : Fin 2048), B.x6 (ix4 (0 : Fin 1) p (0 : Fin 1) j) = (f p.val j.val : EReal)

end Body

/-! ## The quantities of one head -/

/-- The product of a head's lanes of two rows. -/
def hdot (p : ℕ) (a b : ℕ → ℕ → ℝ) (i j : ℕ) : ℝ := ∑ d ∈ range 64, a i (64 * p + d) * b j (64 * p + d)
/-- The score in the base-two exponent. -/
def scR (q k f : ℕ → ℕ → ℝ) (p i j : ℕ) : ℝ := hdot p q k i j * ((1 / 8) * (Real.log 2)⁻¹) - f p j
/-- The probability. -/
def prR (q k e f : ℕ → ℕ → ℝ) (p i j : ℕ) : ℝ := if j ≤ i then Real.rpow 2 (scR q k f p i j - e p i) else 0
/-- The gradient of the score. -/
def dsR (q k v g o e f : ℕ → ℕ → ℝ) (p i j : ℕ) : ℝ := prR q k e f p i j * (hdot p g v i j - hdot p g o i i)

theorem lane_dot (p : ℕ) (hp : p ≤ 1) (X Y : Fin 128 → EReal) (a b : ℕ → ℝ) (hX : ∀ x, X x = if x.val / 64 = p then (a x.val : EReal) else 0)
    (hY : ∀ x, Y x = (b x.val : EReal)) : ∑ x : Fin 128, X x * Y x = ((∑ d ∈ range 64, a (64 * p + d) * b (64 * p + d) : ℝ) : EReal) := by
  rw [← lane_sum p hp (fun x => a x * b x), coe_sum]
  refine Finset.sum_congr rfl fun x _ => ?_
  rw [hX, hY]
  split
  · rw [EReal.coe_mul]
  · simp

namespace Body
variable {B : Body} {q k v g o e f : ℕ → ℕ → ℝ} (H : B.Reals q k v g o e f) (t p : ℕ) (ht : t < 8) (hp : p ≤ 1)
include H

theorem qT_real (i : Fin 256) (c : Fin 128) : B.qT t ht (ix2 i c) = (q (256 * t + i.val) c.val : EReal) :=
  (rows_apply B.a2 B.h2 B.x0 256 (256 * t) (le_diag t ht) i c).trans (H.hq (⟨256 * t + i.val, by omega⟩ : Fin 2048) c)
theorem gT_real (i : Fin 256) (c : Fin 128) : B.gT t ht (ix2 i c) = (g (256 * t + i.val) c.val : EReal) :=
  (rows_apply B.a6 B.h6 B.x4 256 (256 * t) (le_diag t ht) i c).trans (H.hg (⟨256 * t + i.val, by omega⟩ : Fin 2048) c)
theorem oT_real (i : Fin 256) (c : Fin 128) : B.oT t ht (ix2 i c) = (o (256 * t + i.val) c.val : EReal) :=
  (rows_apply B.a5 B.h5 B.x3 256 (256 * t) (le_diag t ht) i c).trans (H.ho (⟨256 * t + i.val, by omega⟩ : Fin 2048) c)
theorem eT_real (i : Fin 256) (c : Fin 128) : B.eT t ht (ix2 i c) = (e (c.val / 64) (256 * t + i.val) : EReal) :=
  (rows_apply B.a7 B.h7 B.x5 256 (256 * t) (le_diag t ht) i c).trans (H.he (⟨256 * t + i.val, by omega⟩ : Fin 2048) c)
theorem kR_real (n a : ℕ) (h : a + n ≤ 2048) (i : Fin n) (c : Fin 128) : B.kR n a h (ix2 i c) = (k (a + i.val) c.val : EReal) :=
  (rows_apply B.a3 B.h3 B.x1 n a h i c).trans (H.hk (⟨a + i.val, by omega⟩ : Fin 2048) c)
theorem vR_real (n a : ℕ) (h : a + n ≤ 2048) (i : Fin n) (c : Fin 128) : B.vR n a h (ix2 i c) = (v (a + i.val) c.val : EReal) :=
  (rows_apply B.a4 B.h4 B.x2 n a h i c).trans (H.hv (⟨a + i.val, by omega⟩ : Fin 2048) c)
theorem fR_real (n a : ℕ) (h : a + n ≤ 2048) (j : Fin n) :
    B.fR p hp n a h (ix4 (0 : Fin 1) (0 : Fin 1) (0 : Fin 1) j) = (f p (a + j.val) : EReal) :=
  (gates_apply B.a8 B.h8 B.x6 n p a hp h j).trans (H.hf (⟨p, by omega⟩ : Fin 2) (⟨a + j.val, by omega⟩ : Fin 2048))

include hp

theorem qHead_real (i : Fin 256) (c : Fin 128) :
    qHead (64 * p) (B.qT t ht) (ix2 i c) = if c.val / 64 = p then (q (256 * t + i.val) c.val : EReal) else 0 := by
  rw [qHead_apply p hp, qT_real H]
theorem gHead_real (i : Fin 256) (c : Fin 128) :
    gHead (64 * p) (B.gT t ht) (ix2 i c) = if c.val / 64 = p then (g (256 * t + i.val) c.val : EReal) else 0 := by
  rw [gHead_apply p hp, gT_real H]

theorem score_real (n a : ℕ) (h : a + n ≤ 2048) (i : Fin 256) (j : Fin n) :
    scoreV n (64 * p) (B.qT t ht) (B.kR n a h) (B.fR p hp n a h) (ix2 i j) = (scR q k f p (256 * t + i.val) (a + j.val) : EReal) := by
  rw [scoreV_apply, fR_real H, lane_dot p hp _ _ (q (256 * t + i.val)) (k (a + j.val)) (fun x => qHead_real H t p ht hp i x)
    (fun x => kR_real H n a h j x), ← EReal.coe_mul, ← EReal.coe_sub]
  rfl

theorem lse_real (i : Fin 256) : lseV (64 * p) (B.eT t ht) (ix2 i (0 : Fin 1)) = (e p (256 * t + i.val) : EReal) :=
  lseV_apply p hp _ i _ fun c hc => by rw [eT_real H, hc]

theorem delta_real (i : Fin 256) : deltaV (64 * p) (B.gT t ht) (B.oT t ht) (ix2 i (0 : Fin 1))
    = (hdot p g o (256 * t + i.val) (256 * t + i.val) : EReal) := by
  rw [deltaV_apply, lane_dot p hp _ _ (g (256 * t + i.val)) (o (256 * t + i.val)) (fun x => gHead_real H t p ht hp i x) (fun x => oT_real H t ht i x)]
  rfl

theorem dprob_real (n a : ℕ) (h : a + n ≤ 2048) (i : Fin 256) (j : Fin n) :
    dprobV n (64 * p) (B.gT t ht) (B.vR n a h) (ix2 i j) = (hdot p g v (256 * t + i.val) (a + j.val) : EReal) := by
  rw [dprobV_apply, lane_dot p hp _ _ (g (256 * t + i.val)) (v (a + j.val)) (fun x => gHead_real H t p ht hp i x) (fun x => vR_real H n a h j x)]
  rfl

theorem pOff_real (i : Fin 256) (j : Fin (256 * t)) :
    B.pOff t p ht hp (ix2 i j) = (prR q k e f p (256 * t + i.val) j.val : EReal) := by
  have h0 : 0 + j.val = j.val := Nat.zero_add _
  rw [pOff, probV_apply, lse_real H t p ht hp, sOff, score_real H t p ht hp, h0, ← EReal.coe_sub, Ideal.exp2_coe, prR, if_pos (by omega)]
theorem pDiag_real (i : Fin 256) (j : Fin 256) :
    B.pDiag t p ht hp (ix2 i j) = (prR q k e f p (256 * t + i.val) (256 * t + j.val) : EReal) := by
  rw [pDiag, probV_apply, lse_real H t p ht hp, sDiag, maskV_apply, score_real H t p ht hp, prR]
  by_cases hj : j.val ≤ i.val
  · rw [if_pos hj, if_pos (by omega), ← EReal.coe_sub, Ideal.exp2_coe]
  · rw [if_neg hj, if_neg (by omega), EReal.bot_sub, Ideal.exp2_bot]; rfl
theorem dOff_real (i : Fin 256) (j : Fin (256 * t)) :
    B.dOff t p ht hp (ix2 i j) = (dsR q k v g o e f p (256 * t + i.val) j.val : EReal) := by
  have h0 : 0 + j.val = j.val := Nat.zero_add _
  rw [dOff, dscoreV_apply, dprob_real H t p ht hp, delta_real H t p ht hp, h0, ← EReal.coe_sub]
  refine (congrArg (· * _) (pOff_real H t p ht hp i j)).trans ?_
  rw [← EReal.coe_mul]; rfl
theorem dDiag_real (i : Fin 256) (j : Fin 256) :
    B.dDiag t p ht hp (ix2 i j) = (dsR q k v g o e f p (256 * t + i.val) (256 * t + j.val) : EReal) := by
  rw [dDiag, dscoreV_apply, dprob_real H t p ht hp, delta_real H t p ht hp, ← EReal.coe_sub]
  refine (congrArg (· * _) (pDiag_real H t p ht hp i j)).trans ?_
  rw [← EReal.coe_mul]; rfl

end Body

end Cert.Own
end
-- ==== Proof.Chain.lean ====
module

public import proofs.«01_k».proof.Proof.Read

@[expose] public section

set_option maxRecDepth 16384

noncomputable section

namespace Cert.Own

open Idealize.ShloMosaic Cert.KernelIdeal Cert.KernelIdeal.Gen Idealize.SL.Sem
open Finset (range)

/-! ## What a list of pieces holds -/

/-- The pieces stored in an array of two axes. -/
abbrev Ps (R C : ℕ) (e : EltTy) := List (View.Piece (Elt Ideal) (Mx R C) e)

/-- The newest piece holds the indices of its rectangle, the older ones the rest. -/
theorem canon_ix2 {R C m n a b : ℕ} {e : EltTy} (inb : ∀ d, (![a, b] : Fin 2 → ℕ) d + (![m, n] : Fin 2 → ℕ) d ≤ (Mx R C).size d)
    (w : (Mx m n).Idx → Elt Ideal e) (L : Ps R C e) (r : Fin R) (c : Fin C) :
    View.canon ((⟨Rect.unit (s := Mx R C) ![a, b] ![m, n] inb, w⟩ : View.Piece (Elt Ideal) (Mx R C) e) :: L) (ix2 r c)
      = if h : (a ≤ r.val ∧ r.val < a + m) ∧ (b ≤ c.val ∧ c.val < b + n)
        then w (ix2 (⟨r.val - a, by omega⟩ : Fin m) (⟨c.val - b, by omega⟩ : Fin n)) else View.canon L (ix2 r c) := by
  split
  · next h =>
    rw [show (ix2 r c : (Mx R C).Idx) = (Rect.unit (s := Mx R C) ![a, b] ![m, n] inb).emb
        (ix2 (⟨r.val - a, by omega⟩ : Fin m) (⟨c.val - b, by omega⟩ : Fin n) : (Mx m n).Idx) from ?_]
    · exact View.canon_cons_emb (Rect.unit (s := Mx R C) ![a, b] ![m, n] inb) w L _
    · funext d; apply Fin.ext
      fin_cases d
      · show r.val = a + 1 * (r.val - a)
        omega
      · show c.val = b + 1 * (c.val - b)
        omega
  · next h =>
    refine View.canon_cons_of_not_mem _ L fun hm => h ?_
    have hm' := (Rect.mem_set_unit (inb := inb)).1 hm
    exact ⟨hm' 0, hm' 1⟩

/-- A load through a rectangle of two axes. -/
theorem readCov_ix2 {R C m n a b : ℕ} {e : EltTy} (v : View sig .tc .vmem (Mx R C) e)
    (inb : ∀ d, (![a, b] : Fin 2 → ℕ) d + (![m, n] : Fin 2 → ℕ) d ≤ (Mx R C).size d) (L : Ps R C e) (i : Fin m) (j : Fin n)
    (hi : a + i.val < R) (hj : b + j.val < C) :
    v.readCov L (Rect.unit (s := Mx R C) ![a, b] ![m, n] inb).toLoadRect (ix2 i j) = View.canon L (ix2 (⟨a + i.val, hi⟩ : Fin R) (⟨b + j.val, hj⟩ : Fin C)) := by
  rw [View.readCov_eq_canon']
  refine congrArg (View.canon L) ?_
  funext d; apply Fin.ext
  fin_cases d
  · show a + 1 * i.val = a + i.val
    omega
  · show b + 1 * j.val = b + j.val
    omega

/-- Rows below `n` hold the values `A`. -/
def RowsAre {e : EltTy} (L : Ps 2048 128 e) (n : ℕ) (A : ℕ → ℕ → Elt Ideal e) : Prop :=
  ∀ (i : Fin 2048) (c : Fin 128), i.val < n → View.canon L (ix2 i c) = A i.val c.val

/-- A tile of rows stored below the rows held. -/
theorem RowsAre.tile {e : EltTy} {L : Ps 2048 128 e} {A : ℕ → ℕ → Elt Ideal e} (t : ℕ) (ht : t < 8) (hL : RowsAre L (256 * t) A)
    (w : (Mx 256 128).Idx → Elt Ideal e) (hw : ∀ (i : Fin 256) (c : Fin 128), w (ix2 i c) = A (256 * t + i.val) c.val) :
    RowsAre ((⟨Rect.unit (s := Mx 2048 128) ![256 * t, 0] ![256, 128] (inbRows 256 (256 * t) (le_diag t ht)), w⟩ : View.Piece (Elt Ideal) (Mx 2048 128) e) :: L)
      (256 * (t + 1)) A := fun i c hi => by
  rw [canon_ix2]
  split
  · next h =>
    rw [hw]
    simp only [Nat.sub_zero]
    rw [Nat.add_sub_cancel' h.1.1]
  · next h => exact hL i c (by omega)

/-- A tile stored twice: only the last store is left. -/
theorem RowsAre.tile₂ {e : EltTy} {L : Ps 2048 128 e} {A : ℕ → ℕ → Elt Ideal e} (t : ℕ) (ht : t < 8) (hL : RowsAre L (256 * t) A)
    (w₀ w : (Mx 256 128).Idx → Elt Ideal e) (hw : ∀ (i : Fin 256) (c : Fin 128), w (ix2 i c) = A (256 * t + i.val) c.val) :
    RowsAre ((⟨Rect.unit (s := Mx 2048 128) ![256 * t, 0] ![256, 128] (inbRows 256 (256 * t) (le_diag t ht)), w⟩ : View.Piece (Elt Ideal) (Mx 2048 128) e) ::
      (⟨Rect.unit (s := Mx 2048 128) ![256 * t, 0] ![256, 128] (inbRows 256 (256 * t) (le_diag t ht)), w₀⟩ : View.Piece (Elt Ideal) (Mx 2048 128) e) :: L)
      (256 * (t + 1)) A := by
  refine RowsAre.tile t ht (fun i c hi => ?_) w hw
  rw [canon_ix2, dif_neg (by omega)]
  exact hL i c hi

/-! ## The two accumulators -/

/-- The accumulator holds the real values `A`. -/
def AccIs (L : Ps 128 2048 .f32) (A : ℕ → ℕ → ℝ) : Prop :=
  ∀ (c : Fin 128) (j : Fin 2048), View.canon L (ix2 c j) = (A c.val j.val : EReal)

theorem AccIs.zero (v : (Mx 128 2048).Idx → EReal) (hv : ∀ i, v i = 0) (inb) :
    AccIs [(⟨Rect.unit (s := Mx 128 2048) ![0, 0] ![128, 2048] inb, v⟩ : View.Piece (Elt Ideal) (Mx 128 2048) .f32)] (fun _ _ => 0) := fun c j => by
  rw [canon_ix2, dif_pos (by omega), hv]; rfl

theorem AccIs.piece {L : Ps 128 2048 .f32} {A : ℕ → ℕ → ℝ} (hL : AccIs L A) (v : View sig .tc .vmem (Mx 128 2048) .f32) (n p a : ℕ) (hp : p ≤ 1)
    (hb : a + n ≤ 2048) (X : FVec Ideal (Mx 256 128) .f32) (W : FVec Ideal (Mx 256 n) .bf16) (x w A' : ℕ → ℕ → ℝ)
    (hX : ∀ (i : Fin 256) (c : Fin 128), c.val / 64 = p → X (ix2 i c) = (x i.val c.val : EReal))
    (hW : ∀ (i : Fin 256) (j : Fin n), W (ix2 i j) = (w i.val (a + j.val) : EReal))
    (hA' : ∀ c j : ℕ, c < 128 → A' c j = if c / 64 = p ∧ a ≤ j ∧ j < a + n then A c j + ∑ i ∈ range 256, x i c * w i j else A c j) :
    AccIs ((⟨Rect.unit (s := Mx 128 2048) ![64 * p, a] ![64, n] (inbAcc n (64 * p) a (le_lo p hp) hb),
      accV n (64 * p) (le_lo p hp) X W (v.readCov L (Rect.unit (s := Mx 128 2048) ![64 * p, a] ![64, n] (inbAcc n (64 * p) a (le_lo p hp) hb)).toLoadRect)⟩ :
        View.Piece (Elt Ideal) (Mx 128 2048) .f32) :: L) A' := fun c j => by
  rw [canon_ix2, hA' _ _ c.isLt]
  have hcp : (64 * p ≤ c.val ∧ c.val < 64 * p + 64) ↔ c.val / 64 = p := by omega
  split
  · next h =>
    rw [if_pos ⟨hcp.1 h.1, h.2⟩, accV_apply, readCov_ix2 _ _ _ _ _ (by simp only; omega) (by simp only; omega)]
    rw [show (⟨64 * p + (⟨c.val - 64 * p, by omega⟩ : Fin 64).val, by simp only; omega⟩ : Fin 128) = c from Fin.ext (Nat.add_sub_cancel' h.1.1),
      show (⟨a + (⟨j.val - a, by omega⟩ : Fin n).val, by simp only; omega⟩ : Fin 2048) = j from Fin.ext (Nat.add_sub_cancel' h.2.1), hL c j,
      EReal.coe_add, coe_sum, ← Fin.sum_univ_eq_sum_range (fun i => ((x i c.val * w i j.val : ℝ) : EReal)) 256]
    congr 1
    refine Finset.sum_congr rfl fun i _ => ?_
    rw [hX i c (hcp.1 h.1), hW, EReal.coe_mul]
    simp only
    rw [Nat.add_sub_cancel' h.2.1]
  · next h => rw [if_neg (fun h' => h ⟨hcp.2 h'.1, h'.2⟩)]; exact hL c j

/-- Query rows a head has added after `u` units: each tile adds the first head, then the second. -/
def rowsDone (u h : ℕ) : ℕ := 256 * ((u + 1 - h) / 2)
theorem rowsDone_self (t p : ℕ) (hp : p ≤ 1) : rowsDone (2 * t + p) p = 256 * t := by unfold rowsDone; omega
theorem rowsDone_succ (t p : ℕ) (hp : p ≤ 1) : rowsDone (2 * t + p + 1) p = 256 * t + 256 := by unfold rowsDone; omega
theorem rowsDone_other (t p h : ℕ) (hp : p ≤ 1) (hh : h ≤ 1) (hne : h ≠ p) : rowsDone (2 * t + p + 1) h = rowsDone (2 * t + p) h := by
  unfold rowsDone; omega

/-- The accumulator's values after `u` units. -/
def accU (X : ℕ → ℕ → ℝ) (W : ℕ → ℕ → ℕ → ℝ) (u c j : ℕ) : ℝ := ∑ i ∈ range (rowsDone u (c / 64)), X i c * W (c / 64) i j

theorem accU_zero (X : ℕ → ℕ → ℝ) (W : ℕ → ℕ → ℕ → ℝ) (c j : ℕ) (hc : c < 128) : accU X W 0 c j = 0 := by
  unfold accU
  rw [show rowsDone 0 (c / 64) = 0 by unfold rowsDone; omega]; simp
theorem accU_succ (X : ℕ → ℕ → ℝ) (W : ℕ → ℕ → ℕ → ℝ) (t p c j : ℕ) (hp : p ≤ 1) (hc : c / 64 = p) :
    accU X W (2 * t + p + 1) c j = accU X W (2 * t + p) c j + ∑ i ∈ range 256, X (256 * t + i) c * W p (256 * t + i) j := by
  unfold accU
  rw [hc, rowsDone_self t p hp, rowsDone_succ t p hp, Finset.sum_range_add]
theorem accU_other (X : ℕ → ℕ → ℝ) (W : ℕ → ℕ → ℕ → ℝ) (t p c j : ℕ) (hp : p ≤ 1) (hc : c < 128) (hne : c / 64 ≠ p) :
    accU X W (2 * t + p + 1) c j = accU X W (2 * t + p) c j := by
  unfold accU
  rw [rowsDone_other t p _ hp (by omega) hne]
/-- Columns after the tile get nothing. -/
theorem accU_after (X : ℕ → ℕ → ℝ) (W : ℕ → ℕ → ℕ → ℝ) (hW : ∀ h i j, i < j → W h i j = 0) (t p c j : ℕ) (hp : p ≤ 1) (hc : c / 64 = p) (hj : 256 * t + 256 ≤ j) :
    accU X W (2 * t + p + 1) c j = accU X W (2 * t + p) c j := by
  rw [accU_succ X W t p c j hp hc, Finset.sum_eq_zero, add_zero]
  intro i hi
  rw [hW _ _ _ (by have := Finset.mem_range.1 hi; omega), mul_zero]

section acc
variable (X : ℕ → ℕ → ℝ) (W : ℕ → ℕ → ℕ → ℝ) (hW : ∀ h i j, i < j → W h i j = 0) (v : View sig .tc .vmem (Mx 128 2048) .f32)
  (t p : ℕ) (ht : t < 8) (hp : p ≤ 1) (Xt : FVec Ideal (Mx 256 128) .f32) (Wo : FVec Ideal (Mx 256 (256 * t)) .bf16) (Wd : FVec Ideal (Mx 256 256) .bf16)
  (hX : ∀ (i : Fin 256) (c : Fin 128), c.val / 64 = p → Xt (ix2 i c) = (X (256 * t + i.val) c.val : EReal))
  (ho : ∀ (i : Fin 256) (j : Fin (256 * t)), Wo (ix2 i j) = (W p (256 * t + i.val) j.val : EReal))
  (hd : ∀ (i : Fin 256) (j : Fin 256), Wd (ix2 i j) = (W p (256 * t + i.val) (256 * t + j.val) : EReal))
  (L : Ps 128 2048 .f32)

/-- The piece of the keys before the tile. -/
abbrev offP : View.Piece (Elt Ideal) (Mx 128 2048) .f32 :=
  ⟨Rect.unit (s := Mx 128 2048) ![64 * p, 0] ![64, 256 * t] (inbAcc (256 * t) (64 * p) 0 (le_lo p hp) (le_off t ht)),
    accV (256 * t) (64 * p) (le_lo p hp) Xt Wo (v.readCov L (Rect.unit (s := Mx 128 2048) ![64 * p, 0] ![64, 256 * t] (inbAcc (256 * t) (64 * p) 0 (le_lo p hp) (le_off t ht))).toLoadRect)⟩
/-- The piece of the tile's own keys. -/
abbrev diagP : View.Piece (Elt Ideal) (Mx 128 2048) .f32 :=
  ⟨Rect.unit (s := Mx 128 2048) ![64 * p, 256 * t] ![64, 256] (inbAcc 256 (64 * p) (256 * t) (le_lo p hp) (le_diag t ht)),
    accV 256 (64 * p) (le_lo p hp) Xt Wd (v.readCov L (Rect.unit (s := Mx 128 2048) ![64 * p, 256 * t] ![64, 256] (inbAcc 256 (64 * p) (256 * t) (le_lo p hp) (le_diag t ht))).toLoadRect)⟩

include hW hX hd in
theorem AccIs.first (h0 : t = 0) (hL : AccIs L (accU X W (2 * t + p))) : AccIs (diagP v t p ht hp Xt Wd L :: L) (accU X W (2 * t + p + 1)) := by
  refine hL.piece v 256 p (256 * t) hp (le_diag t ht) Xt Wd (fun i c => X (256 * t + i) c) (fun i j => W p (256 * t + i) j) _ hX hd fun c j hc => ?_
  split
  · next h => exact accU_succ X W t p c j hp h.1
  · next h =>
    by_cases hcp : c / 64 = p
    · exact accU_after X W hW t p c j hp hcp (by omega)
    · exact accU_other X W t p c j hp hc hcp

include hW hX ho hd in
theorem AccIs.step (hL : AccIs L (accU X W (2 * t + p))) :
    AccIs (diagP v t p ht hp Xt Wd (offP v t p ht hp Xt Wo L :: L) :: offP v t p ht hp Xt Wo L :: L) (accU X W (2 * t + p + 1)) := by
  have h1 : AccIs (offP v t p ht hp Xt Wo L :: L) (fun c j => if j < 256 * t then accU X W (2 * t + p + 1) c j else accU X W (2 * t + p) c j) := by
    refine hL.piece v (256 * t) p 0 hp (le_off t ht) Xt Wo (fun i c => X (256 * t + i) c) (fun i j => W p (256 * t + i) j) _ hX
      (fun i j => by rw [ho, Nat.zero_add]) fun c j hc => ?_
    by_cases hcp : c / 64 = p
    · by_cases hj : j < 256 * t
      · rw [if_pos hj, if_pos ⟨hcp, by omega, by omega⟩]; exact accU_succ X W t p c j hp hcp
      · rw [if_neg hj, if_neg (by omega)]
    · rw [if_neg (fun h : c / 64 = p ∧ 0 ≤ j ∧ j < 0 + 256 * t => hcp h.1)]; exact (congrArg (fun z => if j < 256 * t then z else _) (accU_other X W t p c j hp hc hcp)).trans (ite_self _)
  refine h1.piece v 256 p (256 * t) hp (le_diag t ht) Xt Wd (fun i c => X (256 * t + i) c) (fun i j => W p (256 * t + i) j) _ hX hd fun c j hc => ?_
  split
  · next h => rw [if_neg (by omega)]; exact accU_succ X W t p c j hp h.1
  · next h =>
    split
    · rfl
    · by_cases hcp : c / 64 = p
      · exact accU_after X W hW t p c j hp hcp (by omega)
      · exact accU_other X W t p c j hp hc hcp
end acc

theorem rowsDone_all (h : ℕ) (hh : h ≤ 1) : rowsDone 16 h = 2048 := by unfold rowsDone; omega

/-! ## The gate's gradient -/

abbrev Gs := List (View.Piece (Elt Ideal) S1x2x1x2048 .f32)

def GateIs (L : Gs) (A : ℕ → ℕ → ℝ) : Prop :=
  ∀ (h : Fin 2) (j : Fin 2048), View.canon L (ix4 (0 : Fin 1) h (0 : Fin 1) j) = (A h.val j.val : EReal)

theorem canon_ix4 {n p a : ℕ} (hp : p ≤ 1) (hb : a + n ≤ 2048) (w : (⟨4, ![1, 1, 1, n]⟩ : Shape).Idx → EReal) (L : Gs) (h : Fin 2) (j : Fin 2048) :
    View.canon ((⟨Rect.unit (s := S1x2x1x2048) ![0, p, 0, a] ![1, 1, 1, n] (inbGate n p a hp hb), w⟩ : View.Piece (Elt Ideal) S1x2x1x2048 .f32) :: L)
        (ix4 (0 : Fin 1) h (0 : Fin 1) j)
      = if q : h.val = p ∧ (a ≤ j.val ∧ j.val < a + n)
        then w (ix4 (0 : Fin 1) (0 : Fin 1) (0 : Fin 1) (⟨j.val - a, by omega⟩ : Fin n)) else View.canon L (ix4 (0 : Fin 1) h (0 : Fin 1) j) := by
  split
  · next q =>
    rw [show (ix4 (0 : Fin 1) h (0 : Fin 1) j : S1x2x1x2048.Idx) = (Rect.unit (s := S1x2x1x2048) ![0, p, 0, a] ![1, 1, 1, n] (inbGate n p a hp hb)).emb
        (ix4 (0 : Fin 1) (0 : Fin 1) (0 : Fin 1) (⟨j.val - a, by omega⟩ : Fin n) : (⟨4, ![1, 1, 1, n]⟩ : Shape).Idx) from ?_]
    · exact View.canon_cons_emb (Rect.unit (s := S1x2x1x2048) ![0, p, 0, a] ![1, 1, 1, n] (inbGate n p a hp hb)) w L _
    · funext d; apply Fin.ext
      fin_cases d
      · rfl
      · show h.val = p + 1 * 0
        omega
      · rfl
      · show j.val = a + 1 * (j.val - a)
        omega
  · next q =>
    refine View.canon_cons_of_not_mem _ L fun hm => q ?_
    have hm' := (Rect.mem_set_unit (inb := inbGate n p a hp hb)).1 hm
    have h1 : p ≤ h.val ∧ h.val < p + 1 := hm' 1
    exact ⟨by omega, hm' 3⟩

theorem readCov_ix4 {n p a : ℕ} (hp : p ≤ 1) (hb : a + n ≤ 2048) (v : View sig .tc .vmem S1x2x1x2048 .f32) (L : Gs) (j : Fin n) :
    v.readCov L (Rect.unit (s := S1x2x1x2048) ![0, p, 0, a] ![1, 1, 1, n] (inbGate n p a hp hb)).toLoadRect (ix4 (0 : Fin 1) (0 : Fin 1) (0 : Fin 1) j)
      = View.canon L (ix4 (0 : Fin 1) (⟨p, by omega⟩ : Fin 2) (0 : Fin 1) (⟨a + j.val, by omega⟩ : Fin 2048)) := by
  rw [View.readCov_eq_canon']
  refine congrArg (View.canon L) ?_
  funext d; apply Fin.ext
  fin_cases d
  · rfl
  · show p + 1 * 0 = p
    omega
  · rfl
  · show a + 1 * j.val = a + j.val
    omega

theorem GateIs.piece {L : Gs} {A : ℕ → ℕ → ℝ} (hL : GateIs L A) (v : View sig .tc .vmem S1x2x1x2048 .f32) (n p a : ℕ) (hp : p ≤ 1)
    (hb : a + n ≤ 2048) (D : FVec Ideal (Mx 256 n) .f32) (w A' : ℕ → ℕ → ℝ)
    (hD : ∀ (i : Fin 256) (j : Fin n), D (ix2 i j) = (w i.val (a + j.val) : EReal))
    (hA' : ∀ h j : ℕ, h < 2 → A' h j = if h = p ∧ a ≤ j ∧ j < a + n then A h j - ∑ i ∈ range 256, w i j else A h j) :
    GateIs ((⟨Rect.unit (s := S1x2x1x2048) ![0, p, 0, a] ![1, 1, 1, n] (inbGate n p a hp hb),
      gateV n D (v.readCov L (Rect.unit (s := S1x2x1x2048) ![0, p, 0, a] ![1, 1, 1, n] (inbGate n p a hp hb)).toLoadRect)⟩ :
        View.Piece (Elt Ideal) S1x2x1x2048 .f32) :: L) A' := fun h j => by
  rw [canon_ix4 hp hb, hA' _ _ h.isLt]
  split
  · next q =>
    rw [gateV_apply, readCov_ix4 hp hb]
    rw [show (⟨p, by omega⟩ : Fin 2) = h from Fin.ext q.1.symm,
      show (⟨a + (⟨j.val - a, by omega⟩ : Fin n).val, by simp only; omega⟩ : Fin 2048) = j from Fin.ext (Nat.add_sub_cancel' q.2.1), hL h j,
      EReal.coe_sub, coe_sum, ← Fin.sum_univ_eq_sum_range (fun i => ((w i j.val : ℝ) : EReal)) 256]
    congr 1
    refine Finset.sum_congr rfl fun i _ => ?_
    rw [hD]
    simp only
    rw [Nat.add_sub_cancel' q.2.1]
  · next q => exact hL h j

theorem GateIs.zero (v : S1x2x1x2048.Idx → EReal) (hv : ∀ i, v i = 0)
    (inb : ∀ d, (![0, 0, 0, 0] : Fin 4 → ℕ) d + (![1, 2, 1, 2048] : Fin 4 → ℕ) d ≤ S1x2x1x2048.size d) :
    GateIs [(⟨Rect.unit (s := S1x2x1x2048) ![0, 0, 0, 0] ![1, 2, 1, 2048] inb, v⟩ : View.Piece (Elt Ideal) S1x2x1x2048 .f32)] (fun _ _ => 0) := fun h j => by
  have e : (Rect.unit (s := S1x2x1x2048) ![0, 0, 0, 0] ![1, 2, 1, 2048] inb).emb
      (ix4 (0 : Fin 1) h (0 : Fin 1) j : (⟨4, ![1, 2, 1, 2048]⟩ : Shape).Idx) = (ix4 (0 : Fin 1) h (0 : Fin 1) j : S1x2x1x2048.Idx) := by
    funext d; apply Fin.ext
    rw [Rect.emb_apply]
    fin_cases d <;> simp
  have e2 := View.canon_cons_emb (Val := Elt Ideal) (e := .f32) (Rect.unit (s := S1x2x1x2048) ![0, 0, 0, 0] ![1, 2, 1, 2048] inb) v []
    (ix4 (0 : Fin 1) h (0 : Fin 1) j : (⟨4, ![1, 2, 1, 2048]⟩ : Shape).Idx)
  rw [e] at e2
  rw [e2, hv]
  exact EReal.coe_zero.symm

/-- The gate's gradient after `u` units. -/
def gateU (W : ℕ → ℕ → ℕ → ℝ) (u h j : ℕ) : ℝ := - ∑ i ∈ range (rowsDone u h), W h i j

theorem gateU_zero (W : ℕ → ℕ → ℕ → ℝ) (h j : ℕ) (hh : h < 2) : gateU W 0 h j = 0 := by
  unfold gateU
  rw [show rowsDone 0 h = 0 by unfold rowsDone; omega]; simp
theorem gateU_succ (W : ℕ → ℕ → ℕ → ℝ) (t p j : ℕ) (hp : p ≤ 1) :
    gateU W (2 * t + p + 1) p j = gateU W (2 * t + p) p j - ∑ i ∈ range 256, W p (256 * t + i) j := by
  unfold gateU
  rw [rowsDone_self t p hp, rowsDone_succ t p hp, Finset.sum_range_add]; ring
theorem gateU_other (W : ℕ → ℕ → ℕ → ℝ) (t p h j : ℕ) (hp : p ≤ 1) (hh : h < 2) (hne : h ≠ p) :
    gateU W (2 * t + p + 1) h j = gateU W (2 * t + p) h j := by
  unfold gateU
  rw [rowsDone_other t p _ hp (by omega) hne]
theorem gateU_after (W : ℕ → ℕ → ℕ → ℝ) (hW : ∀ h i j, i < j → W h i j = 0) (t p j : ℕ) (hp : p ≤ 1) (hj : 256 * t + 256 ≤ j) :
    gateU W (2 * t + p + 1) p j = gateU W (2 * t + p) p j := by
  rw [gateU_succ W t p j hp, Finset.sum_eq_zero, sub_zero]
  intro i hi
  rw [hW _ _ _ (by have := Finset.mem_range.1 hi; omega)]

section gate
variable (W : ℕ → ℕ → ℕ → ℝ) (hW : ∀ h i j, i < j → W h i j = 0) (v : View sig .tc .vmem S1x2x1x2048 .f32)
  (t p : ℕ) (ht : t < 8) (hp : p ≤ 1) (Do : FVec Ideal (Mx 256 (256 * t)) .f32) (Dd : FVec Ideal (Mx 256 256) .f32)
  (ho : ∀ (i : Fin 256) (j : Fin (256 * t)), Do (ix2 i j) = (W p (256 * t + i.val) j.val : EReal))
  (hd : ∀ (i : Fin 256) (j : Fin 256), Dd (ix2 i j) = (W p (256 * t + i.val) (256 * t + j.val) : EReal))
  (L : Gs)

abbrev goffP : View.Piece (Elt Ideal) S1x2x1x2048 .f32 :=
  ⟨Rect.unit (s := S1x2x1x2048) ![0, p, 0, 0] ![1, 1, 1, 256 * t] (inbGate (256 * t) p 0 hp (le_off t ht)),
    gateV (256 * t) Do (v.readCov L (Rect.unit (s := S1x2x1x2048) ![0, p, 0, 0] ![1, 1, 1, 256 * t] (inbGate (256 * t) p 0 hp (le_off t ht))).toLoadRect)⟩
abbrev gdiagP : View.Piece (Elt Ideal) S1x2x1x2048 .f32 :=
  ⟨Rect.unit (s := S1x2x1x2048) ![0, p, 0, 256 * t] ![1, 1, 1, 256] (inbGate 256 p (256 * t) hp (le_diag t ht)),
    gateV 256 Dd (v.readCov L (Rect.unit (s := S1x2x1x2048) ![0, p, 0, 256 * t] ![1, 1, 1, 256] (inbGate 256 p (256 * t) hp (le_diag t ht))).toLoadRect)⟩

include hW hd in
theorem GateIs.first (h0 : t = 0) (hL : GateIs L (gateU W (2 * t + p))) : GateIs (gdiagP v t p ht hp Dd L :: L) (gateU W (2 * t + p + 1)) := by
  refine hL.piece v 256 p (256 * t) hp (le_diag t ht) Dd (fun i j => W p (256 * t + i) j) _ hd fun h j hh => ?_
  split
  · next q => obtain ⟨rfl, -⟩ := q; exact gateU_succ W t h j hp
  · next q =>
    by_cases hcp : h = p
    · subst hcp; exact gateU_after W hW t h j hp (by omega)
    · exact gateU_other W t p h j hp hh hcp

include hW ho hd in
theorem GateIs.step (hL : GateIs L (gateU W (2 * t + p))) :
    GateIs (gdiagP v t p ht hp Dd (goffP v t p ht hp Do L :: L) :: goffP v t p ht hp Do L :: L) (gateU W (2 * t + p + 1)) := by
  have h1 : GateIs (goffP v t p ht hp Do L :: L) (fun h j => if j < 256 * t then gateU W (2 * t + p + 1) h j else gateU W (2 * t + p) h j) := by
    refine hL.piece v (256 * t) p 0 hp (le_off t ht) Do (fun i j => W p (256 * t + i) j) _
      (fun i j => by rw [ho, Nat.zero_add]) fun h j hh => ?_
    by_cases hcp : h = p
    · subst hcp
      by_cases hj : j < 256 * t
      · rw [if_pos hj, if_pos ⟨rfl, by omega, by omega⟩]; exact gateU_succ W t h j hp
      · rw [if_neg hj, if_neg (by omega)]
    · rw [if_neg (fun q : h = p ∧ 0 ≤ j ∧ j < 0 + 256 * t => hcp q.1)]; exact (congrArg (fun z => if j < 256 * t then z else _) (gateU_other W t p h j hp hh hcp)).trans (ite_self _)
  refine h1.piece v 256 p (256 * t) hp (le_diag t ht) Dd (fun i j => W p (256 * t + i) j) _ hd fun h j hh => ?_
  split
  · next q => rw [if_neg (by omega)]; obtain ⟨rfl, -⟩ := q; exact gateU_succ W t h j hp
  · next q =>
    split
    · rfl
    · by_cases hcp : h = p
      · subst hcp; exact gateU_after W hW t h j hp (by omega)
      · exact gateU_other W t p h j hp hh hcp
end gate

end Cert.Own
end
-- ==== Proof.Outs.lean ====
module

public import proofs.«01_k».proof.Proof.Chain

@[expose] public section

set_option maxRecDepth 200000

noncomputable section

namespace Cert.Own

open Idealize.ShloMosaic Cert.KernelIdeal Cert.KernelIdeal.Gen Idealize.SL.Sem
open Finset (range)

/-! ## Sums over a tile's keys -/

/-- A tile's sum over the keys before it and its own keys is the sum over all keys of what vanishes after the row. -/
theorem tile_sum (t : ℕ) (ht : t < 8) (F : ℕ → ℝ) (hF : ∀ j, 256 * t + 256 ≤ j → F j = 0) :
    ∑ j ∈ range (256 * t), F j + ∑ j ∈ range 256, F (256 * t + j) = ∑ j ∈ range 2048, F j := by
  rw [← Finset.sum_range_add, show 2048 = (256 * t + 256) + (2048 - (256 * t + 256)) by omega, Finset.sum_range_add F (256 * t + 256),
    Finset.sum_eq_zero (s := range (2048 - (256 * t + 256))) fun j _ => hF _ (Nat.le_add_right _ _), add_zero]

theorem fin_sum (n a : ℕ) (F : Fin n → EReal) (f : ℕ → ℝ) (h : ∀ x, F x = (f (a + x.val) : EReal)) :
    ∑ x, F x = ((∑ x ∈ range n, f (a + x) : ℝ) : EReal) := by
  rw [coe_sum, ← Fin.sum_univ_eq_sum_range (fun x => ((f (a + x) : ℝ) : EReal)) n]
  exact Finset.sum_congr rfl fun x _ => h x

/-- A vector of zeros. -/
abbrev zeroV (s : Shape) : FVec Ideal s .f32 := broadcast s (Scalar.ofBits (F := Ideal) .f32 0x00000000#32)
theorem zeroV_apply (s : Shape) (i : s.Idx) : zeroV s i = (0 : EReal) := by
  show Ideal.ofBits .f32 0x00000000#32 = 0
  simp [Ideal.ofBits, Ideal.ieee]

namespace Body
variable {B : Body} {q k v g o e f : ℕ → ℕ → ℝ} (H : B.Reals q k v g o e f) (t p : ℕ) (ht : t < 8) (hp : p ≤ 1)

theorem pr_after (h i j : ℕ) (hij : i < j) : prR q k e f h i j = 0 := by rw [prR, if_neg (by omega)]
theorem ds_after (h i j : ℕ) (hij : i < j) : dsR q k v g o e f h i j = 0 := by rw [dsR, pr_after h i j hij, zero_mul]

/-- The scaled gradient of the scores of one head. -/
def ssR (q k v g o e f : ℕ → ℕ → ℝ) (p i j : ℕ) : ℝ := dsR q k v g o e f p i j * (1 / 8)
theorem ss_after (h i j : ℕ) (hij : i < j) : ssR q k v g o e f h i j = 0 := by rw [ssR, ds_after h i j hij, zero_mul]

/-! ## The values' gradient -/

section dv
variable (B)
/-- The transposed factor and the columns of one unit of the values' gradient. -/
abbrev dvX : FVec Ideal (Mx 256 128) .f32 := gHead (64 * p) (B.gT t ht)
abbrev dvO : FVec Ideal (Mx 256 (256 * t)) .bf16 := truncf .bf16 (B.pOff t p ht hp) bitsLt_bf16_f32
abbrev dvD : FVec Ideal (Mx 256 256) .bf16 := truncf .bf16 (B.pDiag t p ht hp) bitsLt_bf16_f32
abbrev dkX : FVec Ideal (Mx 256 128) .f32 := extf .f32 (qHead (64 * p) (B.qT t ht)) bitsLt_bf16_f32
abbrev dkO : FVec Ideal (Mx 256 (256 * t)) .bf16 := sscoreV (256 * t) (B.dOff t p ht hp)
abbrev dkD : FVec Ideal (Mx 256 256) .bf16 := sscoreV 256 (B.dDiag t p ht hp)
end dv

include H
theorem dvX_real (i : Fin 256) (c : Fin 128) (hc : c.val / 64 = p) : B.dvX t p ht (ix2 i c) = (g (256 * t + i.val) c.val : EReal) := by
  have hp : p ≤ 1 := by omega
  rw [dvX, gHead_real H t p ht hp, if_pos hc]
theorem dvO_real (i : Fin 256) (j : Fin (256 * t)) : B.dvO t p ht hp (ix2 i j) = (prR q k e f p (256 * t + i.val) j.val : EReal) :=
  pOff_real H t p ht hp i j
theorem dvD_real (i : Fin 256) (j : Fin 256) : B.dvD t p ht hp (ix2 i j) = (prR q k e f p (256 * t + i.val) (256 * t + j.val) : EReal) :=
  pDiag_real H t p ht hp i j
theorem dkX_real (i : Fin 256) (c : Fin 128) (hc : c.val / 64 = p) : B.dkX t p ht (ix2 i c) = (q (256 * t + i.val) c.val : EReal) := by
  have hp : p ≤ 1 := by omega
  refine (qHead_real H t p ht hp i c).trans ?_
  rw [if_pos hc]
theorem dkO_real (i : Fin 256) (j : Fin (256 * t)) : B.dkO t p ht hp (ix2 i j) = (ssR q k v g o e f p (256 * t + i.val) j.val : EReal) := by
  rw [dkO, sscoreV_apply, dOff_real H t p ht hp, ← EReal.coe_mul]; rfl
theorem dkD_real (i : Fin 256) (j : Fin 256) : B.dkD t p ht hp (ix2 i j) = (ssR q k v g o e f p (256 * t + i.val) (256 * t + j.val) : EReal) := by
  rw [dkD, sscoreV_apply, dDiag_real H t p ht hp, ← EReal.coe_mul]; rfl

theorem dv_first (L' : Ps 128 2048 .f32) (h0 : t = 0) (hL : ∃ L, L' = diagP B.a15.view t p ht hp (B.dvX t p ht) (B.dvD t p ht hp) L :: L ∧
    AccIs L (accU g (prR q k e f) (2 * t + p))) : AccIs L' (accU g (prR q k e f) (2 * t + p + 1)) := by
  obtain ⟨L, rfl, hL⟩ := hL
  exact AccIs.first g (prR q k e f) pr_after _ t p ht hp _ _ (dvX_real H t p ht) (dvD_real H t p ht hp) L h0 hL
theorem dv_step (L' : Ps 128 2048 .f32) (hL : ∃ L, L' = diagP B.a15.view t p ht hp (B.dvX t p ht) (B.dvD t p ht hp)
      (offP B.a15.view t p ht hp (B.dvX t p ht) (B.dvO t p ht hp) L :: L) :: offP B.a15.view t p ht hp (B.dvX t p ht) (B.dvO t p ht hp) L :: L ∧
    AccIs L (accU g (prR q k e f) (2 * t + p))) : AccIs L' (accU g (prR q k e f) (2 * t + p + 1)) := by
  obtain ⟨L, rfl, hL⟩ := hL
  exact AccIs.step g (prR q k e f) pr_after _ t p ht hp _ _ _ (dvX_real H t p ht) (dvO_real H t p ht hp) (dvD_real H t p ht hp) L hL
theorem dk_first (L' : Ps 128 2048 .f32) (h0 : t = 0) (hL : ∃ L, L' = diagP B.a14.view t p ht hp (B.dkX t p ht) (B.dkD t p ht hp) L :: L ∧
    AccIs L (accU q (ssR q k v g o e f) (2 * t + p))) : AccIs L' (accU q (ssR q k v g o e f) (2 * t + p + 1)) := by
  obtain ⟨L, rfl, hL⟩ := hL
  exact AccIs.first q (ssR q k v g o e f) ss_after _ t p ht hp _ _ (dkX_real H t p ht) (dkD_real H t p ht hp) L h0 hL
theorem dk_step (L' : Ps 128 2048 .f32) (hL : ∃ L, L' = diagP B.a14.view t p ht hp (B.dkX t p ht) (B.dkD t p ht hp)
      (offP B.a14.view t p ht hp (B.dkX t p ht) (B.dkO t p ht hp) L :: L) :: offP B.a14.view t p ht hp (B.dkX t p ht) (B.dkO t p ht hp) L :: L ∧
    AccIs L (accU q (ssR q k v g o e f) (2 * t + p))) : AccIs L' (accU q (ssR q k v g o e f) (2 * t + p + 1)) := by
  obtain ⟨L, rfl, hL⟩ := hL
  exact AccIs.step q (ssR q k v g o e f) ss_after _ t p ht hp _ _ _ (dkX_real H t p ht) (dkO_real H t p ht hp) (dkD_real H t p ht hp) L hL
theorem gate_first (L' : Gs) (h0 : t = 0) (hL : ∃ L, L' = gdiagP B.a12.view t p ht hp (B.dDiag t p ht hp) L :: L ∧
    GateIs L (gateU (dsR q k v g o e f) (2 * t + p))) : GateIs L' (gateU (dsR q k v g o e f) (2 * t + p + 1)) := by
  obtain ⟨L, rfl, hL⟩ := hL
  exact GateIs.first (dsR q k v g o e f) ds_after _ t p ht hp _ (dDiag_real H t p ht hp) L h0 hL
theorem gate_step (L' : Gs) (hL : ∃ L, L' = gdiagP B.a12.view t p ht hp (B.dDiag t p ht hp)
      (goffP B.a12.view t p ht hp (B.dOff t p ht hp) L :: L) :: goffP B.a12.view t p ht hp (B.dOff t p ht hp) L :: L ∧
    GateIs L (gateU (dsR q k v g o e f) (2 * t + p))) : GateIs L' (gateU (dsR q k v g o e f) (2 * t + p + 1)) := by
  obtain ⟨L, rfl, hL⟩ := hL
  exact GateIs.step (dsR q k v g o e f) ds_after _ t p ht hp _ _ (dOff_real H t p ht hp) (dDiag_real H t p ht hp) L hL

omit H in
theorem acc_start (L : Ps 128 2048 .f32) (X : ℕ → ℕ → ℝ) (W : ℕ → ℕ → ℕ → ℝ)
    (hL : L = [(⟨Rect.unit (s := Mx 128 2048) ![0, 0] ![128, 2048] inb_S128x2048_S128x2048_0_0, shapeCast (Mx 128 2048) (zeroV (Mx 128 2048)) (sc_id _)⟩ : View.Piece (Elt Ideal) (Mx 128 2048) .f32)]) :
    AccIs L (accU X W 0) := fun c j => by
  subst hL
  rw [accU_zero X W _ _ c.isLt]
  exact AccIs.zero (shapeCast (Mx 128 2048) (zeroV (Mx 128 2048)) (sc_id _)) (fun i => zeroV_apply (Mx 128 2048) (Shape.reshapeEquiv (sc_id (Mx 128 2048)) i)) _ c j
omit H in
theorem gate_start (L : Gs) (W : ℕ → ℕ → ℕ → ℝ)
    (hL : L = [(⟨Rect.unit (s := S1x2x1x2048) ![0, 0, 0, 0] ![1, 2, 1, 2048] inb_S1x2x1x2048_S1x2x1x2048_0_0_0_0, shapeCast S1x2x1x2048 (zeroV S1x2x1x2048) (sc_id _)⟩ : View.Piece (Elt Ideal) S1x2x1x2048 .f32)]) :
    GateIs L (gateU W 0) := fun h j => by
  subst hL
  rw [gateU_zero W _ _ h.isLt]
  exact GateIs.zero (shapeCast S1x2x1x2048 (zeroV S1x2x1x2048) (sc_id _)) (fun i => zeroV_apply S1x2x1x2048 (Shape.reshapeEquiv (sc_id S1x2x1x2048) i)) _ h j

end Body

variable {B : Body} {q k v g o e f : ℕ → ℕ → ℝ} (H : B.Reals q k v g o e f)
include H

theorem dvt_real : AccIs B.run.2.2.2.2.2.2.1 (accU g (prR q k e f) 16) := by
  refine Body.dv_step H 7 1 (by decide) (by decide) _ ⟨_, rfl, ?_⟩
  refine Body.dv_step H 7 0 (by decide) (by decide) _ ⟨_, rfl, ?_⟩
  refine Body.dv_step H 6 1 (by decide) (by decide) _ ⟨_, rfl, ?_⟩
  refine Body.dv_step H 6 0 (by decide) (by decide) _ ⟨_, rfl, ?_⟩
  refine Body.dv_step H 5 1 (by decide) (by decide) _ ⟨_, rfl, ?_⟩
  refine Body.dv_step H 5 0 (by decide) (by decide) _ ⟨_, rfl, ?_⟩
  refine Body.dv_step H 4 1 (by decide) (by decide) _ ⟨_, rfl, ?_⟩
  refine Body.dv_step H 4 0 (by decide) (by decide) _ ⟨_, rfl, ?_⟩
  refine Body.dv_step H 3 1 (by decide) (by decide) _ ⟨_, rfl, ?_⟩
  refine Body.dv_step H 3 0 (by decide) (by decide) _ ⟨_, rfl, ?_⟩
  refine Body.dv_step H 2 1 (by decide) (by decide) _ ⟨_, rfl, ?_⟩
  refine Body.dv_step H 2 0 (by decide) (by decide) _ ⟨_, rfl, ?_⟩
  refine Body.dv_step H 1 1 (by decide) (by decide) _ ⟨_, rfl, ?_⟩
  refine Body.dv_step H 1 0 (by decide) (by decide) _ ⟨_, rfl, ?_⟩
  refine Body.dv_first H 0 1 (by decide) (by decide) _ rfl ⟨_, rfl, ?_⟩
  refine Body.dv_first H 0 0 (by decide) (by decide) _ rfl ⟨_, rfl, ?_⟩
  exact Body.acc_start _ _ _ rfl

theorem dkt_real : AccIs B.run.2.2.2.2.2.1 (accU q (Body.ssR q k v g o e f) 16) := by
  refine Body.dk_step H 7 1 (by decide) (by decide) _ ⟨_, rfl, ?_⟩
  refine Body.dk_step H 7 0 (by decide) (by decide) _ ⟨_, rfl, ?_⟩
  refine Body.dk_step H 6 1 (by decide) (by decide) _ ⟨_, rfl, ?_⟩
  refine Body.dk_step H 6 0 (by decide) (by decide) _ ⟨_, rfl, ?_⟩
  refine Body.dk_step H 5 1 (by decide) (by decide) _ ⟨_, rfl, ?_⟩
  refine Body.dk_step H 5 0 (by decide) (by decide) _ ⟨_, rfl, ?_⟩
  refine Body.dk_step H 4 1 (by decide) (by decide) _ ⟨_, rfl, ?_⟩
  refine Body.dk_step H 4 0 (by decide) (by decide) _ ⟨_, rfl, ?_⟩
  refine Body.dk_step H 3 1 (by decide) (by decide) _ ⟨_, rfl, ?_⟩
  refine Body.dk_step H 3 0 (by decide) (by decide) _ ⟨_, rfl, ?_⟩
  refine Body.dk_step H 2 1 (by decide) (by decide) _ ⟨_, rfl, ?_⟩
  refine Body.dk_step H 2 0 (by decide) (by decide) _ ⟨_, rfl, ?_⟩
  refine Body.dk_step H 1 1 (by decide) (by decide) _ ⟨_, rfl, ?_⟩
  refine Body.dk_step H 1 0 (by decide) (by decide) _ ⟨_, rfl, ?_⟩
  refine Body.dk_first H 0 1 (by decide) (by decide) _ rfl ⟨_, rfl, ?_⟩
  refine Body.dk_first H 0 0 (by decide) (by decide) _ rfl ⟨_, rfl, ?_⟩
  exact Body.acc_start _ _ _ rfl

theorem dfr_real : GateIs B.run.2.2.2.1 (gateU (dsR q k v g o e f) 16) := by
  refine Body.gate_step H 7 1 (by decide) (by decide) _ ⟨_, rfl, ?_⟩
  refine Body.gate_step H 7 0 (by decide) (by decide) _ ⟨_, rfl, ?_⟩
  refine Body.gate_step H 6 1 (by decide) (by decide) _ ⟨_, rfl, ?_⟩
  refine Body.gate_step H 6 0 (by decide) (by decide) _ ⟨_, rfl, ?_⟩
  refine Body.gate_step H 5 1 (by decide) (by decide) _ ⟨_, rfl, ?_⟩
  refine Body.gate_step H 5 0 (by decide) (by decide) _ ⟨_, rfl, ?_⟩
  refine Body.gate_step H 4 1 (by decide) (by decide) _ ⟨_, rfl, ?_⟩
  refine Body.gate_step H 4 0 (by decide) (by decide) _ ⟨_, rfl, ?_⟩
  refine Body.gate_step H 3 1 (by decide) (by decide) _ ⟨_, rfl, ?_⟩
  refine Body.gate_step H 3 0 (by decide) (by decide) _ ⟨_, rfl, ?_⟩
  refine Body.gate_step H 2 1 (by decide) (by decide) _ ⟨_, rfl, ?_⟩
  refine Body.gate_step H 2 0 (by decide) (by decide) _ ⟨_, rfl, ?_⟩
  refine Body.gate_step H 1 1 (by decide) (by decide) _ ⟨_, rfl, ?_⟩
  refine Body.gate_step H 1 0 (by decide) (by decide) _ ⟨_, rfl, ?_⟩
  refine Body.gate_first H 0 1 (by decide) (by decide) _ rfl ⟨_, rfl, ?_⟩
  refine Body.gate_first H 0 0 (by decide) (by decide) _ rfl ⟨_, rfl, ?_⟩
  exact Body.gate_start _ _ rfl

end Cert.Own
end
-- ==== Proof.HostRead.lean ====
module

public import proofs.«01_k».proof.Proof.Host
public import proofs.«01_k».proof.Proof.Outs

@[expose] public section

set_option maxRecDepth 16384

noncomputable section

namespace Cert.Own

open Idealize.ShloMosaic Idealize.ShloMosaic.TcCoe Cert.KernelIdeal Cert.KernelIdeal.Gen Idealize.SL.Sem
open Finset (range)

/-! ## Constants -/

theorem bot_word : Ideal.ofBits .f32 0xFF800000#32 = (⊥ : EReal) := by simp [Ideal.ofBits, Ideal.ieee]
theorem eighth_word : Ideal.ofBits .f32 0x3E000000#32 = ((1 / 8 : ℝ) : EReal) := by
  simp [Ideal.ofBits, Ideal.ieee]
  rw [← EReal.coe_mul]; norm_num
theorem two_word : Ideal.ofBits .f32 0x40000000#32 = ((2 : ℝ) : EReal) := by
  simp [Ideal.ofBits, Ideal.ieee]
  rw [← EReal.coe_mul]; norm_num

theorem sum_real (n : ℕ) (F : Fin n → EReal) (f : ℕ → ℝ) (h : ∀ x, F x = (f x.val : EReal)) :
    ∑ x, F x = ((∑ x ∈ range n, f x : ℝ) : EReal) := by
  rw [fin_sum n 0 F f fun x => by rw [h, Nat.zero_add]]
  simp only [Nat.zero_add]

theorem div_real {x y : EReal} {a c : ℝ} (hx : x = (a : EReal)) (hy : y = (c : EReal)) (hc : c ≠ 0) : Ideal.div x y = ((a / c : ℝ) : EReal) := by
  rw [hx, hy, Ideal.div_coe hc, ← EReal.coe_mul, mul_one_div]

/-! ## Arrays with real entries -/

section
variable (b : Fin 2) (h : Fin 6)

def FlatAre {e : EltTy} (x : S4096x384.Idx → Elt Ideal e) (a : ℕ → ℕ → Elt Ideal e) : Prop := ∀ (R : Fin 4096) (C : Fin 384), x (ix2 R C) = a R.val C.val
def HeadAre (x : Heads) (a : ℕ → ℕ → ℝ) : Prop := ∀ (i : Fin 2048) (d : Fin 64), x (ix4 b h i d) = (a i.val d.val : EReal)
def PairAre (x : Pairs) (a : ℕ → ℕ → ℝ) : Prop := ∀ i j : Fin 2048, x (ix4 b h i j) = (a i.val j.val : EReal)
def RowAre (x : Gate) (a : ℕ → ℝ) : Prop := ∀ i : Fin 2048, x (ix3 b h i) = (a i.val : EReal)

/-- A flat array of reals seen at one batch and head. -/
abbrev part (a : ℕ → ℕ → ℝ) (b h : ℕ) (i d : ℕ) : ℝ := a (2048 * b + i) (64 * h + d)

variable {b h}

theorem heads_real {x : Flat} {a : ℕ → ℕ → ℝ} (hx : FlatAre (e := .f32) x fun R C => (a R C : EReal)) : HeadAre b h (heads x) (part a b h) := fun i d => by
  pointwise [heads]
  refine (hx _ _).trans ?_
  show ((a (b.val * 2048 + i.val) (h.val * 64 + d.val) : ℝ) : EReal) = _
  rw [Nat.mul_comm, Nat.mul_comm h.val]

theorem flat_real {y : Heads} {a : ℕ → ℕ → ℕ → ℕ → ℝ} (hy : ∀ b h, HeadAre b h y (a b.val h.val)) :
    FlatAre (e := .f32) (flat y) fun R C => (a (R / 2048) (C / 64) (R % 2048) (C % 64) : EReal) := fun R C => by
  pointwise [flat]
  rw [hy]

theorem dots_real {x y : Heads} {a c : ℕ → ℕ → ℝ} (hx : HeadAre b h x a) (hy : HeadAre b h y c) :
    PairAre b h (dots x y) fun i j => ∑ d ∈ range 64, a i d * c j d := fun i j => by
  pointwise [dots]
  exact sum_real _ _ (fun d => a i d * c j d) fun d => by rw [hx, hy, ← EReal.coe_mul]

theorem mix_real {w : Pairs} {y : Heads} {a c : ℕ → ℕ → ℝ} (hw : PairAre b h w a) (hy : HeadAre b h y c) :
    HeadAre b h (mix w y) fun i d => ∑ j ∈ range 2048, a i j * c j d := fun i d => by
  pointwise [mix]
  exact sum_real _ _ (fun j => a i j * c j d) fun j => by rw [hw, hy, ← EReal.coe_mul]

theorem eighths_real {x : Pairs} {a : ℕ → ℕ → ℝ} (hx : PairAre b h x a) : PairAre b h (eighths x) fun i j => a i j * (1 / 8) := fun i j => by
  pointwise [eighths]
  rw [hx, eighth_word, ← EReal.coe_mul]

theorem gateKeys_real {f : Gate} {a : ℕ → ℝ} (hf : RowAre b h f a) : PairAre b h (gateKeys f) fun _ j => a j := fun i j => by
  pointwise [gateKeys]
  exact hf j

theorem spread_real {f : Gate} {a : ℕ → ℝ} (hf : RowAre b h f a) : PairAre b h (spread (col f)) fun i _ => a i := fun i j => by
  pointwise [spread, col]
  exact hf i

theorem causal_apply (i j : Fin 2048) : causal (ix4 b h i j) = if j.val ≤ i.val then 1#1 else 0#1 := by
  pointwise [causal]
  have h1 : (BitVec.ofNat 32 j.val).toInt = j.val := by
    rw [BitVec.toInt_eq_toNat_of_lt (by rw [BitVec.toNat_ofNat]; omega), BitVec.toNat_ofNat]; omega
  have h2 : (BitVec.ofNat 32 i.val).toInt = i.val := by
    rw [BitVec.toInt_eq_toNat_of_lt (by rw [BitVec.toNat_ofNat]; omega), BitVec.toNat_ofNat]; omega
  simp only [IntOp.cmpi, BitVec.sle, h1, h2]
  by_cases h : j.val ≤ i.val <;> simp [h]

/-- Scores, minus infinity at the unseen pairs. -/
def MaskedAre (b : Fin 2) (h : Fin 6) (x : Pairs) (s : ℕ → ℕ → ℝ) : Prop :=
  ∀ i j : Fin 2048, x (ix4 b h i j) = if j.val ≤ i.val then (s i.val j.val : EReal) else ⊥

theorem masked_real {x : Pairs} {s : ℕ → ℕ → ℝ} (hx : PairAre b h x s) : MaskedAre b h (masked x) s := fun i j => by
  pointwise [masked]
  rw [causal_apply, hx, bot_word]
  split <;> rfl

theorem rowMax_real {x : Pairs} {s : ℕ → ℕ → ℝ} (hx : MaskedAre b h x s) : ∃ M : ℕ → ℝ, RowAre b h (rowMax x) M := by
  refine ⟨fun n => if hn : n < 2048 then (rowMax x (ix3 b h ⟨n, hn⟩)).toReal else 0, fun i => ?_⟩
  beta_reduce
  rw [dif_pos i.isLt]
  refine (EReal.coe_toReal (ne_of_lt ?_) (ne_of_gt ?_)).symm
  · pointwise [rowMax]
    rw [bot_word, Finset.fold_max_lt]
    exact ⟨bot_lt_top, fun j _ => by rw [hx]; split; · exact EReal.coe_lt_top _
                                     · exact bot_lt_top⟩
  · pointwise [rowMax]
    rw [bot_word, Finset.lt_fold_max]
    exact .inr ⟨0, Finset.mem_univ _, by rw [hx, if_pos (show (0 : Fin 2048).val ≤ i.val from Nat.zero_le _)]; exact EReal.bot_lt_coe _⟩

theorem rowSum_real {x : Pairs} {a : ℕ → ℕ → ℝ} (hx : PairAre b h x a) : RowAre b h (rowSum x) fun i => ∑ j ∈ range 2048, a i j := fun i => by
  pointwise [rowSum]
  exact sum_real _ _ (fun j => a i j) fun j => hx i j

theorem log_real {x : EReal} {a : ℝ} (hx : x = (a : EReal)) (ha : 0 < a) : Ideal.log x = (Real.log a : EReal) := by
  rw [hx, Ideal.log_coe, if_neg (not_le.2 ha)]

/-- The exponentials of a row of scores less a number, zero at the unseen pairs. -/
def expR (s : ℕ → ℕ → ℝ) (M : ℕ → ℝ) (i j : ℕ) : ℝ := if j ≤ i then Real.exp (s i j - M i) else 0
/-- Their sum. -/
def sumR (s : ℕ → ℕ → ℝ) (M : ℕ → ℝ) (i : ℕ) : ℝ := ∑ j ∈ range 2048, expR s M i j

theorem exps_real {x : Pairs} {m : Gate} {s : ℕ → ℕ → ℝ} {M : ℕ → ℝ} (hx : MaskedAre b h x s) (hm : RowAre b h m M) :
    PairAre b h (exps x m) (expR s M) := fun i j => by
  pointwise [exps, spread, col]
  rw [hx, hm, expR]
  split
  · rw [← EReal.coe_sub]; rfl
  · rfl

theorem sumR_pos (s : ℕ → ℕ → ℝ) (M : ℕ → ℝ) (i : ℕ) : 0 < sumR s M i := by
  refine Finset.sum_pos' (fun j _ => ?_) ⟨0, by simp, ?_⟩
  · unfold expR; split
    · exact (Real.exp_pos _).le
    · exact le_refl _
  · unfold expR; rw [if_pos (Nat.zero_le _)]; exact Real.exp_pos _

/-- The weights of the keys in a query's row. -/
def prT (s : ℕ → ℕ → ℝ) (i j : ℕ) : ℝ := expR s 0 i j / sumR s 0 i

/-- Adding a number per row to the scores changes no weight. -/
theorem expR_shift (s s' : ℕ → ℕ → ℝ) (M M' t : ℕ → ℝ) (hs : ∀ i j, s' i j = s i j + t i) (i j : ℕ) :
    expR s' M' i j = expR s M i j * Real.exp (t i + M i - M' i) := by
  unfold expR; split
  · rw [← Real.exp_add, hs]; congr 1; ring
  · rw [zero_mul]

theorem probs_shift (s s' : ℕ → ℕ → ℝ) (M M' t : ℕ → ℝ) (hs : ∀ i j, s' i j = s i j + t i) (i j : ℕ) :
    expR s' M' i j / sumR s' M' i = expR s M i j / sumR s M i := by
  unfold sumR
  simp only [expR_shift s s' M M' t hs]
  rw [← Finset.sum_mul, mul_div_mul_right _ _ (Real.exp_pos _).ne']

theorem probs_eq (s s' : ℕ → ℕ → ℝ) (M' t : ℕ → ℝ) (hs : ∀ i j, s' i j = s i j + t i) (i j : ℕ) :
    expR s' M' i j / sumR s' M' i = prT s i j := probs_shift s s' 0 M' t hs i j

theorem probs_real {x : Pairs} {s : ℕ → ℕ → ℝ} {M : ℕ → ℝ} (hx : PairAre b h x (expR s M)) : PairAre b h (probs x) (prT s) := fun i j => by
  rw [← probs_eq s s M 0 fun i j => (add_zero _).symm]
  refine div_real (hx i j) ?_ (sumR_pos s M i).ne'
  exact spread_real (rowSum_real hx) i j

end

/-! ## The host's arrays -/

/-- The scores of one head, the gate of the query left out. -/
def scT (q k : ℕ → ℕ → ℝ) (f : ℕ → ℕ → ℕ → ℝ) (b h i j : ℕ) : ℝ := (∑ d ∈ range 64, part q b h i d * part k b h j d) * (1 / 8) - f b h j

variable {xq xk xv : FVec Ideal S4096x384 .bf16} {xf : Gate} {q k v : ℕ → ℕ → ℝ} {f : ℕ → ℕ → ℕ → ℝ}
  (hq : FlatAre (e := .bf16) xq fun R C => (q R C : EReal)) (hk : FlatAre (e := .bf16) xk fun R C => (k R C : EReal)) (hv : FlatAre (e := .bf16) xv fun R C => (v R C : EReal))
  (hf : ∀ b h, RowAre b h xf (f b.val h.val))

include hq hk hf in
theorem hostS_real (b : Fin 2) (h : Fin 6) : MaskedAre b h (hostS xq xk xf) (scT q k f b h) := by
  refine masked_real fun i j => ?_
  rw [show ∀ a c : Pairs, subf a c (ix4 b h i j) = a (ix4 b h i j) - c (ix4 b h i j) from fun _ _ => rfl,
    eighths_real (dots_real (heads_real (x := extf .f32 xq _) hq) (heads_real (x := extf .f32 xk _) hk)), gateKeys_real (hf b h), ← EReal.coe_sub]
  rfl

include hq hk hv hf in
theorem hostO_real : FlatAre (e := .f32) (hostO xq xk xv xf) fun R C =>
    ((∑ j ∈ range 2048, prT (scT q k f (R / 2048) (C / 64)) (R % 2048) j * part v (R / 2048) (C / 64) j (C % 64) : ℝ) : EReal) :=
  flat_real (a := fun b h i d => ∑ j ∈ range 2048, prT (scT q k f b h) i j * part v b h j d) fun b h => by
    obtain ⟨M, hM⟩ := rowMax_real (hostS_real hq hk hf b h)
    exact mix_real (probs_real (exps_real (hostS_real hq hk hf b h) hM)) (heads_real (x := extf .f32 xv _) hv)

include hq hk hf in
theorem hostM_real : ∃ M : ℕ → ℕ → ℕ → ℝ, ∀ (b : Fin 2) (h : Fin 6), RowAre b h (rowMax (hostS xq xk xf)) (M b.val h.val) := by
  choose M hM using fun b h => rowMax_real (hostS_real hq hk hf b h)
  refine ⟨fun b h => if hb : b < 2 then if hh : h < 6 then M ⟨b, hb⟩ ⟨h, hh⟩ else 0 else 0, fun b h => ?_⟩
  simp only [b.isLt, h.isLt, ↓reduceDIte]
  exact hM b h

include hq hk hf in
theorem hostL_real (M : ℕ → ℕ → ℕ → ℝ) (hM : ∀ (b : Fin 2) (h : Fin 6), RowAre b h (rowMax (hostS xq xk xf)) (M b.val h.val)) (b : Fin 2) (h : Fin 6) :
    RowAre b h (rowSum (hostX xq xk xf)) (sumR (scT q k f b h) (M b h)) :=
  rowSum_real (exps_real (hostS_real hq hk hf b h) (hM b h))

theorem norms_real (b : Fin 2) (h : Fin 6) (x l : Gate) (M L : ℕ → ℝ) (hx : RowAre b h x M) (hl : RowAre b h l L) (hL : ∀ i, 0 < L i) : HeadAre b h
    (broadcastInDim S2x6x2048x64 ![0, 1, 2, 3] bcast_S2x6x2048x1_S2x6x2048x64_0_1_2_3
    (Host.divf (addf (col x) (Host.log (col l)))
      (broadcastInDim S2x6x2048x1 ![] bcast_S_S2x6x2048x1 (Host.log (constant (F := Ideal) S_ .f32 0x40000000#32)))))
    fun i _ => (M i + Real.log (L i)) / Real.log 2 := fun i d => by
  pointwise [col]
  rw [two_word, hx, hl]
  refine div_real ?_ (log_real rfl two_pos) (Real.log_pos one_lt_two).ne'
  rw [log_real rfl (hL _), EReal.coe_add]

include hq hk hf in
theorem hostE_real : ∃ M : ℕ → ℕ → ℕ → ℝ, FlatAre (e := .f32) (hostE xq xk xf) fun R C =>
    (((M (R / 2048) (C / 64) (R % 2048) + Real.log (sumR (scT q k f (R / 2048) (C / 64)) (M (R / 2048) (C / 64)) (R % 2048))) / Real.log 2 : ℝ) : EReal) := by
  obtain ⟨M, hM⟩ := hostM_real hq hk hf
  exact ⟨M, flat_real (a := fun b h i _ => (M b h i + Real.log (sumR (scT q k f b h) (M b h) i)) / Real.log 2) fun b h =>
    norms_real b h _ _ _ _ (hM b h) (hostL_real hq hk hf M hM b h) (sumR_pos _ _)⟩

include hf in
theorem hostF_real (b : Fin 2) (h : Fin 6) (j : Fin 2048) : hostF xf (ix4 b h 0 j) = ((f b h j / Real.log 2 : ℝ) : EReal) := by
  pointwise [hostF]
  rw [two_word]
  exact div_real (hf b h j) (log_real rfl two_pos) (Real.log_pos one_lt_two).ne'

end Cert.Own
-- ==== Proof.Rows.lean ====
module

public import proofs.«01_k».proof.Proof.Outs

@[expose] public section

set_option maxRecDepth 200000

noncomputable section

namespace Cert.Own

open Idealize.ShloMosaic Cert.KernelIdeal Cert.KernelIdeal.Gen Idealize.SL.Sem
open Finset (range)

/-- A tile of rows. -/
abbrev rowRect (t : ℕ) (ht : t < 8) : Rect (Mx 2048 128) := Rect.unit (s := Mx 2048 128) ![256 * t, 0] ![256, 128] (inbRows 256 (256 * t) (le_diag t ht))
/-- The tile of rows as a stored piece. -/
abbrev rowP {e : EltTy} (t : ℕ) (ht : t < 8) (w : (Mx 256 128).Idx → Elt Ideal e) : View.Piece (Elt Ideal) (Mx 2048 128) e := ⟨rowRect t ht, w⟩

/-- A tile read back just after its store. -/
theorem readBack {e : EltTy} (v : View sig .tc .vmem (Mx 2048 128) e) (t : ℕ) (ht : t < 8) (w : (Mx 256 128).Idx → Elt Ideal e) (L : Ps 2048 128 e)
    (i : Fin 256) (c : Fin 128) : v.readCov (rowP t ht w :: L) (rowRect t ht).toLoadRect (ix2 i c) = w (ix2 i c) := by
  rw [readCov_ix2 v _ _ i c (by omega) (by omega), canon_ix2, dif_pos (by simp only; omega)]
  congr 2
  · exact Fin.ext (Nat.add_sub_cancel_left ..)
  · exact Fin.ext (by simp only; omega)

theorem shapeCast_self_apply {α : Type} (s : Shape) (x : s.Idx → α) (i : s.Idx) : shapeCast s x (sc_id s) i = x i :=
  congrArg x (Shape.reshapeEquiv_self _ _)

namespace Body
variable {B : Body} {q k v g o e f : ℕ → ℕ → ℝ} (H : B.Reals q k v g o e f) (t p : ℕ) (ht : t < 8) (hp : p ≤ 1)

/-! ## The queries' gradient -/

/-- The queries' gradient, and the row sums of the scores' gradient. -/
def dqR (q k v g o e f : ℕ → ℕ → ℝ) (i c : ℕ) : ℝ := ∑ j ∈ range 2048, ssR q k v g o e f (c / 64) i j * k j c
def rsR (q k v g o e f : ℕ → ℕ → ℝ) (i c : ℕ) : ℝ := ∑ j ∈ range 2048, dsR q k v g o e f (c / 64) i j

section defs
variable (B)
abbrev dqO : FVec Ideal (Mx 256 128) .f32 := dqV (256 * t) (B.dkO t p ht hp) (B.kR (256 * t) 0 (le_off t ht)) (zeroV (Mx 256 128))
abbrev dqD (prev : FVec Ideal (Mx 256 128) .f32) : FVec Ideal (Mx 256 128) .f32 := dqV 256 (B.dkD t p ht hp) (B.kR 256 (256 * t) (le_diag t ht)) prev
abbrev rsO : FVec Ideal (Mx 256 1) .f32 := rowV (256 * t) (B.dOff t p ht hp) (zeroV (Mx 256 1))
abbrev rsD (prev : FVec Ideal (Mx 256 1) .f32) : FVec Ideal (Mx 256 1) .f32 := rowV 256 (B.dDiag t p ht hp) prev
/-- The second head's store: what the first left plus the second head's lanes. -/
abbrev dqTwo (m : View sig .tc .vmem (Mx 2048 128) .bf16) (L : Ps 2048 128 .bf16) (D0 D1 : FVec Ideal (Mx 256 128) .f32) : FVec Ideal (Mx 256 128) .bf16 :=
  addf (shapeCast (Mx 256 128) (m.readCov (rowP t ht (dqHead (64 * 0) D0) :: L) (rowRect t ht).toLoadRect) (sc_id _) : FVec Ideal (Mx 256 128) .bf16) (dqHead (64 * 1) D1)
abbrev rsTwo (m : View sig .tc .vmem (Mx 2048 128) .f32) (L : Ps 2048 128 .f32) (D0 D1 : FVec Ideal (Mx 256 1) .f32) : FVec Ideal (Mx 256 128) .f32 :=
  addf (shapeCast (Mx 256 128) (m.readCov (rowP t ht (rowHead (64 * 0) D0) :: L) (rowRect t ht).toLoadRect) (sc_id _) : FVec Ideal (Mx 256 128) .f32) (rowHead (64 * 1) D1)
end defs

theorem dqTwo_apply (m : View sig .tc .vmem (Mx 2048 128) .bf16) (L : Ps 2048 128 .bf16) (D0 D1 : FVec Ideal (Mx 256 128) .f32) (A : ℕ → ℕ → ℝ)
    (h0 : ∀ (i : Fin 256) (c : Fin 128), c.val / 64 = 0 → D0 (ix2 i c) = (A (256 * t + i.val) c.val : EReal))
    (h1 : ∀ (i : Fin 256) (c : Fin 128), c.val / 64 = 1 → D1 (ix2 i c) = (A (256 * t + i.val) c.val : EReal)) (i : Fin 256) (c : Fin 128) :
    dqTwo t ht m L D0 D1 (ix2 i c) = (A (256 * t + i.val) c.val : EReal) := by
  have e1 : dqTwo t ht m L D0 D1 (ix2 i c) = dqHead (64 * 0) D0 (ix2 i c) + dqHead (64 * 1) D1 (ix2 i c) := by
    refine congrArg (· + dqHead (64 * 1) D1 (ix2 i c)) ?_
    exact (shapeCast_self_apply (Mx 256 128) _ _).trans (readBack m t ht _ L i c)
  rw [e1, dqHead_apply 0 (by omega), dqHead_apply 1 (by omega)]
  obtain hc | hc : c.val / 64 = 0 ∨ c.val / 64 = 1 := by omega
  · rw [if_pos hc, if_neg (by omega), h0 i c hc, add_zero]
  · rw [if_neg (by omega), if_pos hc, h1 i c hc, zero_add]

theorem rsTwo_apply (m : View sig .tc .vmem (Mx 2048 128) .f32) (L : Ps 2048 128 .f32) (D0 D1 : FVec Ideal (Mx 256 1) .f32) (A : ℕ → ℕ → ℝ)
    (h0 : ∀ (i : Fin 256) (c : Fin 128), c.val / 64 = 0 → D0 (ix2 i (0 : Fin 1)) = (A (256 * t + i.val) c.val : EReal))
    (h1 : ∀ (i : Fin 256) (c : Fin 128), c.val / 64 = 1 → D1 (ix2 i (0 : Fin 1)) = (A (256 * t + i.val) c.val : EReal)) (i : Fin 256) (c : Fin 128) :
    rsTwo t ht m L D0 D1 (ix2 i c) = (A (256 * t + i.val) c.val : EReal) := by
  have e1 : rsTwo t ht m L D0 D1 (ix2 i c) = rowHead (64 * 0) D0 (ix2 i c) + rowHead (64 * 1) D1 (ix2 i c) := by
    refine congrArg (· + rowHead (64 * 1) D1 (ix2 i c)) ?_
    exact (shapeCast_self_apply (Mx 256 128) _ _).trans (readBack m t ht _ L i c)
  rw [e1, rowHead_apply 0 (by omega), rowHead_apply 1 (by omega)]
  obtain hc | hc : c.val / 64 = 0 ∨ c.val / 64 = 1 := by omega
  · rw [if_pos hc, if_neg (by omega), h0 i c hc, add_zero]
  · rw [if_neg (by omega), if_pos hc, h1 i c hc, zero_add]

include H
theorem dqO_real (i : Fin 256) (c : Fin 128) : B.dqO t p ht hp (ix2 i c)
    = ((∑ j ∈ range (256 * t), ssR q k v g o e f p (256 * t + i.val) j * k j c.val : ℝ) : EReal) := by
  rw [dqO, dqV_apply, zeroV_apply, zero_add,
    fin_sum (256 * t) 0 _ (fun j => ssR q k v g o e f p (256 * t + i.val) j * k j c.val) fun x => by
      rw [dkO_real H t p ht hp, kR_real H, Nat.zero_add, EReal.coe_mul]]
  simp only [Nat.zero_add]
theorem dqD_real (prev : FVec Ideal (Mx 256 128) .f32)
    (hprev : ∀ (i : Fin 256) (c : Fin 128), prev (ix2 i c) = ((∑ j ∈ range (256 * t), ssR q k v g o e f p (256 * t + i.val) j * k j c.val : ℝ) : EReal))
    (i : Fin 256) (c : Fin 128) (hc : c.val / 64 = p) : B.dqD t p ht hp prev (ix2 i c) = (dqR q k v g o e f (256 * t + i.val) c.val : EReal) := by
  rw [dqD, dqV_apply, hprev,
    fin_sum 256 (256 * t) _ (fun j => ssR q k v g o e f p (256 * t + i.val) j * k j c.val) fun x => by
      rw [dkD_real H t p ht hp, kR_real H, EReal.coe_mul], ← EReal.coe_add,
    tile_sum t ht (fun j => ssR q k v g o e f p (256 * t + i.val) j * k j c.val) fun j hj => by rw [ss_after _ _ _ (by omega), zero_mul], dqR, hc]
theorem rsO_real (i : Fin 256) : B.rsO t p ht hp (ix2 i (0 : Fin 1))
    = ((∑ j ∈ range (256 * t), dsR q k v g o e f p (256 * t + i.val) j : ℝ) : EReal) := by
  rw [rsO, rowV_apply, zeroV_apply, zero_add,
    fin_sum (256 * t) 0 _ (fun j => dsR q k v g o e f p (256 * t + i.val) j) fun x => by rw [dOff_real H t p ht hp, Nat.zero_add]]
  simp only [Nat.zero_add]
theorem rsD_real (prev : FVec Ideal (Mx 256 1) .f32)
    (hprev : ∀ i : Fin 256, prev (ix2 i (0 : Fin 1)) = ((∑ j ∈ range (256 * t), dsR q k v g o e f p (256 * t + i.val) j : ℝ) : EReal))
    (i : Fin 256) (c : Fin 128) (hc : c.val / 64 = p) : B.rsD t p ht hp prev (ix2 i (0 : Fin 1)) = (rsR q k v g o e f (256 * t + i.val) c.val : EReal) := by
  rw [rsD, rowV_apply, hprev,
    fin_sum 256 (256 * t) _ (fun j => dsR q k v g o e f p (256 * t + i.val) j) fun x => dDiag_real H t p ht hp i x, ← EReal.coe_add,
    tile_sum t ht (fun j => dsR q k v g o e f p (256 * t + i.val) j) fun j hj => ds_after _ _ _ (by omega), rsR, hc]

theorem dq_first (ht : 0 < 8) (L' : Ps 2048 128 .bf16)
    (hL : L' = [rowP 0 ht (dqTwo 0 ht B.a9.view [] (B.dqD 0 0 ht (by decide) (zeroV _)) (B.dqD 0 1 ht (by decide) (zeroV _))),
      rowP 0 ht (dqHead (64 * 0) (B.dqD 0 0 ht (by decide) (zeroV _)))]) :
    RowsAre L' (256 * (0 + 1)) fun i c => (dqR q k v g o e f i c : EReal) := by
  subst hL
  refine RowsAre.tile₂ 0 ht (fun i c hi => absurd hi (by omega)) _ _ fun i c => dqTwo_apply 0 ht _ _ _ _ (dqR q k v g o e f) ?_ ?_ i c
  · exact fun i c hc => dqD_real H 0 0 ht (by decide) _ (fun i c => by rw [zeroV_apply]; rfl) i c hc
  · exact fun i c hc => dqD_real H 0 1 ht (by decide) _ (fun i c => by rw [zeroV_apply]; rfl) i c hc
theorem dq_step (L' : Ps 2048 128 .bf16)
    (hL : ∃ L, L' = rowP t ht (dqTwo t ht B.a9.view L (B.dqD t 0 ht (by decide) (B.dqO t 0 ht (by decide))) (B.dqD t 1 ht (by decide) (B.dqO t 1 ht (by decide)))) ::
      rowP t ht (dqHead (64 * 0) (B.dqD t 0 ht (by decide) (B.dqO t 0 ht (by decide)))) :: L ∧ RowsAre L (256 * t) fun i c => (dqR q k v g o e f i c : EReal)) :
    RowsAre L' (256 * (t + 1)) fun i c => (dqR q k v g o e f i c : EReal) := by
  obtain ⟨L, rfl, hL⟩ := hL
  refine RowsAre.tile₂ t ht hL _ _ fun i c => dqTwo_apply t ht _ _ _ _ (dqR q k v g o e f) ?_ ?_ i c
  · exact fun i c hc => dqD_real H t 0 ht (by decide) _ (dqO_real H t 0 ht (by decide)) i c hc
  · exact fun i c hc => dqD_real H t 1 ht (by decide) _ (dqO_real H t 1 ht (by decide)) i c hc
theorem rs_first (ht : 0 < 8) (L' : Ps 2048 128 .f32)
    (hL : L' = [rowP 0 ht (rsTwo 0 ht B.a13.view [] (B.rsD 0 0 ht (by decide) (zeroV _)) (B.rsD 0 1 ht (by decide) (zeroV _))),
      rowP 0 ht (rowHead (64 * 0) (B.rsD 0 0 ht (by decide) (zeroV _)))]) :
    RowsAre L' (256 * (0 + 1)) fun i c => (rsR q k v g o e f i c : EReal) := by
  subst hL
  refine RowsAre.tile₂ 0 ht (fun i c hi => absurd hi (by omega)) _ _ fun i c => rsTwo_apply 0 ht _ _ _ _ (rsR q k v g o e f) ?_ ?_ i c
  · exact fun i c hc => rsD_real H 0 0 ht (by decide) _ (fun i => by rw [zeroV_apply]; rfl) i c hc
  · exact fun i c hc => rsD_real H 0 1 ht (by decide) _ (fun i => by rw [zeroV_apply]; rfl) i c hc
theorem rs_step (L' : Ps 2048 128 .f32)
    (hL : ∃ L, L' = rowP t ht (rsTwo t ht B.a13.view L (B.rsD t 0 ht (by decide) (B.rsO t 0 ht (by decide))) (B.rsD t 1 ht (by decide) (B.rsO t 1 ht (by decide)))) ::
      rowP t ht (rowHead (64 * 0) (B.rsD t 0 ht (by decide) (B.rsO t 0 ht (by decide)))) :: L ∧ RowsAre L (256 * t) fun i c => (rsR q k v g o e f i c : EReal)) :
    RowsAre L' (256 * (t + 1)) fun i c => (rsR q k v g o e f i c : EReal) := by
  obtain ⟨L, rfl, hL⟩ := hL
  refine RowsAre.tile₂ t ht hL _ _ fun i c => rsTwo_apply t ht _ _ _ _ (rsR q k v g o e f) ?_ ?_ i c
  · exact fun i c hc => rsD_real H t 0 ht (by decide) _ (rsO_real H t 0 ht (by decide)) i c hc
  · exact fun i c hc => rsD_real H t 1 ht (by decide) _ (rsO_real H t 1 ht (by decide)) i c hc

omit H in
/-- The transposed accumulator's rows. -/
theorem tr_step (m : View sig .tc .vmem (Mx 128 2048) .f32) (T : Ps 128 2048 .f32) (A : ℕ → ℕ → ℝ) (hT : AccIs T A) (L' : Ps 2048 128 .bf16)
    (hL : ∃ L, L' = rowP t ht (truncf (F := Ideal) (φ := .f32) .bf16 (transpose (Mx 256 128) [1, 0] (m.readCov T (Rect.unit (s := Mx 128 2048) ![0, 256 * t] ![128, 256]
        (fun d => by fin_cases d; · exact Nat.le_refl _
                     · exact le_diag t ht)).toLoadRect) transposes_S128x256_p1_0_S256x128) bitsLt_bf16_f32) :: L ∧
      RowsAre L (256 * t) fun i c => (A c i : EReal)) : RowsAre L' (256 * (t + 1)) fun i c => (A c i : EReal) := by
  obtain ⟨L, rfl, hL⟩ := hL
  refine RowsAre.tile t ht hL _ fun i c => ?_
  pointwise
  rw [readCov_ix2 _ _ _ _ _ (by omega) (by omega), hT]
  simp only [Nat.zero_add]

end Body

variable {B : Body} {q k v g o e f : ℕ → ℕ → ℝ} (H : B.Reals q k v g o e f)
include H

theorem dq_real : RowsAre B.run.1 2048 fun i c => (Body.dqR q k v g o e f i c : EReal) := by
  refine Body.dq_step H 7 (by decide) _ ⟨_, rfl, ?_⟩
  refine Body.dq_step H 6 (by decide) _ ⟨_, rfl, ?_⟩
  refine Body.dq_step H 5 (by decide) _ ⟨_, rfl, ?_⟩
  refine Body.dq_step H 4 (by decide) _ ⟨_, rfl, ?_⟩
  refine Body.dq_step H 3 (by decide) _ ⟨_, rfl, ?_⟩
  refine Body.dq_step H 2 (by decide) _ ⟨_, rfl, ?_⟩
  refine Body.dq_step H 1 (by decide) _ ⟨_, rfl, ?_⟩
  exact Body.dq_first H (by decide) _ rfl

theorem dfq_real : RowsAre B.run.2.2.2.2.1 2048 fun i c => (Body.rsR q k v g o e f i c : EReal) := by
  refine Body.rs_step H 7 (by decide) _ ⟨_, rfl, ?_⟩
  refine Body.rs_step H 6 (by decide) _ ⟨_, rfl, ?_⟩
  refine Body.rs_step H 5 (by decide) _ ⟨_, rfl, ?_⟩
  refine Body.rs_step H 4 (by decide) _ ⟨_, rfl, ?_⟩
  refine Body.rs_step H 3 (by decide) _ ⟨_, rfl, ?_⟩
  refine Body.rs_step H 2 (by decide) _ ⟨_, rfl, ?_⟩
  refine Body.rs_step H 1 (by decide) _ ⟨_, rfl, ?_⟩
  exact Body.rs_first H (by decide) _ rfl

theorem dk_real : RowsAre B.run.2.1 2048 fun i c => (accU q (Body.ssR q k v g o e f) 16 c i : EReal) := by
  have hT := dkt_real H
  refine Body.tr_step 7 (by decide) _ _ _ hT _ ⟨_, rfl, ?_⟩
  refine Body.tr_step 6 (by decide) _ _ _ hT _ ⟨_, rfl, ?_⟩
  refine Body.tr_step 5 (by decide) _ _ _ hT _ ⟨_, rfl, ?_⟩
  refine Body.tr_step 4 (by decide) _ _ _ hT _ ⟨_, rfl, ?_⟩
  refine Body.tr_step 3 (by decide) _ _ _ hT _ ⟨_, rfl, ?_⟩
  refine Body.tr_step 2 (by decide) _ _ _ hT _ ⟨_, rfl, ?_⟩
  refine Body.tr_step 1 (by decide) _ _ _ hT _ ⟨_, rfl, ?_⟩
  refine Body.tr_step 0 (by decide) _ _ _ hT _ ⟨[], rfl, fun i c hi => absurd hi (by omega)⟩

theorem dv_real : RowsAre B.run.2.2.1 2048 fun i c => (accU g (prR q k e f) 16 c i : EReal) := by
  have hT := dvt_real H
  refine Body.tr_step 7 (by decide) _ _ _ hT _ ⟨_, rfl, ?_⟩
  refine Body.tr_step 6 (by decide) _ _ _ hT _ ⟨_, rfl, ?_⟩
  refine Body.tr_step 5 (by decide) _ _ _ hT _ ⟨_, rfl, ?_⟩
  refine Body.tr_step 4 (by decide) _ _ _ hT _ ⟨_, rfl, ?_⟩
  refine Body.tr_step 3 (by decide) _ _ _ hT _ ⟨_, rfl, ?_⟩
  refine Body.tr_step 2 (by decide) _ _ _ hT _ ⟨_, rfl, ?_⟩
  refine Body.tr_step 1 (by decide) _ _ _ hT _ ⟨_, rfl, ?_⟩
  refine Body.tr_step 0 (by decide) _ _ _ hT _ ⟨[], rfl, fun i c hi => absurd hi (by omega)⟩

end Cert.Own
end
-- ==== Proof.Math.lean ====
module

public import proofs.«01_k».proof.Proof.HostRead
public import proofs.«01_k».proof.Proof.Rows

@[expose] public section

set_option maxRecDepth 16384

noncomputable section

namespace Cert.Own

open Finset (range)

/-! ## The gradients as real functions of the arguments -/

section targets
variable (q k v g : ℕ → ℕ → ℝ) (f : ℕ → ℕ → ℕ → ℝ)

/-- The weight of a key, and the product of the output's gradient with a value. -/
def pT (b h : ℕ) : ℕ → ℕ → ℝ := prT (scT q k f b h)
def dpT (b h i j : ℕ) : ℝ := ∑ d ∈ range 64, part g b h i d * part v b h j d
/-- The gradient of a score. -/
def dsT (b h i j : ℕ) : ℝ := pT q k f b h i j * (dpT v g b h i j - ∑ n ∈ range 2048, pT q k f b h i n * dpT v g b h i n)

def dqT (R C : ℕ) : ℝ := ∑ j ∈ range 2048, dsT q k v g f (R / 2048) (C / 64) (R % 2048) j * (1 / 8) * part k (R / 2048) (C / 64) j (C % 64)
def dkT (R C : ℕ) : ℝ := ∑ i ∈ range 2048, dsT q k v g f (R / 2048) (C / 64) i (R % 2048) * (1 / 8) * part q (R / 2048) (C / 64) i (C % 64)
def dvT (R C : ℕ) : ℝ := ∑ i ∈ range 2048, pT q k f (R / 2048) (C / 64) i (R % 2048) * part g (R / 2048) (C / 64) i (C % 64)
def dfrT (b h j : ℕ) : ℝ := -∑ i ∈ range 2048, dsT q k v g f b h i j
def dfqT (R C : ℕ) : ℝ := ∑ j ∈ range 2048, dsT q k v g f (R / 2048) (C / 64) (R % 2048) j

/-- The forward output. -/
def oT (R C : ℕ) : ℝ := ∑ j ∈ range 2048, pT q k f (R / 2048) (C / 64) (R % 2048) j * part v (R / 2048) (C / 64) j (C % 64)
/-- A row's normaliser. -/
def eT (M : ℕ → ℕ → ℕ → ℝ) (b h i : ℕ) : ℝ := (M b h i + Real.log (sumR (scT q k f b h) (M b h) i)) / Real.log 2
end targets

/-! ## A pair of heads of a flat array -/

/-- The block of batch `b` and pair `p`. -/
def blk (a : ℕ → ℕ → ℝ) (b p : ℕ) (i c : ℕ) : ℝ := a (b * 2048 + i) (p * 128 + c)

theorem blk_part (a : ℕ → ℕ → ℝ) (b p h i d : ℕ) : blk a b p i (64 * h + d) = part a b (2 * p + h) i d := by
  show a _ _ = a _ _
  congr 1 <;> omega

theorem hdot_blk (a c : ℕ → ℕ → ℝ) (b p h i j : ℕ) :
    hdot h (blk a b p) (blk c b p) i j = ∑ d ∈ range 64, part a b (2 * p + h) i d * part c b (2 * p + h) j d := by
  unfold hdot
  simp only [blk_part]

section join
variable (q k v g : ℕ → ℕ → ℝ) (f M : ℕ → ℕ → ℕ → ℝ) (b p : ℕ)

/-- The normalisers and the gate of the pair of heads. -/
def eB (h i : ℕ) : ℝ := eT q k f M b (2 * p + h) i
def fB (h j : ℕ) : ℝ := f b (2 * p + h) j / Real.log 2

/-- The power of two of the score less the normaliser is the key's weight. -/
theorem pr_join (h i j : ℕ) : prR (blk q b p) (blk k b p) (eB q k f M b p) (fB f b p) h i j = pT q k f b (2 * p + h) i j := by
  unfold pT
  rw [← probs_eq _ _ (M b (2 * p + h)) 0 fun i j => (add_zero _).symm]
  unfold prR expR
  split
  · have hL := sumR_pos (scT q k f b (2 * p + h)) (M b (2 * p + h)) i
    have h2 : Real.log 2 ≠ 0 := (Real.log_pos one_lt_two).ne'
    rw [Real.rpow_eq_pow, Real.rpow_def_of_pos two_pos]
    conv_rhs => rw [← Real.exp_log hL, ← Real.exp_sub]
    congr 1
    unfold scR
    rw [hdot_blk]
    unfold eB fB eT
    rw [scT]
    field_simp
    ring
  · rw [zero_div]

/-- The output's gradient times the output is the weighted mean of the products with the values. -/
theorem del_join (h i : ℕ) (hh : h ≤ 1) (hi : i < 2048) :
    hdot h (blk g b p) (blk (oT q k v f) b p) i i = ∑ n ∈ range 2048, pT q k f b (2 * p + h) i n * dpT v g b (2 * p + h) i n := by
  have ho : ∀ d ∈ range 64, blk g b p i (64 * h + d) * blk (oT q k v f) b p i (64 * h + d)
      = ∑ n ∈ range 2048, pT q k f b (2 * p + h) i n * (part g b (2 * p + h) i d * part v b (2 * p + h) n d) := fun d hd => by
    have hd := Finset.mem_range.1 hd
    rw [blk_part, blk, oT, Finset.mul_sum, show (b * 2048 + i) / 2048 = b by omega, show (b * 2048 + i) % 2048 = i by omega,
      show (p * 128 + (64 * h + d)) / 64 = 2 * p + h by omega, show (p * 128 + (64 * h + d)) % 64 = d by omega]
    exact Finset.sum_congr rfl fun n _ => by ring
  rw [hdot, Finset.sum_congr rfl ho, Finset.sum_comm]
  refine Finset.sum_congr rfl fun n _ => ?_
  rw [dpT, Finset.mul_sum]

theorem ds_join (h i j : ℕ) (hh : h ≤ 1) (hi : i < 2048) :
    dsR (blk q b p) (blk k b p) (blk v b p) (blk g b p) (blk (oT q k v f) b p) (eB q k f M b p) (fB f b p) h i j = dsT q k v g f b (2 * p + h) i j := by
  rw [dsR, dsT, pr_join, del_join q k v g f b p h i hh hi, hdot_blk, dpT]

/-- Where a lane of the block lies in the flat array. -/
theorem lane_eqs (i c : ℕ) (hi : i < 2048) : (b * 2048 + i) / 2048 = b ∧ (b * 2048 + i) % 2048 = i ∧ (p * 128 + c) / 64 = 2 * p + c / 64 ∧ (p * 128 + c) % 64 = c % 64 := by
  omega

theorem lane_part (a : ℕ → ℕ → ℝ) (i c : ℕ) : blk a b p i c = part a b (2 * p + c / 64) i (c % 64) := by
  rw [← blk_part, Nat.div_add_mod]

variable (i c : ℕ) (hi : i < 2048) (hc : c < 128)
include hi hc

theorem dq_join : Body.dqR (blk q b p) (blk k b p) (blk v b p) (blk g b p) (blk (oT q k v f) b p) (eB q k f M b p) (fB f b p) i c
    = dqT q k v g f (b * 2048 + i) (p * 128 + c) := by
  obtain ⟨h1, h2, h3, h4⟩ := lane_eqs b p i c hi
  rw [dqT, h1, h2, h3, h4]
  exact Finset.sum_congr rfl fun j hj => by rw [Body.ssR, ds_join q k v g f M b p _ i j (by omega) hi, lane_part]

theorem dk_join : accU (blk q b p) (Body.ssR (blk q b p) (blk k b p) (blk v b p) (blk g b p) (blk (oT q k v f) b p) (eB q k f M b p) (fB f b p)) 16 c i
    = dkT q k v g f (b * 2048 + i) (p * 128 + c) := by
  obtain ⟨h1, h2, h3, h4⟩ := lane_eqs b p i c hi
  rw [dkT, h1, h2, h3, h4, accU, rowsDone_all _ (by omega)]
  exact Finset.sum_congr rfl fun j hj => by rw [Body.ssR, ds_join q k v g f M b p _ j i (by omega) (Finset.mem_range.1 hj), lane_part, mul_comm]

theorem dv_join : accU (blk g b p) (prR (blk q b p) (blk k b p) (eB q k f M b p) (fB f b p)) 16 c i = dvT q k g f (b * 2048 + i) (p * 128 + c) := by
  obtain ⟨h1, h2, h3, h4⟩ := lane_eqs b p i c hi
  rw [dvT, h1, h2, h3, h4, accU, rowsDone_all _ (by omega)]
  exact Finset.sum_congr rfl fun j hj => by rw [pr_join, lane_part, mul_comm]

theorem dfq_join : Body.rsR (blk q b p) (blk k b p) (blk v b p) (blk g b p) (blk (oT q k v f) b p) (eB q k f M b p) (fB f b p) i c
    = dfqT q k v g f (b * 2048 + i) (p * 128 + c) := by
  obtain ⟨h1, h2, h3, h4⟩ := lane_eqs b p i c hi
  rw [dfqT, h1, h2, h3]
  exact Finset.sum_congr rfl fun j hj => ds_join q k v g f M b p _ i j (by omega) hi

omit hi hc in
theorem dfr_join (h j : ℕ) (hh : h ≤ 1) : gateU (dsR (blk q b p) (blk k b p) (blk v b p) (blk g b p) (blk (oT q k v f) b p) (eB q k f M b p) (fB f b p)) 16 h j
    = dfrT q k v g f b (2 * p + h) j := by
  rw [gateU, dfrT, rowsDone_all _ hh]
  exact congrArg _ (Finset.sum_congr rfl fun i hi => ds_join q k v g f M b p _ i j hh (Finset.mem_range.1 hi))

end join

end Cert.Own
-- ==== Proof.KernelValue.lean ====
module

public import proofs.«01_k».proof.Proof.Math
public import proofs.«01_k».proof.Proof.Gen.KernelIdeal.Value
public import Idealize.ShloMosaic.Lib.Pipeline.ValueKit

@[expose] public section

set_option maxRecDepth 16384

noncomputable section

namespace Cert.Own

open Idealize.ShloMosaic Idealize.ShloMosaic.TcCoe Cert.KernelIdeal Cert.KernelIdeal.Gen Idealize.SL.Sem
open Finset (range)

variable (m : (ℓ : Loc nD τ sig) → Buf (Elt Ideal) ℓ) (c : Dev nD) (t : Fin cfg0.N)

/-- The kernel's body at a grid point. -/
def bodyAt : Body :=
  { c := c, i := grid0.coords t, a2 := ms0_0 t, h2 := hs0_0 t, a3 := ms0_1 t, h3 := hs0_1 t, a4 := ms0_2 t, h4 := hs0_2 t,
    a5 := ms0_3 t, h5 := hs0_3 t, a6 := ms0_4 t, h6 := hs0_4 t, a7 := ms0_5 t, h7 := hs0_5 t, a8 := ms0_6 t, h8 := hs0_6 t,
    a9 := ms0_7 t, h9 := hs0_7 t, a10 := ms0_8 t, h10 := hs0_8 t, a11 := ms0_9 t, h11 := hs0_9 t, a12 := ms0_10 t, h12 := hs0_10 t,
    a13 := ms0_11 t, h13 := hs0_11 t, a14 := scM0_0, h14 := Memref.isWhole_whole _, a15 := scM0_1, h15 := Memref.isWhole_whole _,
    x0 := iblk m c 0 t, x1 := iblk m c 1 t, x2 := iblk m c 2 t, x3 := iblk m c 3 t, x4 := iblk m c 4 t, x5 := iblk m c 5 t, x6 := iblk m c 6 t }

/-! ## Where the blocks lie -/

/-- The pair of heads and the batch of a point. -/
abbrev pairOf : ℕ := (grid0.coords t 0).val
abbrev batchOf : ℕ := (grid0.coords t 1).val

theorem ix_0 : ∀ t : Fin cfg0.N, win0_0.index t = ![batchOf t, pairOf t] := by decide +kernel
theorem ix_1 : ∀ t : Fin cfg0.N, win0_1.index t = ![batchOf t, pairOf t] := by decide +kernel
theorem ix_2 : ∀ t : Fin cfg0.N, win0_2.index t = ![batchOf t, pairOf t] := by decide +kernel
theorem ix_3 : ∀ t : Fin cfg0.N, win0_3.index t = ![batchOf t, pairOf t] := by decide +kernel
theorem ix_4 : ∀ t : Fin cfg0.N, win0_4.index t = ![batchOf t, pairOf t] := by decide +kernel
theorem ix_5 : ∀ t : Fin cfg0.N, win0_5.index t = ![batchOf t, pairOf t] := by decide +kernel
theorem ix_6 : ∀ t : Fin cfg0.N, win0_6.index t = ![batchOf t, pairOf t, 0, 0] := by decide +kernel
theorem ix_7 : ∀ t : Fin cfg0.N, win0_7.index t = ![batchOf t, pairOf t] := by decide +kernel
theorem ix_8 : ∀ t : Fin cfg0.N, win0_8.index t = ![batchOf t, pairOf t] := by decide +kernel
theorem ix_9 : ∀ t : Fin cfg0.N, win0_9.index t = ![batchOf t, pairOf t] := by decide +kernel
theorem ix_10 : ∀ t : Fin cfg0.N, win0_10.index t = ![batchOf t, pairOf t, 0, 0] := by decide +kernel
theorem ix_11 : ∀ t : Fin cfg0.N, win0_11.index t = ![batchOf t, pairOf t] := by decide +kernel

theorem FlatAre.at {e : EltTy} {x : S4096x384.Idx → Elt Ideal e} {a : ℕ → ℕ → Elt Ideal e} (h : FlatAre x a) (y : S4096x384.Idx) : x y = a (y 0).val (y 1).val := by
  idx_vars y
  exact h _ _

/-! ## The blocks of arrays with real entries -/

section reads
variable {a : ℕ → ℕ → ℝ} (i : Fin 2048) (d : Fin 128)

theorem x0_apply (h : FlatAre (e := .bf16) (V m c main_arg0) fun R C => (a R C : EReal)) : (bodyAt m c t).x0 (ix2 i d) = (blk a (batchOf t) (pairOf t) i.val d.val : EReal) := by
  show iblk m c 0 t (ix2 i d) = _
  blk_simp [iblk]; rw [FlatAre.at h]; blk_simp [ix_0]; rfl
theorem x1_apply (h : FlatAre (e := .bf16) (V m c main_arg1) fun R C => (a R C : EReal)) : (bodyAt m c t).x1 (ix2 i d) = (blk a (batchOf t) (pairOf t) i.val d.val : EReal) := by
  show iblk m c 1 t (ix2 i d) = _
  blk_simp [iblk]; rw [FlatAre.at h]; blk_simp [ix_1]; rfl
theorem x2_apply (h : FlatAre (e := .bf16) (V m c main_arg2) fun R C => (a R C : EReal)) : (bodyAt m c t).x2 (ix2 i d) = (blk a (batchOf t) (pairOf t) i.val d.val : EReal) := by
  show iblk m c 2 t (ix2 i d) = _
  blk_simp [iblk]; rw [FlatAre.at h]; blk_simp [ix_2]; rfl
theorem x3_apply (h : FlatAre (e := .f32) (V m c main_v34) fun R C => (a R C : EReal)) : (bodyAt m c t).x3 (ix2 i d) = (blk a (batchOf t) (pairOf t) i.val d.val : EReal) := by
  show iblk m c 3 t (ix2 i d) = _
  blk_simp [iblk]; rw [FlatAre.at h]; blk_simp [ix_3]; rfl
theorem x4_apply (h : FlatAre (e := .f32) (V m c main_arg4) fun R C => (a R C : EReal)) : (bodyAt m c t).x4 (ix2 i d) = (blk a (batchOf t) (pairOf t) i.val d.val : EReal) := by
  show iblk m c 4 t (ix2 i d) = _
  blk_simp [iblk]; rw [FlatAre.at h]; blk_simp [ix_4]; rfl
theorem x5_apply (h : FlatAre (e := .f32) (V m c main_v42) fun R C => (a R C : EReal)) : (bodyAt m c t).x5 (ix2 i d) = (blk a (batchOf t) (pairOf t) i.val d.val : EReal) := by
  show iblk m c 5 t (ix2 i d) = _
  blk_simp [iblk]; rw [FlatAre.at h]; blk_simp [ix_5]; rfl
theorem x6_apply {f : ℕ → ℕ → ℕ → ℝ} (h : ∀ (b : Fin 2) (h : Fin 6) (j : Fin 2048), V m c main_v46 (ix4 b h 0 j) = (f b h j : EReal)) (p : Fin 2) (j : Fin 2048) :
    (bodyAt m c t).x6 (ix4 0 p 0 j) = (f (batchOf t) (2 * pairOf t + p.val) j.val : EReal) := by
  show iblk m c 6 t (ix4 0 p 0 j) = _
  blk_simp [iblk]
  have hb : batchOf t < 2 := (grid0.coords t 1).isLt
  have hp : pairOf t < 3 := (grid0.coords t 0).isLt
  refine Eq.trans (congrArg _ ?_) (h ⟨batchOf t, hb⟩ ⟨2 * pairOf t + p.val, by omega⟩ j)
  blk_ext [ix_6]
end reads

/-! ## What the body leaves at a point -/

section
variable (B : Body)
def Body.out7 := out0_A_7 B.c B.i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15
    B.x0 B.x1 B.x2 B.x3 B.x4 B.x5 B.x6
theorem Body.out7_eq : B.out7 = View.canon B.run.1 := View.read_writes_junk_eq_canon (Val := Elt Ideal) VO0_7 B.run.1
def Body.out8 := out0_A_8 B.c B.i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15
    B.x0 B.x1 B.x2 B.x3 B.x4 B.x5 B.x6
theorem Body.out8_eq : B.out8 = View.canon B.run.2.1 := View.read_writes_junk_eq_canon (Val := Elt Ideal) VO0_8 B.run.2.1
def Body.out9 := out0_A_9 B.c B.i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15
    B.x0 B.x1 B.x2 B.x3 B.x4 B.x5 B.x6
theorem Body.out9_eq : B.out9 = View.canon B.run.2.2.1 := View.read_writes_junk_eq_canon (Val := Elt Ideal) VO0_9 B.run.2.2.1
def Body.out10 := out0_A_10 B.c B.i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15
    B.x0 B.x1 B.x2 B.x3 B.x4 B.x5 B.x6
theorem Body.out10_eq : B.out10 = View.canon B.run.2.2.2.1 := View.read_writes_junk_eq_canon (Val := Elt Ideal) VO0_10 B.run.2.2.2.1
def Body.out11 := out0_A_11 B.c B.i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15
    B.x0 B.x1 B.x2 B.x3 B.x4 B.x5 B.x6
theorem Body.out11_eq : B.out11 = View.canon B.run.2.2.2.2.1 := View.read_writes_junk_eq_canon (Val := Elt Ideal) VO0_11 B.run.2.2.2.2.1
end

theorem outsAt_eq : outsAt0 m c t = ((bodyAt m c t).out7, (bodyAt m c t).out8, (bodyAt m c t).out9, (bodyAt m c t).out10, (bodyAt m c t).out11) := by
  delta outsAt0 bodyAt Body.out7 Body.out8 Body.out9 Body.out10 Body.out11
  generalize iblk m c = X
  dsimp only

theorem outs_7 : (outsAt0 m c t).1 = View.canon (bodyAt m c t).run.1 := by rw [outsAt_eq, ← Body.out7_eq]
theorem outs_8 : (outsAt0 m c t).2.1 = View.canon (bodyAt m c t).run.2.1 := by rw [outsAt_eq, ← Body.out8_eq]
theorem outs_9 : (outsAt0 m c t).2.2.1 = View.canon (bodyAt m c t).run.2.2.1 := by rw [outsAt_eq, ← Body.out9_eq]
theorem outs_10 : (outsAt0 m c t).2.2.2.1 = View.canon (bodyAt m c t).run.2.2.2.1 := by rw [outsAt_eq, ← Body.out10_eq]
theorem outs_11 : (outsAt0 m c t).2.2.2.2 = View.canon (bodyAt m c t).run.2.2.2.2.1 := by rw [outsAt_eq, ← Body.out11_eq]

/-- A block of rows with real entries at one of its indices. -/
theorem RowsAre.at {e : EltTy} {L : Ps 2048 128 e} {A : ℕ → ℕ → Elt Ideal e} (h : RowsAre L 2048 A) (y : (Mx 2048 128).Idx) : View.canon L y = A (y 0).val (y 1).val := by
  idx_vars y
  exact h _ _ (Fin.isLt _)

/-- The array with given entries. -/
def flatOf {e : EltTy} (a : ℕ → ℕ → Elt Ideal e) : S4096x384.Idx → Elt Ideal e := fun i => a (i 0).val (i 1).val

/-- The gate's array with given entries. -/
def gateOf (a : ℕ → ℕ → ℕ → EReal) : S2x6x1x2048.Idx → Elt Ideal .f32 := fun i => a (i 0).val (i 1).val (i 3).val

theorem GateIs.at {L : Gs} {A : ℕ → ℕ → ℝ} (h : GateIs L A) (y : S1x2x1x2048.Idx) : View.canon L y = (A (y 1).val (y 3).val : EReal) := by
  idx_vars y
  obtain rfl := Subsingleton.elim y0 0
  obtain rfl := Subsingleton.elim y2 0
  exact h _ _

section arrays
variable {a : ℕ → ℕ → ℝ}

theorem arr7 (h : ∀ t, RowsAre (bodyAt m c t).run.1 2048 fun i d => (blk a (batchOf t) (pairOf t) i d : EReal)) :
    (dats m 0 c).arrAt 7 cfg0.N = flatOf (e := .bf16) fun R C => (a R C : EReal) := by
  refine (dats m 0 c).arrAt_eq_of_covers 7 _ (by decide +kernel) fun t hf y => ?_
  blk_simp
  rw [after0_7, outs_7, RowsAre.at (h t)]
  show ((a _ _ : ℝ) : EReal) = ((a _ _ : ℝ) : EReal)
  blk_simp [ix_7]
theorem arr8 (h : ∀ t, RowsAre (bodyAt m c t).run.2.1 2048 fun i d => (blk a (batchOf t) (pairOf t) i d : EReal)) :
    (dats m 0 c).arrAt 8 cfg0.N = flatOf (e := .bf16) fun R C => (a R C : EReal) := by
  refine (dats m 0 c).arrAt_eq_of_covers 8 _ (by decide +kernel) fun t hf y => ?_
  blk_simp
  rw [after0_8, outs_8, RowsAre.at (h t)]
  show ((a _ _ : ℝ) : EReal) = ((a _ _ : ℝ) : EReal)
  blk_simp [ix_8]
theorem arr9 (h : ∀ t, RowsAre (bodyAt m c t).run.2.2.1 2048 fun i d => (blk a (batchOf t) (pairOf t) i d : EReal)) :
    (dats m 0 c).arrAt 9 cfg0.N = flatOf (e := .bf16) fun R C => (a R C : EReal) := by
  refine (dats m 0 c).arrAt_eq_of_covers 9 _ (by decide +kernel) fun t hf y => ?_
  blk_simp
  rw [after0_9, outs_9, RowsAre.at (h t)]
  show ((a _ _ : ℝ) : EReal) = ((a _ _ : ℝ) : EReal)
  blk_simp [ix_9]
theorem arr11 (h : ∀ t, RowsAre (bodyAt m c t).run.2.2.2.2.1 2048 fun i d => (blk a (batchOf t) (pairOf t) i d : EReal)) :
    (dats m 0 c).arrAt 11 cfg0.N = flatOf (e := .f32) fun R C => (a R C : EReal) := by
  refine (dats m 0 c).arrAt_eq_of_covers 11 _ (by decide +kernel) fun t hf y => ?_
  blk_simp
  rw [after0_11, outs_11, RowsAre.at (h t)]
  show ((a _ _ : ℝ) : EReal) = ((a _ _ : ℝ) : EReal)
  blk_simp [ix_11]
theorem arr10 {a : ℕ → ℕ → ℕ → ℝ} (h : ∀ t, GateIs (bodyAt m c t).run.2.2.2.1 fun p j => a (batchOf t) (2 * pairOf t + p) j) :
    (dats m 0 c).arrAt 10 cfg0.N = gateOf fun b h j => (a b h j : EReal) := by
  refine (dats m 0 c).arrAt_eq_of_covers 10 _ (by decide +kernel) fun t hf y => ?_
  blk_simp
  rw [after0_10, outs_10, GateIs.at (h t)]
  show ((a _ _ _ : ℝ) : EReal) = ((a _ _ _ : ℝ) : EReal)
  blk_simp [ix_10]
  rw [Nat.mul_comm]
end arrays

/-! ## The results -/

section results
variable {q k v g : ℕ → ℕ → ℝ} {f : ℕ → ℕ → ℕ → ℝ}
  (hq : FlatAre (e := .bf16) (arg0 m c) fun R C => (q R C : EReal)) (hk : FlatAre (e := .bf16) (arg1 m c) fun R C => (k R C : EReal))
  (hv : FlatAre (e := .bf16) (arg2 m c) fun R C => (v R C : EReal)) (hf : ∀ b h, RowAre b h (arg3 m c) (f b.val h.val))
  (hg : FlatAre (e := .f32) (arg4 m c) fun R C => (g R C : EReal))
include hq hk hv hf hg

theorem reals : ∃ M : ℕ → ℕ → ℕ → ℝ, ∀ t, (bodyAt m c t).Reals (blk q (batchOf t) (pairOf t)) (blk k (batchOf t) (pairOf t)) (blk v (batchOf t) (pairOf t))
    (blk g (batchOf t) (pairOf t)) (blk (oT q k v f) (batchOf t) (pairOf t)) (eB q k f M (batchOf t) (pairOf t)) (fB f (batchOf t) (pairOf t)) := by
  obtain ⟨M, hM⟩ := hostE_real hq hk hf
  refine ⟨M, fun t => ⟨fun i d => x0_apply m c t i d (by rw [V_main_arg0]; exact hq), fun i d => x1_apply m c t i d (by rw [V_main_arg1]; exact hk),
    fun i d => x2_apply m c t i d (by rw [V_main_arg2]; exact hv), fun i d => x3_apply m c t i d (by rw [V_o]; exact hostO_real hq hk hv hf),
    fun i d => x4_apply m c t i d (by rw [V_main_arg4]; exact hg), fun i d => ?_,
    fun p j => x6_apply m c t (f := fun b h j => f b h j / Real.log 2) (by rw [V_f]; exact hostF_real hf) p j⟩⟩
  rw [x5_apply m c t (a := fun R C => eT q k f M (R / 2048) (C / 64) (R % 2048)) i d (by rw [V_e]; exact hM)]
  obtain ⟨h1, h2, h3, h4⟩ := lane_eqs (batchOf t) (pairOf t) i.val d.val i.isLt
  rw [blk, h1, h2, h3]
  rfl

/-- The five arrays the kernel leaves. -/
theorem kernel_results :
    (dats m 0 c).arrAt 7 cfg0.N = flatOf (e := .bf16) (fun R C => (dqT q k v g f R C : EReal)) ∧
    (dats m 0 c).arrAt 8 cfg0.N = flatOf (e := .bf16) (fun R C => (dkT q k v g f R C : EReal)) ∧
    (dats m 0 c).arrAt 9 cfg0.N = flatOf (e := .bf16) (fun R C => (dvT q k g f R C : EReal)) ∧
    (dats m 0 c).arrAt 10 cfg0.N = gateOf (fun b h j => (dfrT q k v g f b h j : EReal)) ∧
    (dats m 0 c).arrAt 11 cfg0.N = flatOf (e := .f32) (fun R C => (dfqT q k v g f R C : EReal)) := by
  obtain ⟨M, H⟩ := reals m c hq hk hv hf hg
  refine ⟨arr7 m c fun t i d hi => ?_, arr8 m c fun t i d hi => ?_, arr9 m c fun t i d hi => ?_, arr10 m c fun t h j => ?_, arr11 m c fun t i d hi => ?_⟩
  · exact (dq_real (H t) i d hi).trans (congrArg Real.toEReal (dq_join _ _ _ _ _ _ _ _ _ _ i.isLt d.isLt))
  · exact (dk_real (H t) i d hi).trans (congrArg Real.toEReal (dk_join _ _ _ _ _ _ _ _ _ _ i.isLt d.isLt))
  · exact (dv_real (H t) i d hi).trans (congrArg Real.toEReal (dv_join _ _ _ _ _ _ _ _ _ i.isLt d.isLt))
  · exact (dfr_real (H t) h j).trans (congrArg Real.toEReal (dfr_join _ _ _ _ _ _ _ _ _ _ (by omega)))
  · exact (dfq_real (H t) i d hi).trans (congrArg Real.toEReal (dfq_join _ _ _ _ _ _ _ _ _ _ i.isLt d.isLt))
end results

end Cert.Own
-- ==== Proof.RefHost.lean ====
module

public import proofs.«01_k».proof.Proof.Math
public import proofs.«01_k».proof.Proof.Gen.ReferenceIdeal.Run

@[expose] public section

set_option maxRecDepth 16384

noncomputable section

namespace Cert.Own

open Idealize.ShloMosaic Idealize.ShloMosaic.TcCoe Cert.ReferenceIdeal Cert.ReferenceIdeal.Gen Idealize.SL.Sem
open Finset (range)

/-! What the reference computes, in the same steps as the host of the kernel where they agree. -/

/-- The reference's masked scores: both gates. -/
def refS (q k : FVec Ideal S4096x384 .bf16) (f : Gate) : Pairs :=
  masked (subf (addf (eighths (dots (heads (extf .f32 q bitsLt_bf16_f32)) (heads (extf .f32 k bitsLt_bf16_f32)))) (spread (col f))) (gateKeys f))
/-- The number its softmax takes off each row. -/
def refM (s : Pairs) : Gate := maximumf (broadcastInDim S2x6x2048 ![] bcast_S_S2x6x2048 (constant (F := Ideal) S_ .f32 0xFF800000#32)) (rowMax s)
def refX (q k : FVec Ideal S4096x384 .bf16) (f : Gate) : Pairs := exps (refS q k f) (refM (refS q k f))
/-- One over the square of a row's sum. -/
def invSq (l : Cols) : Cols := Host.divf (broadcastInDim S2x6x2048x1 ![] bcast_S_S2x6x2048x1 (constant (F := Ideal) S_ .f32 0x3F800000#32)) (mulf l l)
/-- What the quotient's divisor sends back, at every pair of its row. -/
def divisor (dp e : Pairs) : Pairs :=
  broadcastInDim S2x6x2048x2048 ![0, 1, 2] bcast_S2x6x2048_S2x6x2048x2048_0_1_2
    (Host.reduceAdd (Host.negf (shapeCast S2x6x2048x1 (rowSum (mulf (mulf dp (spread (invSq (col (rowSum e))))) e)) shapeCasts_S2x6x2048_S2x6x2048x1))
      (constant (F := Ideal) S_ .f32 0x00000000#32) reducesTo_S2x6x2048x1_S2x6x2048_d3 h_S_)
/-- The gradient of the scores. -/
def refDs (dp e : Pairs) : Pairs :=
  select causal (mulf (addf (Host.divf dp (spread (col (rowSum e)))) (divisor dp e)) e)
    (broadcastInDim S2x6x2048x2048 ![] bcast_S_S2x6x2048x2048 (constant (F := Ideal) S_ .f32 0x00000000#32))
/-- The gradient of the values: the weights against the output's gradient, over the queries. -/
def refDv (g : Heads) (p : Pairs) : Heads :=
  transpose S2x6x2048x64 [0, 1, 3, 2] (Host.dotGeneral dot_S2x6x2048x64_S2x6x2048x2048_S2x6x64x2048_2_2_3_3_01_01 none g p) transposes_S2x6x64x2048_S2x6x2048x64_0_1_3_2
/-- Weighted sums over the queries. -/
def mixT (w : Pairs) (x : Heads) : Heads := Host.dotGeneral dot_S2x6x2048x2048_S2x6x2048x64_S2x6x2048x64_2_2_3_3_01_01 none w x
/-- The gate's gradient on the keys' side. -/
def gateDown (ds : Pairs) : FVec Ideal S2x6x1x2048 .f32 :=
  broadcastInDim S2x6x1x2048 ![0, 1, 3] bcast_S2x6x2048_S2x6x1x2048_0_1_3
    (Host.reduceAdd (shapeCast S2x6x1x2048 (Host.reduceAdd (Host.negf ds) (constant (F := Ideal) S_ .f32 0x00000000#32) reducesTo_S2x6x2048x2048_S2x6x2048_d2 h_S_)
      shapeCasts_S2x6x2048_S2x6x1x2048) (constant (F := Ideal) S_ .f32 0x00000000#32) reducesTo_S2x6x1x2048_S2x6x2048_d2 h_S_)
/-- The gate's gradient on the queries' side, a head's lanes alike. -/
def gateUp (ds : Pairs) : Flat :=
  shapeCast S4096x384 (broadcastInDim S2x2048x6x64 ![0, 1, 2, 3] bcast_S2x2048x6x1_S2x2048x6x64_0_1_2_3 (broadcastInDim S2x2048x6x1 ![0, 1, 2] bcast_S2x2048x6_S2x2048x6x1_0_1_2
    (transpose S2x2048x6 [0, 2, 1] (Host.reduceAdd (shapeCast S2x6x2048x1 (rowSum ds) shapeCasts_S2x6x2048_S2x6x2048x1)
      (constant (F := Ideal) S_ .f32 0x00000000#32) reducesTo_S2x6x2048x1_S2x6x2048_d3 h_S_) transposes_S2x6x2048_S2x2048x6_0_2_1))) shapeCasts_S2x2048x6x64_S4096x384

variable (m : (ℓ : Loc nD τ sig) → Buf (Elt Ideal) ℓ) (c : Dev nD)

abbrev ref0 : FVec Ideal S4096x384 .bf16 := m ((c.tc : Thread nD τ).loc main_arg0)
abbrev ref1 : FVec Ideal S4096x384 .bf16 := m ((c.tc : Thread nD τ).loc main_arg1)
abbrev ref2 : FVec Ideal S4096x384 .bf16 := m ((c.tc : Thread nD τ).loc main_arg2)
abbrev ref3 : Gate := m ((c.tc : Thread nD τ).loc main_arg3)
abbrev ref4 : Flat := m ((c.tc : Thread nD τ).loc main_arg4)

/-- The products of the output's gradient with the values, and the scores' gradient. -/
def refDp (v : FVec Ideal S4096x384 .bf16) (g : Flat) : Pairs := dots (heads g) (heads (extf .f32 v bitsLt_bf16_f32))
def refD (q k v : FVec Ideal S4096x384 .bf16) (f : Gate) (g : Flat) : Pairs := refDs (refDp v g) (refX q k f)

theorem res_dv : Value.res_out2 m c = truncf .bf16 (flat (refDv (heads (ref4 m c)) (probs (refX (ref0 m c) (ref1 m c) (ref3 m c))))) bitsLt_bf16_f32 := by
  unfold Value.res_out2 Value.res_main_v64; rfl
theorem res_dk : Value.res_out1 m c = truncf .bf16 (flat (mixT (eighths (refD (ref0 m c) (ref1 m c) (ref2 m c) (ref3 m c) (ref4 m c)))
    (heads (extf .f32 (ref0 m c) bitsLt_bf16_f32)))) bitsLt_bf16_f32 := by
  unfold Value.res_out1 Value.res_main_v91; rfl
theorem res_dq : Value.res_out0 m c = truncf .bf16 (flat (mix (eighths (refD (ref0 m c) (ref1 m c) (ref2 m c) (ref3 m c) (ref4 m c)))
    (heads (extf .f32 (ref1 m c) bitsLt_bf16_f32)))) bitsLt_bf16_f32 := by
  unfold Value.res_out0 Value.res_main_v94; rfl
theorem res_dfr : Value.res_out3 m c = gateDown (refD (ref0 m c) (ref1 m c) (ref2 m c) (ref3 m c) (ref4 m c)) := by
  unfold Value.res_out3 Value.res_main_v99; rfl
theorem res_dfq : Value.res_out4 m c = gateUp (refD (ref0 m c) (ref1 m c) (ref2 m c) (ref3 m c) (ref4 m c)) := by
  unfold Value.res_out4 Value.res_main_v98; rfl

end Cert.Own
-- ==== Proof.RefRead.lean ====
module

public import proofs.«01_k».proof.Proof.RefHost

@[expose] public section

set_option maxRecDepth 16384

noncomputable section

namespace Cert.Own

open Idealize.ShloMosaic Idealize.ShloMosaic.TcCoe Cert.ReferenceIdeal Cert.ReferenceIdeal.Gen Idealize.SL.Sem
open Finset (range)

theorem one_word : Ideal.ofBits .f32 0x3F800000#32 = ((1 : ℝ) : EReal) := by
  simp [Ideal.ofBits, Ideal.ieee]
  rw [← EReal.coe_mul]; norm_num
theorem zero_word : Ideal.ofBits .f32 0x00000000#32 = (0 : EReal) := by simp [Ideal.ofBits, Ideal.ieee]

section
variable {b : Fin 2} {h : Fin 6}

theorem floor_real {r : Gate} {M : ℕ → ℝ} (hr : RowAre b h r M) :
    RowAre b h (maximumf (broadcastInDim S2x6x2048 ![] bcast_S_S2x6x2048 (constant (F := Ideal) S_ .f32 0xFF800000#32)) r) M := fun i => by
  show max (Ideal.ofBits .f32 0xFF800000#32) (r (ix3 b h i)) = _
  rw [bot_word, hr i]
  exact max_eq_right bot_le

theorem refM_real {x : Pairs} {s : ℕ → ℕ → ℝ} (hx : MaskedAre b h x s) : ∃ M : ℕ → ℝ, RowAre b h (refM x) M := by
  obtain ⟨M, hM⟩ := rowMax_real hx
  exact ⟨M, floor_real hM⟩

theorem invSq_real {l : Cols} {L : ℕ → ℝ} (hl : ∀ i : Fin 2048, l (ix4 b h i 0) = (L i.val : EReal)) (hL : ∀ i, L i ≠ 0) :
    PairAre b h (spread (invSq l)) fun i _ => 1 / (L i * L i) := fun i j => by
  pointwise [spread, invSq]
  rw [hl]
  exact div_real rfl (EReal.coe_mul _ _).symm (mul_ne_zero (hL _) (hL _))

theorem negRow_real {r : Gate} {a : ℕ → ℝ} (hr : RowAre b h r a) : PairAre b h (broadcastInDim S2x6x2048x2048 ![0, 1, 2] bcast_S2x6x2048_S2x6x2048x2048_0_1_2
    (Host.reduceAdd (Host.negf (shapeCast S2x6x2048x1 r shapeCasts_S2x6x2048_S2x6x2048x1))
      (constant (F := Ideal) S_ .f32 0x00000000#32) reducesTo_S2x6x2048x1_S2x6x2048_d3 h_S_)) fun i _ => -a i := fun i j => by
  pointwise
  rw [Fin.sum_univ_one, hr, ← EReal.coe_neg]

theorem mul_real {x y : Pairs} {a c : ℕ → ℕ → ℝ} (hx : PairAre b h x a) (hy : PairAre b h y c) : PairAre b h (mulf x y) fun i j => a i j * c i j := fun i j => by
  show x _ * y _ = _
  rw [hx, hy, ← EReal.coe_mul]

/-- What the divisor sends back is the same at every pair of a row. -/
theorem divisor_real {dp e : Pairs} {d x : ℕ → ℕ → ℝ} (hd : PairAre b h dp d) (he : PairAre b h e x) (hL : ∀ i, ∑ j ∈ range 2048, x i j ≠ 0) :
    PairAre b h (divisor dp e) fun i _ => -∑ n ∈ range 2048, d i n * (1 / ((∑ j ∈ range 2048, x i j) * ∑ j ∈ range 2048, x i j)) * x i n :=
  negRow_real (rowSum_real (mul_real (mul_real hd (invSq_real (fun i => by pointwise [col]; exact rowSum_real he i) hL)) he))

theorem select_real {x : Pairs} {a : ℕ → ℕ → ℝ} (hx : PairAre b h x a) :
    PairAre b h (select causal x (broadcastInDim S2x6x2048x2048 ![] bcast_S_S2x6x2048x2048 (constant (F := Ideal) S_ .f32 0x00000000#32)))
      fun i j => if j ≤ i then a i j else 0 := fun i j => by
  show (if causal (ix4 b h i j) = 1#1 then x (ix4 b h i j) else Ideal.ofBits .f32 0x00000000#32) = _
  rw [causal_apply, hx, zero_word]
  by_cases hji : j.val ≤ i.val
  · rw [if_pos hji, if_pos rfl]; beta_reduce; rw [if_pos hji]
  · rw [if_neg hji, if_neg (by decide)]; beta_reduce; rw [if_neg hji, EReal.coe_zero]

theorem refDs_real {dp e : Pairs} {d x : ℕ → ℕ → ℝ} (hd : PairAre b h dp d) (he : PairAre b h e x) (hL : ∀ i, ∑ j ∈ range 2048, x i j ≠ 0) :
    PairAre b h (refDs dp e) fun i j => if j ≤ i then
      (d i j / (∑ j ∈ range 2048, x i j) + -∑ n ∈ range 2048, d i n * (1 / ((∑ j ∈ range 2048, x i j) * ∑ j ∈ range 2048, x i j)) * x i n) * x i j else 0 :=
  select_real (mul_real (a := fun i j => d i j / (∑ j ∈ range 2048, x i j) + -∑ n ∈ range 2048, d i n * (1 / ((∑ j ∈ range 2048, x i j) * ∑ j ∈ range 2048, x i j)) * x i n)
    (fun i j => by
      have h1 := div_real (hd i j) (spread_real (rowSum_real he) i j) (hL i.val)
      show Ideal.div _ _ + _ = _
      rw [h1, divisor_real hd he hL, ← EReal.coe_add]) he)

theorem refDv_real {y : Heads} {w : Pairs} {a c : ℕ → ℕ → ℝ} (hw : PairAre b h w a) (hy : HeadAre b h y c) :
    HeadAre b h (refDv y w) fun j d => ∑ i ∈ range 2048, a i j * c i d := fun j d => by
  pointwise [refDv]
  exact sum_real _ _ (fun i => a i j * c i d) fun i => by rw [hw, hy, ← EReal.coe_mul, mul_comm]

theorem mixT_real {w : Pairs} {y : Heads} {a c : ℕ → ℕ → ℝ} (hw : PairAre b h w a) (hy : HeadAre b h y c) :
    HeadAre b h (mixT w y) fun j d => ∑ i ∈ range 2048, a i j * c i d := fun j d => by
  pointwise [mixT]
  exact sum_real _ _ (fun i => a i j * c i d) fun i => by rw [hw, hy, ← EReal.coe_mul]

theorem gateDown_real {w : Pairs} {a : ℕ → ℕ → ℝ} (hw : PairAre b h w a) (j : Fin 2048) :
    gateDown w (ix4 b h 0 j) = ((-∑ i ∈ range 2048, a i j : ℝ) : EReal) := by
  pointwise [gateDown]
  rw [Fin.sum_univ_one, ← Finset.sum_neg_distrib]
  exact sum_real _ _ (fun i => -a i j) fun i => by rw [hw, ← EReal.coe_neg]

theorem gateUp_real {w : Pairs} {a : ℕ → ℕ → ℕ → ℕ → ℝ} (hw : ∀ b h, PairAre b h w (a b.val h.val)) :
    FlatAre (e := .f32) (gateUp w) fun R C => ((∑ j ∈ range 2048, a (R / 2048) (C / 64) (R % 2048) j : ℝ) : EReal) := fun R C => by
  have hs := fun b h => rowSum_real (hw b h)
  unfold gateUp
  generalize rowSum w = r at hs ⊢
  pointwise
  rw [Fin.sum_univ_one]
  exact hs _ _ _
end

/-! ## The reference's results -/

section results
variable {xq xk xv : FVec Ideal S4096x384 .bf16} {xf : Gate} {xg : Flat} {q k v g : ℕ → ℕ → ℝ} {f : ℕ → ℕ → ℕ → ℝ}
  (hq : FlatAre (e := .bf16) xq fun R C => (q R C : EReal)) (hk : FlatAre (e := .bf16) xk fun R C => (k R C : EReal)) (hv : FlatAre (e := .bf16) xv fun R C => (v R C : EReal))
  (hf : ∀ b h, RowAre b h xf (f b.val h.val)) (hg : FlatAre (e := .f32) xg fun R C => (g R C : EReal))

/-- The reference's scores: the gate of the query added. -/
def scF (q k : ℕ → ℕ → ℝ) (f : ℕ → ℕ → ℕ → ℝ) (b h i j : ℕ) : ℝ := (∑ d ∈ range 64, part q b h i d * part k b h j d) * (1 / 8) + f b h i - f b h j

theorem scF_eq (q k : ℕ → ℕ → ℝ) (f : ℕ → ℕ → ℕ → ℝ) (b h i j : ℕ) : scF q k f b h i j = scT q k f b h i j + f b h i := by
  unfold scF scT; ring

include hq hk hf in
theorem refS_real (b : Fin 2) (h : Fin 6) : MaskedAre b h (refS xq xk xf) (scF q k f b h) := by
  refine masked_real fun i j => ?_
  rw [show ∀ a c e : Pairs, subf (addf a c) e (ix4 b h i j) = a (ix4 b h i j) + c (ix4 b h i j) - e (ix4 b h i j) from fun _ _ _ => rfl,
    eighths_real (dots_real (heads_real (x := extf .f32 xq _) hq) (heads_real (x := extf .f32 xk _) hk)), spread_real (hf b h), gateKeys_real (hf b h),
    ← EReal.coe_add, ← EReal.coe_sub]
  rfl

include hq hk hf in
/-- The weights do not see the gate of the query. -/
theorem refX_real (b : Fin 2) (h : Fin 6) : ∃ M, PairAre b h (refX xq xk xf) (expR (scF q k f b h) M) := by
  obtain ⟨M, hM⟩ := refM_real (refS_real hq hk hf b h)
  exact ⟨M, exps_real (refS_real hq hk hf b h) hM⟩

include hq hk hf in
theorem refP_real (b : Fin 2) (h : Fin 6) : PairAre b h (probs (refX xq xk xf)) (pT q k f b h) := by
  obtain ⟨M, hM⟩ := refX_real hq hk hf b h
  intro i j
  rw [probs_real hM]
  exact congrArg Real.toEReal (probs_eq _ _ 0 (f b h) (scF_eq q k f b h) i j)

/-- The quotient's two parts are the softmax's gradient. -/
theorem ds_ref (M : ℕ → ℝ) (b h i j : ℕ) (d : ℕ → ℕ → ℝ) (hd : ∀ i j, d i j = dpT v g b h i j) : (if j ≤ i then (d i j / (∑ n ∈ range 2048, expR (scF q k f b h) M i n)
      + -∑ n ∈ range 2048, d i n * (1 / ((∑ n ∈ range 2048, expR (scF q k f b h) M i n) * ∑ n ∈ range 2048, expR (scF q k f b h) M i n)) * expR (scF q k f b h) M i n)
      * expR (scF q k f b h) M i j else 0) = dsT q k v g f b h i j := by
  have hp : ∀ n, pT q k f b h i n = expR (scF q k f b h) M i n / sumR (scF q k f b h) M i := fun n => (probs_eq _ _ M (f b h) (scF_eq q k f b h) i n).symm
  have hL := (sumR_pos (scF q k f b h) M i).ne'
  unfold dsT
  simp only [hp, ← hd]
  change (if j ≤ i then (d i j / sumR (scF q k f b h) M i + -∑ n ∈ range 2048, d i n * (1 / (sumR (scF q k f b h) M i * sumR (scF q k f b h) M i))
    * expR (scF q k f b h) M i n) * expR (scF q k f b h) M i j else 0) = _
  have hz : ¬ j ≤ i → expR (scF q k f b h) M i j = 0 := fun h => if_neg h
  generalize sumR (scF q k f b h) M i = L at *
  generalize expR (scF q k f b h) M i = x at *
  split
  · rw [show ∑ n ∈ range 2048, d i n * (1 / (L * L)) * x n = (∑ n ∈ range 2048, x n / L * d i n) / L by
      rw [Finset.sum_div]; exact Finset.sum_congr rfl fun n _ => by field_simp]
    field_simp
    ring
  · next h => rw [hz h, zero_div, zero_mul]

include hq hk hv hf hg in
theorem refD_real (b : Fin 2) (h : Fin 6) : PairAre b h (refD xq xk xv xf xg) (dsT q k v g f b h) := by
  obtain ⟨M, hM⟩ := refX_real hq hk hf b h
  intro i j
  have hd : PairAre b h (refDp xv xg) (dpT v g b h) := dots_real (heads_real hg) (heads_real (x := extf .f32 xv _) hv)
  exact (refDs_real hd hM (fun i => (sumR_pos (scF q k f b h) M i).ne') i j).trans (congrArg Real.toEReal (ds_ref M b h i j _ fun _ _ => rfl))

include hq hk hv hf hg

theorem refDq_real : FlatAre (e := .bf16) (truncf .bf16 (flat (mix (eighths (refD xq xk xv xf xg)) (heads (extf .f32 xk bitsLt_bf16_f32)))) bitsLt_bf16_f32)
    fun R C => (dqT q k v g f R C : EReal) := fun R C =>
  flat_real (a := fun b h i d => ∑ j ∈ range 2048, dsT q k v g f b h i j * (1 / 8) * part k b h j d)
    (fun b h => mix_real (eighths_real (refD_real hq hk hv hf hg b h)) (heads_real (x := extf .f32 xk _) hk)) R C

theorem refDk_real : FlatAre (e := .bf16) (truncf .bf16 (flat (mixT (eighths (refD xq xk xv xf xg)) (heads (extf .f32 xq bitsLt_bf16_f32)))) bitsLt_bf16_f32)
    fun R C => (dkT q k v g f R C : EReal) := fun R C =>
  flat_real (a := fun b h j d => ∑ i ∈ range 2048, dsT q k v g f b h i j * (1 / 8) * part q b h i d)
    (fun b h => mixT_real (eighths_real (refD_real hq hk hv hf hg b h)) (heads_real (x := extf .f32 xq _) hq)) R C

omit hv in
theorem refDv_flat : FlatAre (e := .bf16) (truncf .bf16 (flat (refDv (heads xg) (probs (refX xq xk xf)))) bitsLt_bf16_f32)
    fun R C => (dvT q k g f R C : EReal) := fun R C =>
  flat_real (a := fun b h j d => ∑ i ∈ range 2048, pT q k f b h i j * part g b h i d)
    (fun b h => refDv_real (refP_real hq hk hf b h) (heads_real hg)) R C

theorem refDfr_real (b : Fin 2) (h : Fin 6) (j : Fin 2048) : gateDown (refD xq xk xv xf xg) (ix4 b h 0 j) = (dfrT q k v g f b h j : EReal) :=
  gateDown_real (refD_real hq hk hv hf hg b h) j

theorem refDfq_real : FlatAre (e := .f32) (gateUp (refD xq xk xv xf xg)) fun R C => (dfqT q k v g f R C : EReal) := fun R C =>
  gateUp_real (fun b h => refD_real hq hk hv hf hg b h) R C
end results

end Cert.Own
-- ==== Proof.Finite.lean ====
module

public import proofs.«01_k».proof.Defs
public import proofs.«01_k».proof.Proof.HostRead
public import Idealize.ShloMosaic.Lib.ReduceAll

@[expose] public section

set_option maxRecDepth 16384

noncomputable section

namespace Cert.Own

open Idealize.ShloMosaic

/-! What the precondition says: every entry of every argument is a real number. -/

namespace Pre
open Cert.Pre_finite

theorem bitsLt_bf16_f32 : FTy.bits .bf16 < FTy.bits .f32 := by decide
theorem bcast_S_S4096x384 : S_.BroadcastsInDim S4096x384 (![] : Fin 0 → Fin S4096x384.rank) := by decide
theorem reducesTo_S4096x384_S_d0_1 : S4096x384.ReducesTo [0, 1] S_ := by decide
theorem h_S_ : 0 < S_.numel := by decide
theorem bcast_S_S2x6x2048 : S_.BroadcastsInDim S2x6x2048 (![] : Fin 0 → Fin S2x6x2048.rank) := by decide
theorem reducesTo_S2x6x2048_S_d0_1_2 : S2x6x2048.ReducesTo [0, 1, 2] S_ := by decide

instance facts : Cert.Pre_finite.Facts where
  bitsLt_bf16_f32 := bitsLt_bf16_f32
  bcast_S_S4096x384 := bcast_S_S4096x384
  reducesTo_S4096x384_S_d0_1 := reducesTo_S4096x384_S_d0_1
  h_S_ := h_S_
  bcast_S_S2x6x2048 := bcast_S_S2x6x2048
  reducesTo_S2x6x2048_S_d0_1_2 := reducesTo_S2x6x2048_S_d0_1_2

theorem inf_word : Ideal.ofBits .f32 0x7F800000#32 = (⊤ : EReal) := by simp [Ideal.ofBits, Ideal.ieee]

/-- A number whose absolute value is below infinity is real. -/
theorem real_of_lt {x : EReal} (h : Ideal.cmp .olt (max x (-x)) (Ideal.ofBits .f32 0x7F800000#32) = 1#1) : x = (x.toReal : EReal) := by
  rw [inf_word] at h
  have h' : max x (-x) < ⊤ := by
    by_contra hn
    simp [Ideal.cmp, hn] at h
  refine (EReal.coe_toReal (ne_of_lt (lt_of_le_of_lt (le_max_left _ _) h')) fun hb => ?_).symm
  rw [hb] at h'
  simp at h'

instance : Subsingleton S_.Idx := ⟨fun a b => funext fun i => i.elim0⟩

theorem and_eq_one (x y : IVec S_ 1) (i : S_.Idx) (h : andi x y i = 1#1) : x i = 1#1 ∧ y i = 1#1 := by
  have e (a b : BitVec 1) : IntOp.andi a b = 1#1 → a = 1#1 ∧ b = 1#1 := by revert a b; decide
  exact e _ _ h

theorem reals_of {s : Shape} {axes : List (Fin s.rank)} (x : FVec Ideal s .f32) (hb : S_.BroadcastsInDim s (![] : Fin 0 → Fin s.rank)) (hr : s.ReducesTo axes S_)
    (i : S_.Idx) (h : Host.reduce IntOp.andi (cmpf .olt (Host.absf x) (broadcastInDim s ![] hb (constant (F := Ideal) S_ .f32 0x7F800000#32)))
      (constantI S_ 1 1#1) hr h_S_ i = 1#1) (y : s.Idx) : x y = ((x y).toReal : EReal) :=
  real_of_lt (Host.reduce_andi_all _ _ hr h_S_ i h y)

theorem reals (x0 x1 x2 : FVec Ideal S4096x384 .bf16) (x3 : FVec Ideal S2x6x2048 .f32) (x4 : FVec Ideal S4096x384 .f32)
    (h : Cert.Pre_finite.fn (F := Ideal) x0 x1 x2 x3 x4 = fun _ => 1#1) :
    (∀ y, x0 y = ((x0 y : EReal).toReal : EReal)) ∧ (∀ y, x1 y = ((x1 y : EReal).toReal : EReal)) ∧ (∀ y, x2 y = ((x2 y : EReal).toReal : EReal)) ∧
    (∀ y, x3 y = ((x3 y : EReal).toReal : EReal)) ∧ ∀ y, x4 y = ((x4 y : EReal).toReal : EReal) := by
  have e := congrFun h (fun i => i.elim0)
  unfold Cert.Pre_finite.fn fn_part1 at e
  obtain ⟨e, h4⟩ := and_eq_one _ _ _ e
  obtain ⟨e, h3⟩ := and_eq_one _ _ _ e
  obtain ⟨e, h2⟩ := and_eq_one _ _ _ e
  obtain ⟨h0, h1⟩ := and_eq_one _ _ _ e
  exact ⟨reals_of (extf .f32 x0 bitsLt_bf16_f32) _ _ _ h0, reals_of (extf .f32 x1 bitsLt_bf16_f32) _ _ _ h1, reals_of (extf .f32 x2 bitsLt_bf16_f32) _ _ _ h2,
    reals_of x3 _ _ _ h3, reals_of x4 _ _ _ h4⟩

end Pre

open Cert.KernelIdeal

/-- The real numbers of a flat array and of the gates, at plain indices. -/
def flatReal {e : EltTy} (x : S4096x384.Idx → Elt Ideal e) (val : Elt Ideal e → ℝ) (R C : ℕ) : ℝ :=
  if h : R < 4096 ∧ C < 384 then val (x (ix2 ⟨R, h.1⟩ ⟨C, h.2⟩)) else 0
def gateReal (x : Gate) (b h i : ℕ) : ℝ := if hl : b < 2 ∧ h < 6 ∧ i < 2048 then (x (ix3 ⟨b, hl.1⟩ ⟨h, hl.2.1⟩ ⟨i, hl.2.2⟩) : EReal).toReal else 0

theorem flatReal_bf16 {x : FVec Ideal S4096x384 .bf16} (h : ∀ y, x y = ((x y : EReal).toReal : EReal)) :
    FlatAre (e := .bf16) x fun R C => (flatReal (e := .bf16) x EReal.toReal R C : EReal) := fun R C => by
  beta_reduce; rw [flatReal, dif_pos ⟨R.isLt, C.isLt⟩]; exact h _
theorem flatReal_f32 {x : Flat} (h : ∀ y, x y = ((x y : EReal).toReal : EReal)) :
    FlatAre (e := .f32) x fun R C => (flatReal (e := .f32) x EReal.toReal R C : EReal) := fun R C => by
  beta_reduce; rw [flatReal, dif_pos ⟨R.isLt, C.isLt⟩]; exact h _
theorem gateReal_at {x : Gate} (h : ∀ y, x y = ((x y : EReal).toReal : EReal)) (b : Fin 2) (k : Fin 6) : RowAre b k x (gateReal x b.val k.val) := fun i => by
  rw [gateReal, dif_pos ⟨b.isLt, k.isLt, i.isLt⟩]; exact h _

end Cert.Own
-- ==== Proof.Results.lean ====
module

public import proofs.«01_k».proof.Proof.KernelValue
public import proofs.«01_k».proof.Proof.RefRead
public import proofs.«01_k».proof.Proof.Finite

@[expose] public section

set_option maxRecDepth 16384

noncomputable section

namespace Cert.Own

open Idealize.ShloMosaic Idealize.ShloMosaic.TcCoe Idealize.SL.Sem

/-! The results of both programs are the same five arrays. -/

theorem FlatAre.eq {e : EltTy} {x : Cert.KernelIdeal.S4096x384.Idx → Elt Ideal e} {a : ℕ → ℕ → Elt Ideal e} (h : FlatAre x a) : x = flatOf a := funext h.at

theorem gate_eq {x : Cert.KernelIdeal.S2x6x1x2048.Idx → Elt Ideal .f32} {a : ℕ → ℕ → ℕ → Elt Ideal .f32}
    (h : ∀ (b : Fin 2) (k : Fin 6) (j : Fin 2048), x (ix4 b k 0 j) = a b.val k.val j.val) : x = gateOf a := by
  funext y
  have e : y = ix4 (y 0) (y 1) 0 (y 3) := by
    funext i
    fin_cases i
    · rfl
    · rfl
    · exact Subsingleton.elim (α := Fin 1) _ _
    · rfl
  rw [e]
  exact h _ _ _

section ref
open Cert.ReferenceIdeal Cert.ReferenceIdeal.Gen
variable (m : (ℓ : Loc nD τ sig) → Buf (Elt Ideal) ℓ) (c : Dev nD) {q k v g : ℕ → ℕ → ℝ} {f : ℕ → ℕ → ℕ → ℝ}

/-- The five arrays the reference leaves. -/
theorem reference_results (hq : FlatAre (e := .bf16) (ref0 m c) fun R C => (q R C : EReal)) (hk : FlatAre (e := .bf16) (ref1 m c) fun R C => (k R C : EReal))
    (hv : FlatAre (e := .bf16) (ref2 m c) fun R C => (v R C : EReal)) (hf : ∀ b h, RowAre b h (ref3 m c) (f b.val h.val))
    (hg : FlatAre (e := .f32) (ref4 m c) fun R C => (g R C : EReal)) :
    Value.res_out0 m c = flatOf (e := .bf16) (fun R C => (dqT q k v g f R C : EReal)) ∧
    Value.res_out1 m c = flatOf (e := .bf16) (fun R C => (dkT q k v g f R C : EReal)) ∧
    Value.res_out2 m c = flatOf (e := .bf16) (fun R C => (dvT q k g f R C : EReal)) ∧
    Value.res_out3 m c = gateOf (fun b h j => (dfrT q k v g f b h j : EReal)) ∧
    Value.res_out4 m c = flatOf (e := .f32) (fun R C => (dfqT q k v g f R C : EReal)) :=
  ⟨(res_dq m c).trans (refDq_real hq hk hv hf hg).eq, (res_dk m c).trans (refDk_real hq hk hv hf hg).eq, (res_dv m c).trans (refDv_flat hq hk hf hg).eq,
    (res_dfr m c).trans (gate_eq (refDfr_real hq hk hv hf hg)), (res_dfq m c).trans (refDfq_real hq hk hv hf hg).eq⟩
end ref

/-- Over the reals the kernel and the reference leave the same arrays. -/
theorem algebraic : Cert.algebraic_KernelIdeal_ReferenceIdeal_pre_finite := by
  intro m g m' g' hp hm
  have H (c) := Pre.reals _ _ _ _ _ (hp c)
  have K (c) := kernel_results m c (flatReal_bf16 (H c).1) (flatReal_bf16 (H c).2.1) (flatReal_bf16 (H c).2.2.1) (gateReal_at (H c).2.2.2.1) (flatReal_f32 (H c).2.2.2.2)
  have R (c) := by
    obtain ⟨h0, h1, h2, h3, h4⟩ := hm c
    exact reference_results m' c (q := flatReal (e := .bf16) (arg0 m c) EReal.toReal) (k := flatReal (e := .bf16) (arg1 m c) EReal.toReal)
      (v := flatReal (e := .bf16) (arg2 m c) EReal.toReal) (f := gateReal (arg3 m c)) (g := flatReal (e := .f32) (arg4 m c) EReal.toReal)
      (by rw [show ref0 m' c = arg0 m c from h0]; exact flatReal_bf16 (H c).1) (by rw [show ref1 m' c = arg1 m c from h1]; exact flatReal_bf16 (H c).2.1)
      (by rw [show ref2 m' c = arg2 m c from h2]; exact flatReal_bf16 (H c).2.2.1) (by rw [show ref3 m' c = arg3 m c from h3]; exact gateReal_at (H c).2.2.2.1)
      (by rw [show ref4 m' c = arg4 m c from h4]; exact flatReal_f32 (H c).2.2.2.2)
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g,
    (θ_run _ _ _).mono (fun r h c => ?_) (Cert.ReferenceIdeal.Value.run m' g')⟩
  obtain ⟨a0, a1, a2, a3, a4, rest⟩ := h c
  exact ⟨a0.trans ((R c).1.trans (K c).1.symm), a1.trans ((R c).2.1.trans (K c).2.1.symm), a2.trans ((R c).2.2.1.trans (K c).2.2.1.symm),
    a3.trans ((R c).2.2.2.1.trans (K c).2.2.2.1.symm), a4.trans ((R c).2.2.2.2.trans (K c).2.2.2.2.symm), rest⟩

end Cert.Own
-- ==== Proof.DxRead.lean ====
module

public import proofs.«01_k».proof.Proof.Gen.Kernel2Ideal.Skeleton
public import Idealize.ShloMosaic.Lib.Pointwise
public import Idealize.ShloMosaic.Lib.Pointwise.IndexVar
public import Idealize.ShloMosaic.Lib.MatmulPlain
public import Idealize.ShloMosaic.Lib.WholeRead

@[expose] public section

set_option maxRecDepth 16384

noncomputable section

namespace Cert.Own.Dx

open Idealize.ShloMosaic Cert.Kernel2Ideal Cert.Kernel2Ideal.Gen Idealize.SL.Sem

/-! ## The body's operations at an index -/

section pay
variable (x0 : FVec Ideal S512x768 .bf16) (x1 : FVec Ideal S512x1152 .bf16) (x2 x3 x4 x5 x6 x7 : FVec Ideal S512x384 .bf16) (x8 : FVec Ideal S512x128 .bf16)
  (w0 : FVec Ideal S1024x768 .bf16) (w1 : FVec Ideal S1024x1152 .bf16) (w2 w3 w4 w5 w6 w7 : FVec Ideal S1024x384 .bf16) (w8 : FVec Ideal S1024x128 .bf16)
  (h y n x : FVec Ideal S512x1024 .f32) (r : FVec Ideal S512x1 .f32) (g : FVec Ideal S1x1024 .f32) (s p : FVec Ideal S1x1x1024 .f32) (q : FVec Ideal S8x1024 .f32)
  (i : Fin 512) (d : Fin 1024) (e : Fin 8)

theorem firstThree_apply : (k0_pay6 (F := Ideal) x0 w0 x1 w1 x2 w2 (ix2 i d) : EReal)
    = (∑ k : Fin 768, x0 (ix2 i k) * w0 (ix2 d k)) + (∑ k : Fin 1152, x1 (ix2 i k) * w1 (ix2 d k)) + ∑ k : Fin 384, x2 (ix2 i k) * w2 (ix2 d k) := by
  pointwise [k0_pay6]

theorem lastSix_apply : k0_pay7 (F := Ideal) h x3 w3 x4 w4 x5 w5 x6 w6 x7 w7 x8 w8 (ix2 i d)
    = h (ix2 i d) + (∑ k : Fin 384, x3 (ix2 i k) * w3 (ix2 d k)) + (∑ k : Fin 384, x4 (ix2 i k) * w4 (ix2 d k)) + (∑ k : Fin 384, x5 (ix2 i k) * w5 (ix2 d k))
      + (∑ k : Fin 384, x6 (ix2 i k) * w6 (ix2 d k)) + (∑ k : Fin 384, x7 (ix2 i k) * w7 (ix2 d k)) + ∑ k : Fin 128, x8 (ix2 i k) * w8 (ix2 d k) := by
  pointwise [k0_pay7]

theorem root_apply : k0_pay9 (F := Ideal) (k0_pay8 x) (ix2 i (0 : Fin 1))
    = Ideal.rsqrt (Ideal.div (∑ k : Fin 1024, x (ix2 i k) * x (ix2 i k)) (Ideal.ofBits .f32 0x44800000#32) + Ideal.ofBits .f32 0x358637BD#32) := by
  pointwise [k0_pay9, k0_pay8]

theorem unit_apply : k0_pay10 (F := Ideal) x y (ix2 i d) = x (ix2 i d) * k0_pay9 y (ix2 i (0 : Fin 1)) := by
  pointwise [k0_pay10]

theorem shift_apply : k0_pay11 (F := Ideal) h p (ix3 (0 : Fin 1) (0 : Fin 1) d) = p (ix3 (0 : Fin 1) (0 : Fin 1) d) + ∑ k : Fin 512, h (ix2 k d) := by
  pointwise [k0_pay11]

theorem scale_apply : k0_pay12 (F := Ideal) h g x y p (ix3 (0 : Fin 1) (0 : Fin 1) d)
    = p (ix3 (0 : Fin 1) (0 : Fin 1) d) + ∑ k : Fin 512, h (ix2 k d) * (k0_pay10 x y (ix2 k d) * g (ix2 (0 : Fin 1) d)) := by
  pointwise [k0_pay12]

theorem normed_apply : k0_pay13 (F := Ideal) h s (ix2 i d) = h (ix2 i d) * (Ideal.ofBits .f32 0x3F800000#32 + s (ix3 (0 : Fin 1) (0 : Fin 1) d)) := by
  pointwise [k0_pay13]

theorem gain_apply : k0_pay1 (F := Ideal) x n (k0_pay14 q) (ix2 e d) = q (ix2 e d) + ∑ k : Fin 512, n (ix2 k d) * x (ix2 k d) := by
  pointwise [k0_pay1, k0_pay14]

theorem dx_apply : k0_pay2 (F := Ideal) g r x n y (ix2 i d) = y (ix2 i d) + r (ix2 i (0 : Fin 1)) * (n (ix2 i d) * g (ix2 (0 : Fin 1) d)
    - x (ix2 i d) * Ideal.div (∑ k : Fin 1024, n (ix2 i k) * g (ix2 (0 : Fin 1) k) * x (ix2 i k)) (Ideal.ofBits .f32 0x44800000#32)) := by
  pointwise [k0_pay2]

end pay

end Cert.Own.Dx

end
-- ==== Proof.DxMath.lean ====
module

public import proofs.«01_k».proof.Kernel2Ideal
public import Idealize.ShloMosaic.Lib.Pointwise
public import Idealize.ShloMosaic.Lib.Pointwise.IndexVar
public import Idealize.ShloMosaic.Lib.Pipeline.ValueKit

@[expose] public section

set_option maxRecDepth 16384

noncomputable section

namespace Cert.Own.Dx

open Idealize.ShloMosaic Cert.Kernel2Ideal Idealize.SL.Sem

/-- The arrays both programs read: the nine pieces of the projection's gradient, the gradient that goes by the projection, the layer's input, the modulation's scale,
    the normalisation's gain and the weight. -/
structure Args where
  z0 : FVec Ideal S4096x768 .bf16
  z1 : FVec Ideal S4096x1152 .bf16
  z2 : FVec Ideal S4096x384 .bf16
  z3 : FVec Ideal S4096x384 .bf16
  z4 : FVec Ideal S4096x384 .bf16
  z5 : FVec Ideal S4096x384 .bf16
  z6 : FVec Ideal S4096x384 .bf16
  z7 : FVec Ideal S4096x384 .bf16
  z8 : FVec Ideal S4096x128 .bf16
  y : FVec Ideal S4096x1024 .f32
  x : FVec Ideal S4096x1024 .f32
  s : FVec Ideal S2x1x1024 .f32
  g : FVec Ideal S1x1024 .f32
  w : FVec Ideal S1024x4352 .bf16

/-- A piece of the projection's gradient against its columns of the weight. -/
def piece {n : ℕ} (z : FVec Ideal ⟨2, ![4096, n]⟩ .bf16) (w : FVec Ideal S1024x4352 .bf16) (a : ℕ) (h : a + n ≤ 4352) (R : Fin 4096) (d : Fin 1024) : EReal :=
  ∑ k : Fin n, z (ix2 R k) * w (ix2 d (⟨a + k.val, by omega⟩ : Fin 4352))

namespace Args
variable (A : Args)

/-- The gradient of what is projected. -/
def H (R : Fin 4096) (d : Fin 1024) : EReal :=
  piece A.z0 A.w 0 (by decide) R d + piece A.z1 A.w 768 (by decide) R d + piece A.z2 A.w 1920 (by decide) R d + piece A.z3 A.w 2304 (by decide) R d
    + piece A.z4 A.w 2688 (by decide) R d + piece A.z5 A.w 3072 (by decide) R d + piece A.z6 A.w 3456 (by decide) R d + piece A.z7 A.w 3840 (by decide) R d
    + piece A.z8 A.w 4224 (by decide) R d
/-- The mean square of a position, and the small number added. -/
def var (R : Fin 4096) : EReal := Ideal.div (∑ k : Fin 1024, A.x (ix2 R k) * A.x (ix2 R k)) (Ideal.ofBits .f32 0x44800000#32) + Ideal.ofBits .f32 0x358637BD#32
def xh (R : Fin 4096) (d : Fin 1024) : EReal := A.x (ix2 R d) * Ideal.rsqrt (A.var R)
/-- The gradient of the normalised input. -/
def N (R : Fin 4096) (d : Fin 1024) : EReal := A.H R d * (Ideal.ofBits .f32 0x3F800000#32 + A.s (ix3 (⟨R.val / 2048, by omega⟩ : Fin 2) (0 : Fin 1) d))
def row (b : Fin 2) (i : Fin 2048) : Fin 4096 := ⟨b.val * 2048 + i.val, by omega⟩

/-- The four results. -/
def dx : FVec Ideal S4096x1024 .f32 := fun j => A.y j + Ideal.rsqrt (A.var (j 0)) * (A.N (j 0) (j 1) * A.g (ix2 (0 : Fin 1) (j 1 : Fin 1024))
  - A.xh (j 0) (j 1) * Ideal.div (∑ k : Fin 1024, A.N (j 0) k * A.g (ix2 (0 : Fin 1) k) * A.xh (j 0) k) (Ideal.ofBits .f32 0x44800000#32))
def dshift : FVec Ideal S2x1x1024 .f32 := fun j => ∑ i : Fin 2048, A.H (row (j 0) i) (j 2)
def dscale : FVec Ideal S2x1x1024 .f32 := fun j => ∑ i : Fin 2048, A.H (row (j 0) i) (j 2) * (A.xh (row (j 0) i) (j 2) * A.g (ix2 (0 : Fin 1) (j 2 : Fin 1024)))
def dgain : FVec Ideal S8x1024 .f32 := fun j => ∑ R : Fin 4096, A.N R (j 1) * A.xh R (j 1)

end Args

end Cert.Own.Dx

end
-- ==== Proof.DxKernel.lean ====
module

public import proofs.«01_k».proof.Proof.DxRead
public import proofs.«01_k».proof.Proof.DxMath
public import proofs.«01_k».proof.Proof.Gen.Kernel2Ideal.Value
public import Idealize.ShloMosaic.Lib.Pipeline.ValueKit

@[expose] public section

set_option maxRecDepth 16384

noncomputable section

namespace Cert.Own.Dx

open Idealize.ShloMosaic Idealize.ShloMosaic.TcCoe Cert.Kernel2Ideal Cert.Kernel2Ideal.Gen Idealize.SL.Sem

variable (m : (ℓ : Loc nD τ sig) → Buf (Elt Ideal) ℓ) (c : Dev nD) (t : Fin cfg0.N)

/-- The kernel's arrays. -/
def args : Args where
  z0 := V m c main_arg0
  z1 := V m c main_arg1
  z2 := V m c main_arg2
  z3 := V m c main_arg3
  z4 := V m c main_arg4
  z5 := V m c main_arg5
  z6 := V m c main_arg6
  z7 := V m c main_arg7
  z8 := V m c main_arg8
  y := V m c main_arg9
  x := V m c main_arg10
  s := V m c main_arg12
  g := V m c main_arg13
  w := V m c main_arg14

/-! ## Where the blocks lie -/

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])
    ∧ win0_9.index t = ![t.val, 0] ∧ win0_10.index t = ![t.val, 0] ∧ win0_12.index t = ![t.val / 4, 0, 0] ∧ win0_13.index t = ![0, 0] ∧ win0_14.index t = ![0, 0]
    ∧ win0_15.index t = ![t.val, 0] ∧ win0_16.index t = ![t.val / 4, 0, 0] ∧ win0_17.index t = ![t.val / 4, 0, 0] ∧ win0_18.index t = ![0, 0] :=
  (by decide +kernel : ∀ t : Fin grid0.N, _)

/-- The array's row of a tile's row. -/
def at_ (i : Fin 512) : Fin 4096 := ⟨t.val * 512 + i.val, by have : t.val < 8 := t.isLt; omega⟩
def ex : Fin 2 := ⟨t.val / 4, by have : t.val < 8 := t.isLt; omega⟩

section blocks
variable (i : Fin 512) (d : Fin 1024) (k : Fin 384)

theorem b0 (k : Fin 768) : iblk m c 0 t (ix2 i k) = (args m c).z0 (ix2 (at_ t i) k) := by blk_ext [iblk, idx t]; rfl
theorem b1 (k : Fin 1152) : iblk m c 1 t (ix2 i k) = (args m c).z1 (ix2 (at_ t i) k) := by blk_ext [iblk, idx t]; rfl
theorem b2 : iblk m c 2 t (ix2 i k) = (args m c).z2 (ix2 (at_ t i) k) := by blk_ext [iblk, idx t]; rfl
theorem b3 : iblk m c 3 t (ix2 i k) = (args m c).z3 (ix2 (at_ t i) k) := by blk_ext [iblk, idx t]; rfl
theorem b4 : iblk m c 4 t (ix2 i k) = (args m c).z4 (ix2 (at_ t i) k) := by blk_ext [iblk, idx t]; rfl
theorem b5 : iblk m c 5 t (ix2 i k) = (args m c).z5 (ix2 (at_ t i) k) := by blk_ext [iblk, idx t]; rfl
theorem b6 : iblk m c 6 t (ix2 i k) = (args m c).z6 (ix2 (at_ t i) k) := by blk_ext [iblk, idx t]; rfl
theorem b7 : iblk m c 7 t (ix2 i k) = (args m c).z7 (ix2 (at_ t i) k) := by blk_ext [iblk, idx t]; rfl
theorem b8 (k : Fin 128) : iblk m c 8 t (ix2 i k) = (args m c).z8 (ix2 (at_ t i) k) := by blk_ext [iblk, idx t]; rfl
theorem b10 : iblk m c 10 t (ix2 i d) = (args m c).x (ix2 (at_ t i) d) := by blk_ext [iblk, idx t]; rfl
theorem b9 : iblk m c 9 t (ix2 i d) = (args m c).y (ix2 (at_ t i) d) := by blk_ext [iblk, idx t]; rfl
theorem b12 : iblk m c 12 t (ix3 (0 : Fin 1) (0 : Fin 1) d) = (args m c).s (ix3 (ex t) (0 : Fin 1) d) := by blk_ext [iblk, idx t]; rfl
theorem b13 : iblk m c 13 t (ix2 (0 : Fin 1) d) = (args m c).g (ix2 (0 : Fin 1) d) := by blk_ext [iblk, idx t]
theorem b14 (k : Fin 4352) : iblk m c 14 t (ix2 d k) = (args m c).w (ix2 d k) := by blk_ext [iblk, idx t]

theorem ld_apply {n a : ℕ} (h : ∀ b, ![0, a] b + ![1024, n] b ≤ S1024x4352.size b) (ha : a + n ≤ 4352) (x : Vec Ideal S1024x4352 .bf16) (k : Fin n) :
    View.ld (Val := Elt Ideal) (e' := .bf16) x (Rect.unit (s := S1024x4352) ![0, a] ![1024, n] h) (ix2 d k) = x (ix2 d (⟨a + k.val, by omega⟩ : Fin 4352)) := by
  refine congrArg x ?_
  funext b; apply Fin.ext
  fin_cases b
  · show 0 + 1 * d.val = d.val
    omega
  · show a + 1 * k.val = a + k.val
    omega

theorem piece_apply {n a : ℕ} (h : ∀ b, ![0, a] b + ![1024, n] b ≤ S1024x4352.size b) (ha : a + n ≤ 4352) (z : FVec Ideal ⟨2, ![4096, n]⟩ .bf16)
    (x : FVec Ideal ⟨2, ![512, n]⟩ .bf16) (hx : ∀ k, x (ix2 i k) = z (ix2 (at_ t i) k)) :
    ∑ k : Fin n, x (ix2 i k) * View.ld (Val := Elt Ideal) (e' := .bf16) (iblk m c 14 t) (Rect.unit (s := S1024x4352) ![0, a] ![1024, n] h) (ix2 d k)
      = piece z (args m c).w a ha (at_ t i) d :=
  Finset.sum_congr rfl fun k _ => congrArg₂ (· * ·) (hx k) ((ld_apply d h ha _ k).trans (b14 m c t d _))

/-- A tile's gradient of what is projected. -/
def hAt : FVec Ideal S512x1024 .f32 :=
  k0_pay7 (k0_pay6 (iblk m c 0 t) (View.ld (iblk m c 14 t) (Rect.unit ![0, 0] ![1024, 768] inb_S1024x4352_S1024x768_0_0))
      (iblk m c 1 t) (View.ld (iblk m c 14 t) (Rect.unit ![0, 768] ![1024, 1152] inb_S1024x4352_S1024x1152_0_768))
      (iblk m c 2 t) (View.ld (iblk m c 14 t) (Rect.unit ![0, 1920] ![1024, 384] inb_S1024x4352_S1024x384_0_1920)))
    (iblk m c 3 t) (View.ld (iblk m c 14 t) (Rect.unit ![0, 2304] ![1024, 384] inb_S1024x4352_S1024x384_0_2304))
    (iblk m c 4 t) (View.ld (iblk m c 14 t) (Rect.unit ![0, 2688] ![1024, 384] inb_S1024x4352_S1024x384_0_2688))
    (iblk m c 5 t) (View.ld (iblk m c 14 t) (Rect.unit ![0, 3072] ![1024, 384] inb_S1024x4352_S1024x384_0_3072))
    (iblk m c 6 t) (View.ld (iblk m c 14 t) (Rect.unit ![0, 3456] ![1024, 384] inb_S1024x4352_S1024x384_0_3456))
    (iblk m c 7 t) (View.ld (iblk m c 14 t) (Rect.unit ![0, 3840] ![1024, 384] inb_S1024x4352_S1024x384_0_3840))
    (iblk m c 8 t) (View.ld (iblk m c 14 t) (Rect.unit ![0, 4224] ![1024, 128] inb_S1024x4352_S1024x128_0_4224))

theorem hAt_apply : hAt m c t (ix2 i d) = (args m c).H (at_ t i) d := by
  refine (lastSix_apply ..).trans ?_
  refine congrArg₂ (· + ·) (congrArg₂ (· + ·) (congrArg₂ (· + ·) (congrArg₂ (· + ·) (congrArg₂ (· + ·) (congrArg₂ (· + ·) ((firstThree_apply ..).trans
    (congrArg₂ (· + ·) (congrArg₂ (· + ·) ?_ ?_) ?_)) ?_) ?_) ?_) ?_) ?_) ?_
  · exact piece_apply m c t i d _ _ _ _ fun k => b0 m c t i k
  · exact piece_apply m c t i d _ _ _ _ fun k => b1 m c t i k
  · exact piece_apply m c t i d _ _ _ _ fun k => b2 m c t i k
  · exact piece_apply m c t i d _ _ _ _ fun k => b3 m c t i k
  · exact piece_apply m c t i d _ _ _ _ fun k => b4 m c t i k
  · exact piece_apply m c t i d _ _ _ _ fun k => b5 m c t i k
  · exact piece_apply m c t i d _ _ _ _ fun k => b6 m c t i k
  · exact piece_apply m c t i d _ _ _ _ fun k => b7 m c t i k
  · exact piece_apply m c t i d _ _ _ _ fun k => b8 m c t i k

/-- A tile's reciprocal root, normalised input and gradient of the normalised input. -/
def rAt : FVec Ideal S512x1 .f32 := k0_pay9 (k0_pay8 (iblk m c 10 t))
def xAt : FVec Ideal S512x1024 .f32 := k0_pay10 (iblk m c 10 t) (k0_pay8 (iblk m c 10 t))
def nAt : FVec Ideal S512x1024 .f32 := k0_pay13 (hAt m c t) (iblk m c 12 t)

theorem rAt_apply : rAt m c t (ix2 i (0 : Fin 1)) = Ideal.rsqrt ((args m c).var (at_ t i)) := by
  refine (root_apply ..).trans ?_
  refine congrArg Ideal.rsqrt (congrArg₂ (· + ·) (congrArg₂ Ideal.div (Finset.sum_congr rfl fun k _ => ?_) rfl) rfl)
  exact congrArg₂ (· * ·) (b10 m c t i k) (b10 m c t i k)
theorem xAt_apply : xAt m c t (ix2 i d) = (args m c).xh (at_ t i) d :=
  (unit_apply ..).trans (congrArg₂ (· * ·) (b10 m c t i d) (rAt_apply m c t i))
theorem nAt_apply : nAt m c t (ix2 i d) = (args m c).N (at_ t i) d := by
  refine (normed_apply ..).trans (congrArg₂ (· * ·) (hAt_apply m c t i d) (congrArg₂ (· + ·) rfl ((b12 m c t d).trans (congrArg (args m c).s ?_))))
  refine congrArg (fun e => ix3 e (0 : Fin 1) d) (Fin.ext ?_)
  show t.val / 4 = (t.val * 512 + i.val) / 2048
  omega
end blocks

end Cert.Own.Dx

end
-- ==== Proof.DxOuts.lean ====
module

public import proofs.«01_k».proof.Proof.DxKernel

@[expose] public section

set_option maxRecDepth 16384

noncomputable section

namespace Cert.Own.Dx

open Idealize.ShloMosaic Idealize.ShloMosaic.TcCoe Cert.Kernel2Ideal Cert.Kernel2Ideal.Gen Idealize.SL.Sem

variable (m : (ℓ : Loc nD τ sig) → Buf (Elt Ideal) ℓ) (c : Dev nD) (t : Fin cfg0.N)

/-! ## What a point leaves in the output windows -/

/-- A point begins everything, goes on with everything, or begins an example and goes on with the gain. -/
theorem cases_ : (t.val % 8 = 0 ∧ t.val % 4 = 0) ∨ (¬t.val % 8 = 0 ∧ ¬t.val % 4 = 0) ∨ (¬t.val % 8 = 0 ∧ t.val % 4 = 0) := by omega

theorem dx_out : (outsAt0 m c t.val t.isLt).1 = k0_pay2 (iblk m c 13 t) (rAt m c t) (xAt m c t) (nAt m c t) (iblk m c 9 t) := by
  rcases cases_ t with ⟨h0, h1⟩ | ⟨h0, h1⟩ | ⟨h0, h1⟩
  · rw [outsAt0_A m c t h0 h1]; frame_out; rfl
  · rw [outsAt0_B m c t h0 h1]; frame_out; rfl
  · rw [outsAt0_C m c t h0 h1]; frame_out; rfl

theorem shift_begin (h : t.val % 4 = 0) : (outsAt0 m c t.val t.isLt).2.1 = k0_pay11 (hAt m c t) (k0_pay4 (F := Ideal)) := by
  rcases cases_ t with ⟨h0, h1⟩ | ⟨h0, h1⟩ | ⟨h0, h1⟩
  · rw [outsAt0_A m c t h0 h1]; frame_out; rfl
  · exact absurd h h1
  · rw [outsAt0_C m c t h0 h1]; frame_out; rfl
theorem shift_on (h : ¬t.val % 4 = 0) : (outsAt0 m c t.val t.isLt).2.1 = k0_pay11 (hAt m c t) (outsAt0 m c (t.val - 1) (by have := t.isLt; omega)).2.1 := by
  rw [outsAt0_B m c t (by omega) h]; frame_out; rfl

theorem scale_begin (h : t.val % 4 = 0) : (outsAt0 m c t.val t.isLt).2.2.1
    = k0_pay12 (hAt m c t) (iblk m c 13 t) (iblk m c 10 t) (k0_pay8 (iblk m c 10 t)) (k0_pay5 (F := Ideal)) := by
  rcases cases_ t with ⟨h0, h1⟩ | ⟨h0, h1⟩ | ⟨h0, h1⟩
  · rw [outsAt0_A m c t h0 h1]; frame_out; rfl
  · exact absurd h h1
  · rw [outsAt0_C m c t h0 h1]; frame_out; rfl
theorem scale_on (h : ¬t.val % 4 = 0) : (outsAt0 m c t.val t.isLt).2.2.1
    = k0_pay12 (hAt m c t) (iblk m c 13 t) (iblk m c 10 t) (k0_pay8 (iblk m c 10 t)) (outsAt0 m c (t.val - 1) (by have := t.isLt; omega)).2.2.1 := by
  rw [outsAt0_B m c t (by omega) h]; frame_out; rfl

theorem gain_begin (h : t.val % 8 = 0) : (outsAt0 m c t.val t.isLt).2.2.2 = k0_pay1 (xAt m c t) (nAt m c t) (k0_pay14 (k0_pay3 (F := Ideal))) := by
  rw [outsAt0_A m c t h (by omega)]; frame_out; rfl
theorem gain_on (h : ¬t.val % 8 = 0) : (outsAt0 m c t.val t.isLt).2.2.2
    = k0_pay1 (xAt m c t) (nAt m c t) (k0_pay14 (outsAt0 m c (t.val - 1) (by have := t.isLt; omega)).2.2.2) := by
  rcases cases_ t with ⟨h0, h1⟩ | ⟨h0, h1⟩ | ⟨h0, h1⟩
  · exact absurd h0 h
  · rw [outsAt0_B m c t h0 h1]; frame_out; rfl
  · rw [outsAt0_C m c t h0 h1]; frame_out; rfl

end Cert.Own.Dx

end
-- ==== Proof.DxArrays.lean ====
module

public import proofs.«01_k».proof.Proof.DxOuts

@[expose] public section

set_option maxRecDepth 16384

noncomputable section

namespace Cert.Own.Dx

open Idealize.ShloMosaic Idealize.ShloMosaic.TcCoe Cert.Kernel2Ideal Cert.Kernel2Ideal.Gen Idealize.SL.Sem

variable (m : (ℓ : Loc nD τ sig) → Buf (Elt Ideal) ℓ) (c : Dev nD) (t : Fin cfg0.N)

/-! ## The arrays the kernel leaves -/

theorem zero3 (d : Fin 1024) (e : Fin 8) : k0_pay3 (F := Ideal) (ix2 e d) = 0 := by pointwise [k0_pay3]
theorem zero4 (d : Fin 1024) : k0_pay4 (F := Ideal) (ix3 (0 : Fin 1) (0 : Fin 1) d) = 0 := by pointwise [k0_pay4]
theorem zero5 (d : Fin 1024) : k0_pay5 (F := Ideal) (ix3 (0 : Fin 1) (0 : Fin 1) d) = 0 := by pointwise [k0_pay5]

/-- A sum over the rows of an example's four tiles. -/
theorem four_tiles (F : Fin 4096 → EReal) (h : ∀ s : Fin 4, 4 * (t.val / 4) + s.val < cfg0.N) :
    ∑ s : Fin 4, ∑ k : Fin 512, F (at_ ⟨4 * (t.val / 4) + s.val, h s⟩ k) = ∑ i : Fin 2048, F (Args.row (ex t) i) := by
  refine Fin.sum_mul_add_congr fun s k hl => congrArg F (Fin.ext ?_)
  show (4 * (t.val / 4) + s.val) * 512 + k.val = t.val / 4 * 2048 + (s.val * 512 + k.val)
  omega
theorem eight_tiles (F : Fin 4096 → EReal) (h : ∀ s : Fin 8, 8 * (t.val / 8) + s.val < cfg0.N) :
    ∑ s : Fin 8, ∑ k : Fin 512, F (at_ ⟨8 * (t.val / 8) + s.val, h s⟩ k) = ∑ R : Fin 4096, F R := by
  refine Fin.sum_mul_add_congr fun s k hl => congrArg F (Fin.ext ?_)
  show (8 * (t.val / 8) + s.val) * 512 + k.val = s.val * 512 + k.val
  have : t.val < 8 := t.isLt
  omega

section sums
variable (d : Fin 1024)

theorem dx_tile (i : Fin 512) : k0_pay2 (F := Ideal) (iblk m c 13 t) (rAt m c t) (xAt m c t) (nAt m c t) (iblk m c 9 t) (ix2 i d) = (args m c).dx (ix2 (at_ t i) d) := by
  refine (dx_apply ..).trans ?_
  refine congrArg₂ (· + ·) (b9 m c t i d) (congrArg₂ (· * ·) (rAt_apply m c t i) (congrArg₂ (· - ·) (congrArg₂ (· * ·) (nAt_apply m c t i d) (b13 m c t d))
    (congrArg₂ (· * ·) (xAt_apply m c t i d) (congrArg₂ Ideal.div (Finset.sum_congr rfl fun k _ => ?_) rfl))))
  exact congrArg₂ (· * ·) (congrArg₂ (· * ·) (nAt_apply m c t i k) (b13 m c t k)) (xAt_apply m c t i k)

theorem shift_term (p : FVec Ideal S1x1x1024 .f32) : k0_pay11 (F := Ideal) (hAt m c t) p (ix3 (0 : Fin 1) (0 : Fin 1) d)
    = p (ix3 (0 : Fin 1) (0 : Fin 1) d) + ∑ k : Fin 512, (args m c).H (at_ t k) d :=
  (shift_apply ..).trans (congrArg₂ (· + ·) rfl (Finset.sum_congr rfl fun k _ => hAt_apply m c t k d))

theorem scale_term (p : FVec Ideal S1x1x1024 .f32) :
    k0_pay12 (F := Ideal) (hAt m c t) (iblk m c 13 t) (iblk m c 10 t) (k0_pay8 (iblk m c 10 t)) p (ix3 (0 : Fin 1) (0 : Fin 1) d)
      = p (ix3 (0 : Fin 1) (0 : Fin 1) d) + ∑ k : Fin 512, (args m c).H (at_ t k) d * ((args m c).xh (at_ t k) d * (args m c).g (ix2 (0 : Fin 1) d)) :=
  (scale_apply ..).trans (congrArg₂ (· + ·) rfl (Finset.sum_congr rfl fun k _ =>
    congrArg₂ (· * ·) (hAt_apply m c t k d) (congrArg₂ (· * ·) (xAt_apply m c t k d) (b13 m c t d))))

theorem gain_term (e : Fin 8) (q : FVec Ideal S8x1024 .f32) : k0_pay1 (F := Ideal) (xAt m c t) (nAt m c t) (k0_pay14 q) (ix2 e d)
    = q (ix2 e d) + ∑ k : Fin 512, (args m c).N (at_ t k) d * (args m c).xh (at_ t k) d :=
  (gain_apply ..).trans (congrArg₂ (· + ·) rfl (Finset.sum_congr rfl fun k _ => congrArg₂ (· * ·) (nAt_apply m c t k d) (xAt_apply m c t k d)))

theorem shift_sum (h : t.val % 4 = 3) : (outsAt0 m c t.val t.isLt).2.1 (ix3 (0 : Fin 1) (0 : Fin 1) d) = (args m c).dshift (ix3 (ex t) (0 : Fin 1) d) := by
  have e := Pipeline.eq_sum_fin_of_reset_step_apply_of_flush (M := EReal) (fun n h (d : Fin 1024) => (outsAt0 m c n h).2.1 (ix3 (0 : Fin 1) (0 : Fin 1) d)) 4 (fun _ => 0)
    (fun t d => ∑ k : Fin 512, (args m c).H (at_ t k) d)
    (fun t h d => by beta_reduce; rw [shift_begin m c t h, shift_term, zero4]) (fun t h d => by beta_reduce; rw [shift_on m c t h, shift_term]) t h d
  exact e.trans ((zero_add _).trans (four_tiles t (fun R => (args m c).H R d) _))

theorem scale_sum (h : t.val % 4 = 3) : (outsAt0 m c t.val t.isLt).2.2.1 (ix3 (0 : Fin 1) (0 : Fin 1) d) = (args m c).dscale (ix3 (ex t) (0 : Fin 1) d) := by
  have e := Pipeline.eq_sum_fin_of_reset_step_apply_of_flush (M := EReal) (fun n h (d : Fin 1024) => (outsAt0 m c n h).2.2.1 (ix3 (0 : Fin 1) (0 : Fin 1) d)) 4 (fun _ => 0)
    (fun t d => ∑ k : Fin 512, (args m c).H (at_ t k) d * ((args m c).xh (at_ t k) d * (args m c).g (ix2 (0 : Fin 1) d)))
    (fun t h d => by beta_reduce; rw [scale_begin m c t h, scale_term, zero5]) (fun t h d => by beta_reduce; rw [scale_on m c t h, scale_term]) t h d
  exact e.trans ((zero_add _).trans (four_tiles t (fun R => (args m c).H R d * ((args m c).xh R d * (args m c).g (ix2 (0 : Fin 1) d))) _))

theorem gain_sum (e : Fin 8) (h : t.val % 8 = 7) : (outsAt0 m c t.val t.isLt).2.2.2 (ix2 e d) = (args m c).dgain (ix2 e d) := by
  have e := Pipeline.eq_sum_fin_of_reset_step_apply_of_flush (M := EReal) (fun n h (d : Fin 1024) => (outsAt0 m c n h).2.2.2 (ix2 e d)) 8 (fun _ => 0)
    (fun t d => ∑ k : Fin 512, (args m c).N (at_ t k) d * (args m c).xh (at_ t k) d)
    (fun t h d => by beta_reduce; rw [gain_begin m c t h, gain_term, zero3]) (fun t h d => by beta_reduce; rw [gain_on m c t h, gain_term]) t h d
  exact e.trans ((zero_add _).trans (eight_tiles t (fun R => (args m c).N R d * (args m c).xh R d) _))
end sums

theorem dx_array : (dats m 0 c).arrAt 15 cfg0.N = (args m c).dx := by
  refine (dats m 0 c).arrAt_eq_of_covers 15 _ (by decide +kernel) fun t hf y => ?_
  blk_simp
  rw [after0_15, dx_out]
  idx_vars y
  rw [dx_tile m c t y1 y0]
  refine congrArg _ ?_
  blk_ext [idx t]
  rfl
theorem dshift_array : (dats m 0 c).arrAt 16 cfg0.N = (args m c).dshift := by
  refine (dats m 0 c).arrAt_eq_of_covers 16 _ (by decide +kernel) fun t hf y => ?_
  blk_simp
  rw [after0_16]
  idx_vars y
  obtain rfl := Subsingleton.elim y0 0
  obtain rfl := Subsingleton.elim y1 0
  rw [shift_sum m c t y2 ((flush0_16 t).1 hf)]
  refine congrArg _ ?_
  blk_ext [idx t]
  rfl
theorem dscale_array : (dats m 0 c).arrAt 17 cfg0.N = (args m c).dscale := by
  refine (dats m 0 c).arrAt_eq_of_covers 17 _ (by decide +kernel) fun t hf y => ?_
  blk_simp
  rw [after0_17]
  idx_vars y
  obtain rfl := Subsingleton.elim y0 0
  obtain rfl := Subsingleton.elim y1 0
  rw [scale_sum m c t y2 ((flush0_17 t).1 hf)]
  refine congrArg _ ?_
  blk_ext [idx t]
  rfl
theorem dgain_array : (dats m 0 c).arrAt 18 cfg0.N = (args m c).dgain := by
  refine (dats m 0 c).arrAt_eq_of_covers 18 _ (by decide +kernel) fun t hf y => ?_
  blk_simp
  rw [after0_18]
  idx_vars y
  rw [gain_sum m c t y1 y0 ((flush0_18 t).1 hf)]
  refine congrArg _ ?_
  blk_ext [idx t]

end Cert.Own.Dx

end
-- ==== Proof.DxHost.lean ====
module

public import proofs.«01_k».proof.Proof.Gen.Reference2Ideal.Run
public import proofs.«01_k».proof.Proof.DxMath
public import Idealize.ShloMosaic.Lib.Pointwise
public import Idealize.ShloMosaic.Lib.Pointwise.IndexVar

@[expose] public section

set_option maxRecDepth 16384

noncomputable section

namespace Cert.Own.Dx

open Idealize.ShloMosaic Cert.Reference2Ideal Cert.Reference2Ideal.Gen Idealize.SL.Sem

/-! ## The reference's operations, named -/

abbrev Wide := FVec Ideal S2x2048x1024 .f32
abbrev Col := FVec Ideal S2x2048x1 .f32

/-- The projection's gradient in one array, by examples. -/
def refZ (z0 : FVec Ideal S4096x768 .bf16) (z1 : FVec Ideal S4096x1152 .bf16) (z2 z3 z4 z5 z6 z7 : FVec Ideal S4096x384 .bf16) (z8 : FVec Ideal S4096x128 .bf16) : FVec Ideal S2x2048x4352 .f32 :=
  shapeCast S2x2048x4352 (Value.fn_main_v44 (F := Ideal) (extf .f32 z0 bitsLt_bf16_f32) (extf .f32 z1 bitsLt_bf16_f32) (extf .f32 z2 bitsLt_bf16_f32) (extf .f32 z3 bitsLt_bf16_f32)
    (extf .f32 z4 bitsLt_bf16_f32) (extf .f32 z5 bitsLt_bf16_f32) (extf .f32 z6 bitsLt_bf16_f32) (extf .f32 z7 bitsLt_bf16_f32) (extf .f32 z8 bitsLt_bf16_f32)) shapeCasts_S4096x4352_S2x2048x4352
/-- The gradient of what is projected. -/
def refH (z : FVec Ideal S2x2048x4352 .f32) (w : FVec Ideal S1024x4352 .bf16) : Wide :=
  Host.dotGeneral dot_S2x2048x4352_S1024x4352_S2x2048x1024_2_1_01_0_n_n none z (extf .f32 w bitsLt_bf16_f32)
def refX (x : FVec Ideal S4096x1024 .f32) : Wide := shapeCast S2x2048x1024 x shapeCasts_S4096x1024_S2x2048x1024
/-- The mean square of each position, and the small number added. -/
def refV (x : Wide) : Col :=
  addf (Host.divf (broadcastInDim S2x2048x1 ![0, 1] bcast_S2x2048_S2x2048x1_0_1 (Host.reduceAdd (mulf x x) (constant (F := Ideal) S_ .f32 0x00000000#32) reducesTo_S2x2048x1024_S2x2048_d2 h_S_))
    (broadcastInDim S2x2048x1 ![] bcast_S_S2x2048x1 (constant (F := Ideal) S_ .f32 0x44800000#32))) (broadcastInDim S2x2048x1 ![] bcast_S_S2x2048x1 (constant (F := Ideal) S_ .f32 0x358637BD#32))
def refR (v : Col) : Wide := broadcastInDim S2x2048x1024 ![0, 1, 2] bcast_S2x2048x1_S2x2048x1024_0_1_2 (Host.rsqrt v)
def refG (g : FVec Ideal S1x1024 .f32) : Wide :=
  broadcastInDim S2x2048x1024 ![0, 1, 2] bcast_S1x1x1024_S2x2048x1024_0_1_2 (broadcastInDim S1x1x1024 ![1, 2] bcast_S1x1024_S1x1x1024_1_2 g)
def refN (h : Wide) (s : FVec Ideal S2x1x1024 .f32) : Wide :=
  mulf h (broadcastInDim S2x2048x1024 ![0, 1, 2] bcast_S2x1x1024_S2x2048x1024_0_1_2
    (addf (broadcastInDim S2x1x1024 ![] bcast_S_S2x1x1024 (constant (F := Ideal) S_ .f32 0x3F800000#32)) s))
/-- A sum over an example's positions. -/
def refSum (h : Wide) : FVec Ideal S2x1x1024 .f32 :=
  shapeCast S2x1x1024 (Host.reduceAdd h (constant (F := Ideal) S_ .f32 0x00000000#32) reducesTo_S2x2048x1024_S2x1024_d1 h_S_) shapeCasts_S2x1024_S2x1x1024
/-- A sum over all positions, on eight rows alike. -/
def refAll (n : Wide) : FVec Ideal S8x1024 .f32 :=
  broadcastInDim S8x1024 ![0, 1] bcast_S1x1024_S8x1024_0_1 (broadcastInDim S1x1024 ![1] bcast_S1024_S1x1024_1
    (Host.reduceAdd (shapeCast S1x1x1024 (Host.reduceAdd n (constant (F := Ideal) S_ .f32 0x00000000#32) reducesTo_S2x2048x1024_S1024_d0_1 h_S_) shapeCasts_S1024_S1x1x1024)
      (constant (F := Ideal) S_ .f32 0x00000000#32) reducesTo_S1x1x1024_S1024_d0_1 h_S_))
/-- What the mean square sends back to each of its entries. -/
def refB (x u : Wide) (v : Col) : Wide :=
  broadcastInDim S2x2048x1024 ![0, 1] bcast_S2x2048_S2x2048x1024_0_1 (Host.reduceAdd (Host.divf
    (mulf (shapeCast S2x2048x1 (Host.reduceAdd (mulf x u) (constant (F := Ideal) S_ .f32 0x00000000#32) reducesTo_S2x2048x1024_S2x2048_d2 h_S_) shapeCasts_S2x2048_S2x2048x1)
      (mulf (broadcastInDim S2x2048x1 ![] bcast_S_S2x2048x1 (constant (F := Ideal) S_ .f32 0xBF000000#32)) (Host.divf (Host.rsqrt v) v)))
    (broadcastInDim S2x2048x1 ![] bcast_S_S2x2048x1 (constant (F := Ideal) S_ .f32 0x44800000#32))) (constant (F := Ideal) S_ .f32 0x00000000#32) reducesTo_S2x2048x1_S2x2048_d2 h_S_)
def refDx (y : FVec Ideal S4096x1024 .f32) (x u : Wide) (v : Col) : FVec Ideal S4096x1024 .f32 :=
  addf y (shapeCast S4096x1024 (addf (addf (mulf u (refR v)) (mulf x (refB x u v))) (mulf (refB x u v) x)) shapeCasts_S2x2048x1024_S4096x1024)

/-! ## The same at an index -/

/-- A reduction of the first two axes of three. -/
theorem reduce_two {n0 n1 n2 : ℕ} (h : (⟨3, ![n0, n1, n2]⟩ : Shape).ReducesTo [0, 1] ⟨1, ![n2]⟩) (v : (⟨3, ![n0, n1, n2]⟩ : Shape).Idx → EReal) (init : EReal) (d : Fin n2) :
    Ideal.hostReduceAdd h v init (ix1 d) = init + ∑ a : Fin n0, ∑ b : Fin n1, v (ix3 a b d) := by
  unfold Ideal.hostReduceAdd
  congr 1
  rw [← Fintype.sum_prod_type (f := fun k : Fin n0 × Fin n1 => v (ix3 k.1 k.2 d))]
  symm
  refine Finset.sum_bij (fun k _ => ix3 k.1 k.2 d) (fun k _ => ?_) (fun _ _ _ _ e => Prod.ext (congrFun e 0) (congrFun e 1)) (fun i hi => ?_) fun _ _ => rfl
  · refine Finset.mem_filter.2 ⟨Finset.mem_univ _, ?_⟩
    funext b
    fin_cases b
    rfl
  · have e := (Finset.mem_filter.1 hi).2
    refine ⟨(i 0, i 1), Finset.mem_univ _, ?_⟩
    funext a; apply Fin.ext
    match a with
    | ⟨0, _⟩ => rfl
    | ⟨1, _⟩ => rfl
    | ⟨2, _⟩ => exact (congrArg Fin.val (congrFun e (⟨0, Nat.one_pos⟩ : Fin 1))).symm

section reads
variable (z0 : FVec Ideal S4096x768 .bf16) (z1 : FVec Ideal S4096x1152 .bf16) (z2 z3 z4 z5 z6 z7 : FVec Ideal S4096x384 .bf16) (z8 : FVec Ideal S4096x128 .bf16)
  (z : FVec Ideal S2x2048x4352 .f32) (w : FVec Ideal S1024x4352 .bf16) (x y : FVec Ideal S4096x1024 .f32) (X U h : Wide) (v : Col) (g : FVec Ideal S1x1024 .f32) (s : FVec Ideal S2x1x1024 .f32)
  (b : Fin 2) (i : Fin 2048) (d : Fin 1024) (e : Fin 8) (k : Fin 4352)

theorem refH_apply : refH z w (ix3 b i d) = ∑ k : Fin 4352, z (ix3 b i k) * w (ix2 d k) := by
  pointwise [refH]
theorem peel (a n : ℕ) {N : ℕ} (h : a + n = N) (F : Fin N → EReal) : ∑ k, F k = ∑ k : Fin a, F ⟨k.val, by omega⟩ + ∑ k : Fin n, F ⟨a + k.val, by omega⟩ := by
  subst h
  exact Fin.sum_univ_add F
theorem refH_pieces : refH (refZ z0 z1 z2 z3 z4 z5 z6 z7 z8) w (ix3 b i d) = (Args.mk z0 z1 z2 z3 z4 z5 z6 z7 z8 x y s g w).H (Args.row b i) d := by
  rw [refH_apply, peel 4224 128 (by rfl), peel 3840 384 (by rfl), peel 3456 384 (by rfl), peel 3072 384 (by rfl), peel 2688 384 (by rfl), peel 2304 384 (by rfl),
    peel 1920 384 (by rfl), peel 768 1152 (by rfl)]
  unfold Args.H piece
  iterate 8 refine congrArg₂ (· + ·) ?_ ?_
  all_goals
    refine Finset.sum_congr rfl fun k _ => ?_
    have hk := k.isLt
    pointwise [refZ, Value.fn_main_v44]
    repeat rw [dif_neg (by omega)]
    try rw [dif_pos (by omega)]
    refine congrArg₂ (· * ·) ?_ (by congr 2)
    first
    | exact congrArg _ (congrArg (ix2 (Args.row b i)) (Fin.ext (by dsimp only; omega)))
    | rfl
theorem refX_apply : refX x (ix3 b i d) = x (ix2 (⟨b.val * 2048 + i.val, by omega⟩ : Fin 4096) d) := by
  pointwise [refX]
theorem refV_apply : refV X (ix3 b i (0 : Fin 1)) = Ideal.div (∑ k : Fin 1024, X (ix3 b i k) * X (ix3 b i k)) (Ideal.ofBits .f32 0x44800000#32) + Ideal.ofBits .f32 0x358637BD#32 := by
  pointwise [refV]
theorem refR_apply : refR v (ix3 b i d) = Ideal.rsqrt (v (ix3 b i (0 : Fin 1))) := by
  pointwise [refR]
theorem refG_apply : refG g (ix3 b i d) = g (ix2 (0 : Fin 1) d) := by
  pointwise [refG]
theorem refN_apply : refN h s (ix3 b i d) = h (ix3 b i d) * (Ideal.ofBits .f32 0x3F800000#32 + s (ix3 b (0 : Fin 1) d)) := by
  pointwise [refN]
theorem refSum_apply : refSum h (ix3 b (0 : Fin 1) d) = ∑ i : Fin 2048, h (ix3 b i d) := by
  pointwise [refSum]
theorem refAll_apply : refAll h (ix2 e d) = ∑ b : Fin 2, ∑ i : Fin 2048, h (ix3 b i d) := by
  pointwise [refAll]
  rw [reduce_two, zero_add, Fin.sum_univ_one, Fin.sum_univ_one]
  pointwise
  rw [reduce_two, zero_add]
theorem refB_apply : refB X U v (ix3 b i d) = Ideal.div ((∑ k : Fin 1024, X (ix3 b i k) * U (ix3 b i k)) * (Ideal.ofBits .f32 0xBF000000#32 * Ideal.div (Ideal.rsqrt (v (ix3 b i (0 : Fin 1)))) (v (ix3 b i (0 : Fin 1)))))
    (Ideal.ofBits .f32 0x44800000#32) := by
  pointwise [refB]
  rw [Fin.sum_univ_one]
theorem refDx_apply (R : Fin 4096) (e0 : (⟨R.val / 2048, by omega⟩ : Fin 2) = b) (e1 : (⟨R.val % 2048, by omega⟩ : Fin 2048) = i) :
    refDx y X U v (ix2 R d) = y (ix2 R d) + (U (ix3 b i d) * Ideal.rsqrt (v (ix3 b i (0 : Fin 1)))
      + X (ix3 b i d) * refB X U v (ix3 b i d) + refB X U v (ix3 b i d) * X (ix3 b i d)) := by
  subst e0 e1
  unfold refDx
  generalize refB X U v = B
  pointwise [refR]
theorem row_div : (⟨(Args.row b i).val / 2048, by omega⟩ : Fin 2) = b := Fin.ext (by
  show (b.val * 2048 + i.val) / 2048 = b.val
  omega)
theorem row_mod : (⟨(Args.row b i).val % 2048, by omega⟩ : Fin 2048) = i := Fin.ext (by
  show (b.val * 2048 + i.val) % 2048 = i.val
  omega)
end reads

end Cert.Own.Dx

end
-- ==== Proof.DxReal.lean ====
module

public import proofs.«01_k».proof.Proof.DxMath
public import proofs.«01_k».proof.Proof.HostRead

@[expose] public section

set_option maxRecDepth 16384

noncomputable section

namespace Cert.Own.Dx

open Idealize.ShloMosaic Cert.Kernel2Ideal

/-! ## The two ways to differentiate the normalisation agree on real numbers -/

theorem word_1024 : Ideal.ofBits .f32 0x44800000#32 = ((1024 : ℝ) : EReal) := by
  simp [Ideal.ofBits, Ideal.ieee]
  rw [← EReal.coe_mul]; norm_num
theorem word_half : Ideal.ofBits .f32 0xBF000000#32 = ((-(1 / 2) : ℝ) : EReal) := by
  simp [Ideal.ofBits, Ideal.ieee]
  rw [← EReal.coe_mul]; norm_num
theorem word_one : Ideal.ofBits .f32 0x3F800000#32 = ((1 : ℝ) : EReal) := by
  simp [Ideal.ofBits, Ideal.ieee]
  rw [← EReal.coe_mul]; norm_num
theorem word_small : ∃ r : ℝ, 0 < r ∧ Ideal.ofBits .f32 0x358637BD#32 = (r : EReal) := by
  refine ⟨_, ?_, by simp [Ideal.ofBits, Ideal.ieee]; rw [← EReal.coe_mul]⟩
  norm_num

/-- A real number. -/
def Is (x : EReal) : Prop := ∃ r : ℝ, x = (r : EReal)
theorem Is.add {x y : EReal} (hx : Is x) (hy : Is y) : Is (x + y) := by
  obtain ⟨a, rfl⟩ := hx; obtain ⟨b, rfl⟩ := hy; exact ⟨a + b, by norm_cast⟩
theorem Is.mul {x y : EReal} (hx : Is x) (hy : Is y) : Is (x * y) := by
  obtain ⟨a, rfl⟩ := hx; obtain ⟨b, rfl⟩ := hy; exact ⟨a * b, by norm_cast⟩
theorem Is.sum {n : ℕ} {f : Fin n → EReal} (h : ∀ k, Is (f k)) : Is (∑ k, f k) := by
  choose g hg using h
  exact ⟨∑ k, g k, by rw [coe_sum]; exact Finset.sum_congr rfl fun k _ => hg k⟩
theorem piece_is {n : ℕ} {z : FVec Ideal ⟨2, ![4096, n]⟩ .bf16} {w : FVec Ideal S1024x4352 .bf16} (hz : ∀ y, Is (z y)) (hw : ∀ y, Is (w y)) (a : ℕ) (h : a + n ≤ 4352)
    (R : Fin 4096) (d : Fin 1024) : Is (piece z w a h R d) := Is.sum fun _ => (hz _).mul (hw _)

/-- Every entry of the arrays that are multiplied is real. -/
structure Args.Finite (A : Args) : Prop where
  z0 : ∀ y, Is (A.z0 y)
  z1 : ∀ y, Is (A.z1 y)
  z2 : ∀ y, Is (A.z2 y)
  z3 : ∀ y, Is (A.z3 y)
  z4 : ∀ y, Is (A.z4 y)
  z5 : ∀ y, Is (A.z5 y)
  z6 : ∀ y, Is (A.z6 y)
  z7 : ∀ y, Is (A.z7 y)
  z8 : ∀ y, Is (A.z8 y)
  x : ∀ y, Is (A.x y)
  s : ∀ y, Is (A.s y)
  g : ∀ y, Is (A.g y)
  w : ∀ y, Is (A.w y)

variable {A : Args}

theorem Args.Finite.H (h : A.Finite) (R : Fin 4096) (d : Fin 1024) : Is (A.H R d) :=
  ((((((((piece_is h.z0 h.w _ _ R d).add (piece_is h.z1 h.w _ _ R d)).add (piece_is h.z2 h.w _ _ R d)).add (piece_is h.z3 h.w _ _ R d)).add
    (piece_is h.z4 h.w _ _ R d)).add (piece_is h.z5 h.w _ _ R d)).add (piece_is h.z6 h.w _ _ R d)).add (piece_is h.z7 h.w _ _ R d)).add (piece_is h.z8 h.w _ _ R d)
theorem Args.Finite.N (h : A.Finite) (R : Fin 4096) (d : Fin 1024) : Is (A.N R d) :=
  (h.H R d).mul (Is.add ⟨1, word_one⟩ (h.s _))

/-- What the mean square sends back to each entry of a position, as the rule for the reciprocal root gives it. -/
def Args.back (A : Args) (R : Fin 4096) : EReal :=
  Ideal.div ((∑ k : Fin 1024, A.x (ix2 R k) * (A.N R k * A.g (ix2 (0 : Fin 1) k))) * (Ideal.ofBits .f32 0xBF000000#32 * Ideal.div (Ideal.rsqrt (A.var R)) (A.var R)))
    (Ideal.ofBits .f32 0x44800000#32)

/-- The derivative of the normalisation term by term is the one the kernel takes at once. -/
theorem Args.Finite.unit (h : A.Finite) (R : Fin 4096) (d : Fin 1024) :
    A.N R d * A.g (ix2 (0 : Fin 1) d) * Ideal.rsqrt (A.var R) + A.x (ix2 R d) * A.back R + A.back R * A.x (ix2 R d)
      = Ideal.rsqrt (A.var R) * (A.N R d * A.g (ix2 (0 : Fin 1) d)
        - A.xh R d * Ideal.div (∑ k : Fin 1024, A.N R k * A.g (ix2 (0 : Fin 1) k) * A.xh R k) (Ideal.ofBits .f32 0x44800000#32)) := by
  choose x hx using fun k => h.x (ix2 R k)
  choose u hu using fun k => (h.N R k).mul (h.g (ix2 (0 : Fin 1) k))
  obtain ⟨ε, hε, eε⟩ := word_small
  have hs : 0 ≤ ∑ k, x k * x k := Finset.sum_nonneg fun k _ => mul_self_nonneg _
  have hv : A.var R = (((∑ k, x k * x k) / 1024 + ε : ℝ) : EReal) := by
    unfold Args.var
    rw [EReal.coe_add, eε, div_real (a := ∑ k, x k * x k) ?_ word_1024 (by norm_num)]
    rw [coe_sum]
    exact Finset.sum_congr rfl fun k _ => by rw [hx, EReal.coe_mul]
  generalize hV : (∑ k, x k * x k) / 1024 + ε = v at hv
  have pv : 0 < v := by rw [← hV]; positivity
  have hr : Ideal.rsqrt (A.var R) = (((Real.sqrt v)⁻¹ : ℝ) : EReal) := by
    rw [hv, Ideal.rsqrt_coe, if_neg pv.not_gt, if_neg pv.ne']
  have hq : Real.sqrt v * Real.sqrt v = v := Real.mul_self_sqrt pv.le
  have ps : 0 < Real.sqrt v := Real.sqrt_pos.2 pv
  generalize Real.sqrt v = q at hr hq ps
  have e1 : ∑ k : Fin 1024, A.x (ix2 R k) * (A.N R k * A.g (ix2 (0 : Fin 1) k)) = ((∑ k, x k * u k : ℝ) : EReal) := by
    rw [coe_sum]
    exact Finset.sum_congr rfl fun k _ => by rw [hx, hu, EReal.coe_mul]
  have e2 : ∑ k : Fin 1024, A.N R k * A.g (ix2 (0 : Fin 1) k) * A.xh R k = ((∑ k, u k * (x k * q⁻¹) : ℝ) : EReal) := by
    rw [coe_sum]
    exact Finset.sum_congr rfl fun k _ => by rw [Args.xh, hx, hu, hr, EReal.coe_mul, EReal.coe_mul]
  have e3 : ∑ k, u k * (x k * q⁻¹) = (∑ k, x k * u k) * q⁻¹ := by
    rw [Finset.sum_mul]
    exact Finset.sum_congr rfl fun k _ => by ring
  rw [e3] at e2
  generalize ∑ k, x k * u k = S at e1 e2
  have hb : A.back R = ((S * (-(1 / 2) * (q⁻¹ / v)) / 1024 : ℝ) : EReal) := by
    unfold Args.back
    refine div_real ?_ word_1024 (by norm_num)
    rw [e1, word_half, div_real hr hv pv.ne', EReal.coe_mul, EReal.coe_mul]
  rw [hb, div_real e2 word_1024 (by norm_num), Args.xh, hu, hx, hr]
  norm_cast
  congr 1
  subst hq
  field_simp
  ring

end Cert.Own.Dx

end
-- ==== Proof.DxRef.lean ====
module

public import proofs.«01_k».proof.Proof.DxHost
public import proofs.«01_k».proof.Proof.DxReal

@[expose] public section

set_option maxRecDepth 16384

noncomputable section

namespace Cert.Own.Dx

open Idealize.ShloMosaic Idealize.ShloMosaic.TcCoe Idealize.SL.Sem

/-! ## The arrays the reference leaves -/

section ref
open Cert.Reference2Ideal Cert.Reference2Ideal.Gen

/-- The reference's arrays, from its arguments. -/
def Args.ofRef (A : Args) : Wide := refH (refZ A.z0 A.z1 A.z2 A.z3 A.z4 A.z5 A.z6 A.z7 A.z8) A.w
def Args.refUnit (A : Args) : Wide := mulf (refX A.x) (refR (refV (refX A.x)))

variable (A : Args) (b : Fin 2) (i : Fin 2048) (d : Fin 1024)

theorem refH_eq : A.ofRef (ix3 b i d) = A.H (Args.row b i) d := refH_pieces ..
theorem refVar_eq : refV (refX A.x) (ix3 b i (0 : Fin 1)) = A.var (Args.row b i) := by
  rw [refV_apply]
  simp only [refX_apply]
  rfl
theorem refUnit_eq : A.refUnit (ix3 b i d) = A.xh (Args.row b i) d := by
  show refX A.x (ix3 b i d) * refR _ (ix3 b i d) = _
  rw [refR_apply, refVar_eq, refX_apply]
  rfl
theorem refN_eq : refN A.ofRef A.s (ix3 b i d) = A.N (Args.row b i) d := by
  rw [refN_apply, refH_eq, Args.N]
  refine congrArg (fun e => _ * (_ + A.s (ix3 e (0 : Fin 1) d))) (Fin.ext ?_)
  show b.val = (b.val * 2048 + i.val) / 2048
  omega

theorem dshift_eq : refSum A.ofRef = A.dshift := by
  funext y
  idx_vars y
  obtain rfl := Subsingleton.elim y1 0
  rw [refSum_apply]
  exact Finset.sum_congr rfl fun i _ => refH_eq ..
theorem dscale_eq : refSum (mulf (mulf A.refUnit (refG A.g)) A.ofRef) = A.dscale := by
  funext y
  idx_vars y
  obtain rfl := Subsingleton.elim y1 0
  rw [refSum_apply]
  refine Finset.sum_congr rfl fun i _ => ?_
  show A.refUnit (ix3 y0 i y2) * refG A.g (ix3 y0 i y2) * A.ofRef (ix3 y0 i y2) = _
  rw [refUnit_eq, refG_apply, refH_eq]
  exact mul_comm _ _
theorem two_examples (F : Fin 4096 → EReal) : ∑ b : Fin 2, ∑ i : Fin 2048, F (Args.row b i) = ∑ R : Fin 4096, F R :=
  Fin.sum_mul_add_congr fun _ _ _ => rfl
theorem gainTerm_eq (b : Fin 2) (i : Fin 2048) (d : Fin 1024) : mulf A.refUnit (refN A.ofRef A.s) (ix3 b i d) = A.N (Args.row b i) d * A.xh (Args.row b i) d := by
  show A.refUnit (ix3 b i d) * refN A.ofRef A.s (ix3 b i d) = _
  rw [refUnit_eq, refN_eq]
  exact mul_comm _ _
theorem dgain_apply (e : Fin 8) (d : Fin 1024) : A.dgain (ix2 e d) = ∑ R : Fin 4096, A.N R d * A.xh R d := rfl
theorem gain_sum_eq (d : Fin 1024) : ∑ b : Fin 2, ∑ i : Fin 2048, mulf A.refUnit (refN A.ofRef A.s) (ix3 b i d) = ∑ R : Fin 4096, A.N R d * A.xh R d := by
  simp only [gainTerm_eq]
  exact two_examples fun R => A.N R d * A.xh R d
theorem gain_at (e : Fin 8) (d : Fin 1024) : refAll (mulf A.refUnit (refN A.ofRef A.s)) (ix2 e d) = A.dgain (ix2 e d) :=
  (refAll_apply ..).trans ((gain_sum_eq A d).trans (dgain_apply ..).symm)
theorem dgain_eq : refAll (mulf A.refUnit (refN A.ofRef A.s)) = A.dgain := by
  funext y
  idx_vars y
  exact gain_at A y0 y1
theorem mulf_at (X Y : Wide) (j : S2x2048x1024.Idx) : mulf X Y j = X j * Y j := rfl
theorem inner_eq (k : Fin 1024) : mulf (refN A.ofRef A.s) (refG A.g) (ix3 b i k) = A.N (Args.row b i) k * A.g (ix2 (0 : Fin 1) k) := by
  rw [mulf_at, refN_eq, refG_apply]
theorem refX_eq (k : Fin 1024) : refX A.x (ix3 b i k) = A.x (ix2 (Args.row b i) k) := refX_apply ..
theorem back_eq : refB (refX A.x) (mulf (refN A.ofRef A.s) (refG A.g)) (refV (refX A.x)) (ix3 b i d) = A.back (Args.row b i) := by
  rw [refB_apply, refVar_eq]
  exact congrArg₂ Ideal.div (congrArg₂ (· * ·) (Finset.sum_congr rfl fun k _ => congrArg₂ (· * ·) (refX_eq A b i k) (inner_eq A b i k)) rfl) rfl
theorem dx_apply_row : A.dx (ix2 (Args.row b i) d) = A.y (ix2 (Args.row b i) d) + Ideal.rsqrt (A.var (Args.row b i)) * (A.N (Args.row b i) d * A.g (ix2 (0 : Fin 1) d)
    - A.xh (Args.row b i) d * Ideal.div (∑ k : Fin 1024, A.N (Args.row b i) k * A.g (ix2 (0 : Fin 1) k) * A.xh (Args.row b i) k) (Ideal.ofBits .f32 0x44800000#32)) := rfl
theorem dx_at (h : A.Finite) : refDx A.y (refX A.x) (mulf (refN A.ofRef A.s) (refG A.g)) (refV (refX A.x)) (ix2 (Args.row b i) d) = A.dx (ix2 (Args.row b i) d) := by
  rw [refDx_apply (b := b) (i := i) (e0 := row_div b i) (e1 := row_mod b i), back_eq, inner_eq, refX_eq, refVar_eq, h.unit, dx_apply_row]
theorem row_val : (Args.row b i).val = b.val * 2048 + i.val := rfl
theorem row_of (R : Fin 4096) : ∃ b i, R = Args.row b i := by
  obtain ⟨b, hb⟩ : ∃ b : Fin 2, b.val = R.val / 2048 := ⟨⟨_, by omega⟩, rfl⟩
  obtain ⟨i, hi⟩ : ∃ i : Fin 2048, i.val = R.val % 2048 := ⟨⟨_, by omega⟩, rfl⟩
  refine ⟨b, i, Fin.ext ?_⟩
  rw [row_val, hb, hi]
  omega
theorem dx_eq (h : A.Finite) : refDx A.y (refX A.x) (mulf (refN A.ofRef A.s) (refG A.g)) (refV (refX A.x)) = A.dx := by
  funext y
  idx_vars y
  obtain ⟨b, i, rfl⟩ := row_of y0
  exact dx_at A b i y1 h

end ref

end Cert.Own.Dx

end
-- ==== Proof.DxFinite.lean ====
module

public import proofs.«01_k».proof.Proof.Finite

@[expose] public section

set_option maxRecDepth 16384

noncomputable section

namespace Cert.Own.Pre2

open Idealize.ShloMosaic Cert.Pre_finite2

/-! What the second precondition says: every entry the two programs read, but for what is only added, is a real number. -/

theorem h0 : S_.BroadcastsInDim S4096x768 (![] : Fin 0 → Fin S4096x768.rank) := by decide
theorem h1 : S_.BroadcastsInDim S4096x1152 (![] : Fin 0 → Fin S4096x1152.rank) := by decide
theorem h2 : S_.BroadcastsInDim S4096x384 (![] : Fin 0 → Fin S4096x384.rank) := by decide
theorem h8 : S_.BroadcastsInDim S4096x128 (![] : Fin 0 → Fin S4096x128.rank) := by decide
theorem h10 : S_.BroadcastsInDim S4096x1024 (![] : Fin 0 → Fin S4096x1024.rank) := by decide
theorem h12 : S_.BroadcastsInDim S2x1x1024 (![] : Fin 0 → Fin S2x1x1024.rank) := by decide
theorem h13 : S_.BroadcastsInDim S1x1024 (![] : Fin 0 → Fin S1x1024.rank) := by decide
theorem h14 : S_.BroadcastsInDim S1024x4352 (![] : Fin 0 → Fin S1024x4352.rank) := by decide
theorem r0 : S4096x768.ReducesTo [0, 1] S_ := by decide
theorem r1 : S4096x1152.ReducesTo [0, 1] S_ := by decide
theorem r2 : S4096x384.ReducesTo [0, 1] S_ := by decide
theorem r8 : S4096x128.ReducesTo [0, 1] S_ := by decide
theorem r10 : S4096x1024.ReducesTo [0, 1] S_ := by decide
theorem r12 : S2x1x1024.ReducesTo [0, 1, 2] S_ := by decide
theorem r13 : S1x1024.ReducesTo [0, 1] S_ := by decide
theorem r14 : S1024x4352.ReducesTo [0, 1] S_ := by decide

instance facts : Cert.Pre_finite2.Facts where
  bitsLt_bf16_f32 := Pre.bitsLt_bf16_f32
  h_S_ := Pre.h_S_
  bcast_S_S4096x768 := h0
  reducesTo_S4096x768_S_d0_1 := r0
  bcast_S_S4096x1152 := h1
  reducesTo_S4096x1152_S_d0_1 := r1
  bcast_S_S4096x384 := h2
  reducesTo_S4096x384_S_d0_1 := r2
  bcast_S_S4096x128 := h8
  reducesTo_S4096x128_S_d0_1 := r8
  bcast_S_S4096x1024 := h10
  reducesTo_S4096x1024_S_d0_1 := r10
  bcast_S_S2x1x1024 := h12
  reducesTo_S2x1x1024_S_d0_1_2 := r12
  bcast_S_S1x1024 := h13
  reducesTo_S1x1024_S_d0_1 := r13
  bcast_S_S1024x4352 := h14
  reducesTo_S1024x4352_S_d0_1 := r14

/-- Every entry of an array is a real number. -/
def Real {s : Shape} {e : FTy} (x : FVec Ideal s e) : Prop := ∀ y, x y = ((x y : EReal).toReal : EReal)

theorem reals (x0 : FVec Ideal S4096x768 .bf16) (x1 : FVec Ideal S4096x1152 .bf16) (x2 x3 x4 x5 x6 x7 : FVec Ideal S4096x384 .bf16) (x8 : FVec Ideal S4096x128 .bf16)
    (x9 x10 : FVec Ideal S4096x1024 .f32) (x11 x12 : FVec Ideal S2x1x1024 .f32) (x13 : FVec Ideal S1x1024 .f32) (x14 : FVec Ideal S1024x4352 .bf16)
    (h : Cert.Pre_finite2.fn (F := Ideal) x0 x1 x2 x3 x4 x5 x6 x7 x8 x9 x10 x11 x12 x13 x14 = fun _ => 1#1) :
    (Real x0 ∧ Real x1 ∧ Real x2 ∧ Real x3 ∧ Real x4 ∧ Real x5 ∧ Real x6 ∧ Real x7 ∧ Real x8) ∧ Real x10 ∧ Real x12 ∧ Real x13 ∧ Real x14 := by
  have e := congrFun h (fun i => i.elim0)
  unfold Cert.Pre_finite2.fn fn_part1 fn_part2 fn_part3 fn_part4 at e
  obtain ⟨e, e14⟩ := Pre.and_eq_one _ _ _ e
  obtain ⟨e, e13⟩ := Pre.and_eq_one _ _ _ e
  obtain ⟨e, e12⟩ := Pre.and_eq_one _ _ _ e
  obtain ⟨e, e10⟩ := Pre.and_eq_one _ _ _ e
  obtain ⟨e, e8⟩ := Pre.and_eq_one _ _ _ e
  obtain ⟨e, e7⟩ := Pre.and_eq_one _ _ _ e
  obtain ⟨e, e6⟩ := Pre.and_eq_one _ _ _ e
  obtain ⟨e, e5⟩ := Pre.and_eq_one _ _ _ e
  obtain ⟨e, e4⟩ := Pre.and_eq_one _ _ _ e
  obtain ⟨e, e3⟩ := Pre.and_eq_one _ _ _ e
  obtain ⟨e, e2⟩ := Pre.and_eq_one _ _ _ e
  obtain ⟨e, e1⟩ := Pre.and_eq_one _ _ _ e
  obtain ⟨_, e0⟩ := Pre.and_eq_one _ _ _ e
  exact ⟨⟨Pre.reals_of (extf .f32 x0 Pre.bitsLt_bf16_f32) _ _ _ e0, Pre.reals_of (extf .f32 x1 Pre.bitsLt_bf16_f32) _ _ _ e1,
    Pre.reals_of (extf .f32 x2 Pre.bitsLt_bf16_f32) _ _ _ e2, Pre.reals_of (extf .f32 x3 Pre.bitsLt_bf16_f32) _ _ _ e3,
    Pre.reals_of (extf .f32 x4 Pre.bitsLt_bf16_f32) _ _ _ e4, Pre.reals_of (extf .f32 x5 Pre.bitsLt_bf16_f32) _ _ _ e5,
    Pre.reals_of (extf .f32 x6 Pre.bitsLt_bf16_f32) _ _ _ e6, Pre.reals_of (extf .f32 x7 Pre.bitsLt_bf16_f32) _ _ _ e7,
    Pre.reals_of (extf .f32 x8 Pre.bitsLt_bf16_f32) _ _ _ e8⟩,
    Pre.reals_of x10 _ _ _ e10, Pre.reals_of x12 _ _ _ e12, Pre.reals_of x13 _ _ _ e13, Pre.reals_of (extf .f32 x14 Pre.bitsLt_bf16_f32) _ _ _ e14⟩

end Cert.Own.Pre2
-- ==== Proof.DxResults.lean ====
module

public import proofs.«01_k».proof.Proof.DxArrays
public import proofs.«01_k».proof.Proof.DxRef
public import proofs.«01_k».proof.Proof.DxFinite

@[expose] public section

set_option maxRecDepth 16384

noncomputable section

namespace Cert.Own.Dx

open Idealize.ShloMosaic Idealize.ShloMosaic.TcCoe Idealize.SL.Sem

/-! The results of both programs are the same four arrays. -/

section raw
open Cert.Reference2Ideal Cert.Reference2Ideal.Gen
variable (m : (ℓ : Loc nD τ sig) → Buf (Elt Ideal) ℓ) (c : Dev nD)

/-- The arrays the reference is given. -/
def argsR : Args where
  z0 := m ((c.tc : Thread nD τ).loc main_arg0)
  z1 := m ((c.tc : Thread nD τ).loc main_arg1)
  z2 := m ((c.tc : Thread nD τ).loc main_arg2)
  z3 := m ((c.tc : Thread nD τ).loc main_arg3)
  z4 := m ((c.tc : Thread nD τ).loc main_arg4)
  z5 := m ((c.tc : Thread nD τ).loc main_arg5)
  z6 := m ((c.tc : Thread nD τ).loc main_arg6)
  z7 := m ((c.tc : Thread nD τ).loc main_arg7)
  z8 := m ((c.tc : Thread nD τ).loc main_arg8)
  y := m ((c.tc : Thread nD τ).loc main_arg9)
  x := m ((c.tc : Thread nD τ).loc main_arg10)
  s := m ((c.tc : Thread nD τ).loc main_arg12)
  g := m ((c.tc : Thread nD τ).loc main_arg13)
  w := m ((c.tc : Thread nD τ).loc main_arg14)

theorem res_dx : Value.res_out0 m c = refDx (argsR m c).y (refX (argsR m c).x) (mulf (refN (argsR m c).ofRef (argsR m c).s) (refG (argsR m c).g)) (refV (refX (argsR m c).x)) := rfl
end raw

open Cert.Kernel2Ideal in
theorem finite_of (m : (ℓ : Loc nD τ sig) → Buf (Elt Ideal) ℓ) (hp : Cert.Pre_Kernel2Ideal_finite2 m) (c : Dev nD) : (args m c).Finite := by
  have H := Pre2.reals _ _ _ _ _ _ _ _ _ _ _ _ _ _ _ (hp c)
  obtain ⟨⟨h0, h1, h2, h3, h4, h5, h6, h7, h8⟩, h10, h12, h13, h14⟩ := H
  exact ⟨fun y => ⟨_, h0 y⟩, fun y => ⟨_, h1 y⟩, fun y => ⟨_, h2 y⟩, fun y => ⟨_, h3 y⟩, fun y => ⟨_, h4 y⟩, fun y => ⟨_, h5 y⟩, fun y => ⟨_, h6 y⟩, fun y => ⟨_, h7 y⟩,
    fun y => ⟨_, h8 y⟩, fun y => ⟨_, h10 y⟩, fun y => ⟨_, h12 y⟩, fun y => ⟨_, h13 y⟩, fun y => ⟨_, h14 y⟩⟩

/-- Over the reals the kernel and the reference leave the same arrays. -/
theorem algebraic : Cert.algebraic_Kernel2Ideal_Reference2Ideal_pre_finite2 := by
  intro m g m' g' hp hm
  have R (c) : argsR m' c = args m c := by
    obtain ⟨h0, h1, h2, h3, h4, h5, h6, h7, h8, h9, h10, h11, h12, h13, h14⟩ := hm c
    unfold argsR
    rw [h0, h1, h2, h3, h4, h5, h6, h7, h8, h9, h10, h12, h13, h14]
    rfl
  refine ⟨fun c => (Cert.Kernel2Ideal.Gen.dats m 0 c).arrAt 15 Cert.Kernel2Ideal.cfg0.N, fun c => (Cert.Kernel2Ideal.Gen.dats m 0 c).arrAt 16 Cert.Kernel2Ideal.cfg0.N,
    fun c => (Cert.Kernel2Ideal.Gen.dats m 0 c).arrAt 17 Cert.Kernel2Ideal.cfg0.N, fun c => (Cert.Kernel2Ideal.Gen.dats m 0 c).arrAt 18 Cert.Kernel2Ideal.cfg0.N,
    Cert.Kernel2Ideal.Value.run_blocks m g, (θ_run _ _ _).mono (fun r h c => ?_) (Cert.Reference2Ideal.Value.run m' g')⟩
  obtain ⟨a0, a1, a2, a3, rest⟩ := h c
  exact ⟨a0.trans ((res_dx m' c).trans ((dx_eq _ (by rw [R c]; exact finite_of m hp c)).trans ((congrArg Args.dx (R c)).trans (dx_array m c).symm))),
    a1.trans ((dshift_eq (argsR m' c)).trans ((congrArg Args.dshift (R c)).trans (dshift_array m c).symm)),
    a2.trans ((dscale_eq (argsR m' c)).trans ((congrArg Args.dscale (R c)).trans (dscale_array m c).symm)),
    a3.trans ((dgain_eq (argsR m' c)).trans ((congrArg Args.dgain (R c)).trans (dgain_array m c).symm)), rest⟩

end Cert.Own.Dx

end
-- ==== Proof.DwKernel.lean ====
module

public import proofs.«01_k».proof.Proof.Gen.Kernel3Ideal.Value
public import Idealize.ShloMosaic.Lib.Pointwise
public import Idealize.ShloMosaic.Lib.Pointwise.IndexVar
public import Idealize.ShloMosaic.Lib.MatmulPlain
public import Idealize.ShloMosaic.Lib.Pipeline.ValueKit
public import Idealize.ShloMosaic.Lib.Pipeline.ReadBack

@[expose] public section

set_option maxRecDepth 16384

noncomputable section

namespace Cert.Own.Dw

open Idealize.ShloMosaic Idealize.ShloMosaic.TcCoe Cert.Kernel3Ideal Cert.Kernel3Ideal.Gen Idealize.SL.Sem

/-! ## The columns of the projection's gradient -/

section pick
variable {n : ℕ} (z0 z1 z2 z3 z4 z5 : FVec Ideal ⟨2, ![n, 384]⟩ .bf16) (z6 : FVec Ideal ⟨2, ![n, 128]⟩ .bf16) (i : Fin n) (k : Fin 2432)

/-- Column `k` of the seven pieces side by side. -/
def pick : EReal :=
  if h6 : 2304 ≤ k.val then z6 (ix2 i (⟨k.val - 2304, by omega⟩ : Fin 128))
  else if h5 : 1920 ≤ k.val then z5 (ix2 i (⟨k.val - 1920, by omega⟩ : Fin 384))
  else if h4 : 1536 ≤ k.val then z4 (ix2 i (⟨k.val - 1536, by omega⟩ : Fin 384))
  else if h3 : 1152 ≤ k.val then z3 (ix2 i (⟨k.val - 1152, by omega⟩ : Fin 384))
  else if h2 : 768 ≤ k.val then z2 (ix2 i (⟨k.val - 768, by omega⟩ : Fin 384))
  else if h1 : 384 ≤ k.val then z1 (ix2 i (⟨k.val - 384, by omega⟩ : Fin 384))
  else z0 (ix2 i (⟨k.val, by omega⟩ : Fin 384))

variable {k}
theorem pick0 (j : Fin 384) (e : k.val = 0 + j.val) : pick z0 z1 z2 z3 z4 z5 z6 i k = z0 (ix2 i j) := by
  unfold pick
  rw [dif_neg (by omega), dif_neg (by omega), dif_neg (by omega), dif_neg (by omega), dif_neg (by omega), dif_neg (by omega)]
  exact congrArg z0 (congrArg (ix2 i) (Fin.ext (by simp only; omega)))
theorem pick1 (j : Fin 384) (e : k.val = 384 + j.val) : pick z0 z1 z2 z3 z4 z5 z6 i k = z1 (ix2 i j) := by
  unfold pick
  rw [dif_neg (by omega), dif_neg (by omega), dif_neg (by omega), dif_neg (by omega), dif_neg (by omega), dif_pos (by omega)]
  exact congrArg z1 (congrArg (ix2 i) (Fin.ext (by simp only; omega)))
theorem pick2 (j : Fin 384) (e : k.val = 768 + j.val) : pick z0 z1 z2 z3 z4 z5 z6 i k = z2 (ix2 i j) := by
  unfold pick
  rw [dif_neg (by omega), dif_neg (by omega), dif_neg (by omega), dif_neg (by omega), dif_pos (by omega)]
  exact congrArg z2 (congrArg (ix2 i) (Fin.ext (by simp only; omega)))
theorem pick3 (j : Fin 384) (e : k.val = 1152 + j.val) : pick z0 z1 z2 z3 z4 z5 z6 i k = z3 (ix2 i j) := by
  unfold pick
  rw [dif_neg (by omega), dif_neg (by omega), dif_neg (by omega), dif_pos (by omega)]
  exact congrArg z3 (congrArg (ix2 i) (Fin.ext (by simp only; omega)))
theorem pick4 (j : Fin 384) (e : k.val = 1536 + j.val) : pick z0 z1 z2 z3 z4 z5 z6 i k = z4 (ix2 i j) := by
  unfold pick
  rw [dif_neg (by omega), dif_neg (by omega), dif_pos (by omega)]
  exact congrArg z4 (congrArg (ix2 i) (Fin.ext (by simp only; omega)))
theorem pick5 (j : Fin 384) (e : k.val = 1920 + j.val) : pick z0 z1 z2 z3 z4 z5 z6 i k = z5 (ix2 i j) := by
  unfold pick
  rw [dif_neg (by omega), dif_pos (by omega)]
  exact congrArg z5 (congrArg (ix2 i) (Fin.ext (by simp only; omega)))
theorem pick6 (j : Fin 128) (e : k.val = 2304 + j.val) : pick z0 z1 z2 z3 z4 z5 z6 i k = z6 (ix2 i j) := by
  unfold pick
  rw [dif_pos (by omega)]
  exact congrArg z6 (congrArg (ix2 i) (Fin.ext (by simp only; omega)))
end pick

/-! ## What a point adds to a piece -/

section pay
variable (x : FVec Ideal S512x1024 .bf16) (p : FVec Ideal S1x1024x384 .f32) (z : FVec Ideal S512x384 .bf16) (d : Fin 1024) (k : Fin 384)

theorem pay3_apply : k0_pay3 (F := Ideal) x p z (ix3 (0 : Fin 1) d k) = p (ix3 (0 : Fin 1) d k) + ∑ i : Fin 512, x (ix2 i d) * z (ix2 i k) := by pointwise [k0_pay3]
theorem pay4_apply : k0_pay4 (F := Ideal) x p z (ix3 (0 : Fin 1) d k) = p (ix3 (0 : Fin 1) d k) + ∑ i : Fin 512, x (ix2 i d) * z (ix2 i k) := by pointwise [k0_pay4]
theorem pay6_apply : k0_pay6 (F := Ideal) (k0_pay5 x p z) (ix3 (0 : Fin 1) d k) = p (ix3 (0 : Fin 1) d k) + ∑ i : Fin 512, x (ix2 i d) * z (ix2 i k) := by pointwise [k0_pay6, k0_pay5]
theorem pay7_apply : k0_pay7 (F := Ideal) x p z (ix3 (0 : Fin 1) d k) = p (ix3 (0 : Fin 1) d k) + ∑ i : Fin 512, x (ix2 i d) * z (ix2 i k) := by pointwise [k0_pay7]
theorem pay8_apply : k0_pay8 (F := Ideal) x p z (ix3 (0 : Fin 1) d k) = p (ix3 (0 : Fin 1) d k) + ∑ i : Fin 512, x (ix2 i d) * z (ix2 i k) := by pointwise [k0_pay8]
theorem pay9_apply : k0_pay9 (F := Ideal) x p z (ix3 (0 : Fin 1) d k) = p (ix3 (0 : Fin 1) d k) + ∑ i : Fin 512, x (ix2 i d) * z (ix2 i k) := by pointwise [k0_pay9]
theorem pay1_apply (p : FVec Ideal S1x1024x128 .f32) (z : FVec Ideal S512x128 .bf16) (k : Fin 128) :
    k0_pay1 (F := Ideal) x p z (ix3 (0 : Fin 1) d k) = p (ix3 (0 : Fin 1) d k) + ∑ i : Fin 512, x (ix2 i d) * z (ix2 i k) := by pointwise [k0_pay1]
theorem zero_apply (k : Fin 2432) : k0_pay2 (F := Ideal) (ix3 (0 : Fin 1) d k) = 0 := by pointwise [k0_pay2]
end pay

/-! ## The seven pieces together -/

section columns
variable {N n a : ℕ} (h : ∀ b, (![0, 0, a] : Fin 3 → ℕ) b + (![1, 1024, n] : Fin 3 → ℕ) b ≤ (⟨3, ![1, 1024, N]⟩ : Shape).size b) (d : Fin 1024) (k : Fin N)

theorem emb_col (j : Fin n) (e : k.val = a + j.val) :
    (Rect.unit (s := ⟨3, ![1, 1024, N]⟩) ![0, 0, a] ![1, 1024, n] h).emb (ix3 (0 : Fin 1) d j) = ix3 (0 : Fin 1) d k := by
  funext b; apply Fin.ext
  fin_cases b
  · rfl
  · show 0 + 1 * d.val = d.val
    omega
  · show a + 1 * j.val = k.val
    omega

theorem ld_col (P : FVec Ideal ⟨3, ![1, 1024, N]⟩ .f32) (j : Fin n) (e : k.val = a + j.val) :
    View.ld (Val := Elt Ideal) (e' := .f32) P (Rect.unit (s := ⟨3, ![1, 1024, N]⟩) ![0, 0, a] ![1, 1024, n] h) (ix3 (0 : Fin 1) d j) = P (ix3 (0 : Fin 1) d k) :=
  congrArg P (emb_col h d k j e)

/-- The newest piece holds its own columns, the older ones the rest. -/
theorem canon_col (w : (Rect.unit (s := ⟨3, ![1, 1024, N]⟩) ![0, 0, a] ![1, 1024, n] h).shape.Idx → Elt Ideal .f32) (L : List (View.Piece (Elt Ideal) ⟨3, ![1, 1024, N]⟩ .f32)) (v : EReal)
    (hit : ∀ j : Fin n, k.val = a + j.val → w (ix3 (0 : Fin 1) d j) = v)
    (miss : ¬(a ≤ k.val ∧ k.val < a + n) → View.canon L (ix3 (0 : Fin 1) d k) = v) :
    View.canon ((⟨Rect.unit (s := ⟨3, ![1, 1024, N]⟩) ![0, 0, a] ![1, 1024, n] h, w⟩ : View.Piece (Elt Ideal) ⟨3, ![1, 1024, N]⟩ .f32) :: L) (ix3 (0 : Fin 1) d k) = v := by
  by_cases hk : a ≤ k.val ∧ k.val < a + n
  · have e : k.val = a + (⟨k.val - a, by omega⟩ : Fin n).val := by simp only; omega
    rw [← hit _ e, ← emb_col h d k _ e]
    exact View.canon_cons_emb (Rect.unit (s := ⟨3, ![1, 1024, N]⟩) ![0, 0, a] ![1, 1024, n] h) w L _
  · rw [← miss hk]
    refine View.canon_cons_of_not_mem _ L fun hm => hk ?_
    exact (Rect.mem_set_unit (inb := h)).1 hm 2
end columns

section seven
variable (d : Fin 1024) (k : Fin 2432)

variable (x : FVec Ideal S512x1024 .bf16) (z0 z1 z2 z3 z4 z5 : FVec Ideal S512x384 .bf16) (z6 : FVec Ideal S512x128 .bf16)
  (P : FVec Ideal S1x1024x2432 .f32) (L : List (View.Piece (Elt Ideal) S1x1024x2432 .f32))

/-- The pieces a point stores, over what was there. -/
theorem seven : View.canon
    ((⟨Rect.unit (s := S1x1024x2432) ![0, 0, 2304] ![1, 1024, 128] inb_S1x1024x2432_S1x1024x128_0_0_2304,
        k0_pay1 (F := Ideal) x (View.ld (Val := Elt Ideal) (e' := .f32) P (Rect.unit (s := S1x1024x2432) ![0, 0, 2304] ![1, 1024, 128] inb_S1x1024x2432_S1x1024x128_0_0_2304)) z6⟩ : View.Piece (Elt Ideal) S1x1024x2432 .f32)
      :: ⟨Rect.unit (s := S1x1024x2432) ![0, 0, 1920] ![1, 1024, 384] inb_S1x1024x2432_S1x1024x384_0_0_1920,
        k0_pay9 (F := Ideal) x (View.ld (Val := Elt Ideal) (e' := .f32) P (Rect.unit (s := S1x1024x2432) ![0, 0, 1920] ![1, 1024, 384] inb_S1x1024x2432_S1x1024x384_0_0_1920)) z5⟩
      :: ⟨Rect.unit (s := S1x1024x2432) ![0, 0, 1536] ![1, 1024, 384] inb_S1x1024x2432_S1x1024x384_0_0_1536,
        k0_pay8 (F := Ideal) x (View.ld (Val := Elt Ideal) (e' := .f32) P (Rect.unit (s := S1x1024x2432) ![0, 0, 1536] ![1, 1024, 384] inb_S1x1024x2432_S1x1024x384_0_0_1536)) z4⟩
      :: ⟨Rect.unit (s := S1x1024x2432) ![0, 0, 1152] ![1, 1024, 384] inb_S1x1024x2432_S1x1024x384_0_0_1152,
        k0_pay7 (F := Ideal) x (View.ld (Val := Elt Ideal) (e' := .f32) P (Rect.unit (s := S1x1024x2432) ![0, 0, 1152] ![1, 1024, 384] inb_S1x1024x2432_S1x1024x384_0_0_1152)) z3⟩
      :: ⟨Rect.unit (s := S1x1024x2432) ![0, 0, 768] ![1, 1024, 384] inb_S1x1024x2432_S1x1024x384_0_0_768,
        k0_pay6 (F := Ideal) (k0_pay5 x (View.ld (Val := Elt Ideal) (e' := .f32) P (Rect.unit (s := S1x1024x2432) ![0, 0, 768] ![1, 1024, 384] inb_S1x1024x2432_S1x1024x384_0_0_768)) z2)⟩
      :: ⟨Rect.unit (s := S1x1024x2432) ![0, 0, 384] ![1, 1024, 384] inb_S1x1024x2432_S1x1024x384_0_0_384,
        k0_pay4 (F := Ideal) x (View.ld (Val := Elt Ideal) (e' := .f32) P (Rect.unit (s := S1x1024x2432) ![0, 0, 384] ![1, 1024, 384] inb_S1x1024x2432_S1x1024x384_0_0_384)) z1⟩
      :: ⟨Rect.unit (s := S1x1024x2432) ![0, 0, 0] ![1, 1024, 384] inb_S1x1024x2432_S1x1024x384_0_0_0,
        k0_pay3 (F := Ideal) x (View.ld (Val := Elt Ideal) (e' := .f32) P (Rect.unit (s := S1x1024x2432) ![0, 0, 0] ![1, 1024, 384] inb_S1x1024x2432_S1x1024x384_0_0_0)) z0⟩
      :: L) (ix3 (0 : Fin 1) d k) = P (ix3 (0 : Fin 1) d k) + ∑ i : Fin 512, x (ix2 i d) * pick z0 z1 z2 z3 z4 z5 z6 i k := by
  refine canon_col _ d k _ _ _ (fun j e => (pay1_apply ..).trans (congrArg₂ (· + ·) (ld_col _ d k P j e) (Finset.sum_congr rfl fun i _ => ?_))) fun h6 => ?_
  · rw [pick6 _ _ _ _ _ _ _ i j e]
  refine canon_col _ d k _ _ _ (fun j e => (pay9_apply ..).trans (congrArg₂ (· + ·) (ld_col _ d k P j e) (Finset.sum_congr rfl fun i _ => ?_))) fun h5 => ?_
  · rw [pick5 _ _ _ _ _ _ _ i j e]
  refine canon_col _ d k _ _ _ (fun j e => (pay8_apply ..).trans (congrArg₂ (· + ·) (ld_col _ d k P j e) (Finset.sum_congr rfl fun i _ => ?_))) fun h4 => ?_
  · rw [pick4 _ _ _ _ _ _ _ i j e]
  refine canon_col _ d k _ _ _ (fun j e => (pay7_apply ..).trans (congrArg₂ (· + ·) (ld_col _ d k P j e) (Finset.sum_congr rfl fun i _ => ?_))) fun h3 => ?_
  · rw [pick3 _ _ _ _ _ _ _ i j e]
  refine canon_col _ d k _ _ _ (fun j e => (pay6_apply ..).trans (congrArg₂ (· + ·) (ld_col _ d k P j e) (Finset.sum_congr rfl fun i _ => ?_))) fun h2 => ?_
  · rw [pick2 _ _ _ _ _ _ _ i j e]
  refine canon_col _ d k _ _ _ (fun j e => (pay4_apply ..).trans (congrArg₂ (· + ·) (ld_col _ d k P j e) (Finset.sum_congr rfl fun i _ => ?_))) fun h1 => ?_
  · rw [pick1 _ _ _ _ _ _ _ i j e]
  refine canon_col _ d k _ _ _ (fun j e => (pay3_apply ..).trans (congrArg₂ (· + ·) (ld_col _ d k P j e) (Finset.sum_congr rfl fun i _ => ?_))) fun h0 => ?_
  · rw [pick0 _ _ _ _ _ _ _ i j e]
  exact absurd k.isLt (by omega)
end seven

end Cert.Own.Dw

end
-- ==== Proof.DwArrays.lean ====
module

public import proofs.«01_k».proof.Proof.DwKernel

@[expose] public section

set_option maxRecDepth 16384

noncomputable section

namespace Cert.Own.Dw

open Idealize.ShloMosaic Idealize.ShloMosaic.TcCoe Cert.Kernel3Ideal Cert.Kernel3Ideal.Gen Idealize.SL.Sem

/-- The arrays of the weights' gradient. -/
structure Args where
  h : FVec Ideal S4096x1024 .bf16
  z0 : FVec Ideal S4096x384 .bf16
  z1 : FVec Ideal S4096x384 .bf16
  z2 : FVec Ideal S4096x384 .bf16
  z3 : FVec Ideal S4096x384 .bf16
  z4 : FVec Ideal S4096x384 .bf16
  z5 : FVec Ideal S4096x384 .bf16
  z6 : FVec Ideal S4096x128 .bf16
  old : FVec Ideal S2x1024x2432 .f32

/-- The gradient of the weight from feature `d` to column `k`. -/
def Args.G (A : Args) (d : Fin 1024) (k : Fin 2432) : EReal := ∑ R : Fin 4096, A.h (ix2 R d) * pick A.z0 A.z1 A.z2 A.z3 A.z4 A.z5 A.z6 R k
/-- The first layer's gradient, the other layer's as it was. -/
def Args.dw (A : Args) : FVec Ideal S2x1024x2432 .f32 := fun i => if (i 0).val ≤ 0 then A.G (i 1) (i 2) else A.old i

variable (m : (ℓ : Loc nD τ sig) → Buf (Elt Ideal) ℓ) (c : Dev nD) (t : Fin cfg0.N)

/-- The kernel's arrays. -/
def args : Args where
  h := V m c main_arg0
  z0 := V m c main_arg1
  z1 := V m c main_arg2
  z2 := V m c main_arg3
  z3 := V m c main_arg4
  z4 := V m c main_arg5
  z5 := V m c main_arg6
  z6 := V m c main_arg7
  old := V m c main_v0

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]) ∧ win0_8.index t = ![0, 0, 0] :=
  (by decide +kernel : ∀ t : Fin grid0.N, _)

/-- The array's row of a tile's row. -/
def at_ (i : Fin 512) : Fin 4096 := ⟨t.val * 512 + i.val, by have : t.val < 8 := t.isLt; omega⟩

section blocks
variable (i : Fin 512) (k : Fin 384)
theorem b0 (d : Fin 1024) : iblk m c 0 t (ix2 i d) = (args m c).h (ix2 (at_ t i) d) := by blk_ext [iblk, idx t]; rfl
theorem b1 : iblk m c 1 t (ix2 i k) = (args m c).z0 (ix2 (at_ t i) k) := by blk_ext [iblk, idx t]; rfl
theorem b2 : iblk m c 2 t (ix2 i k) = (args m c).z1 (ix2 (at_ t i) k) := by blk_ext [iblk, idx t]; rfl
theorem b3 : iblk m c 3 t (ix2 i k) = (args m c).z2 (ix2 (at_ t i) k) := by blk_ext [iblk, idx t]; rfl
theorem b4 : iblk m c 4 t (ix2 i k) = (args m c).z3 (ix2 (at_ t i) k) := by blk_ext [iblk, idx t]; rfl
theorem b5 : iblk m c 5 t (ix2 i k) = (args m c).z4 (ix2 (at_ t i) k) := by blk_ext [iblk, idx t]; rfl
theorem b6 : iblk m c 6 t (ix2 i k) = (args m c).z5 (ix2 (at_ t i) k) := by blk_ext [iblk, idx t]; rfl
theorem b7 (k : Fin 128) : iblk m c 7 t (ix2 i k) = (args m c).z6 (ix2 (at_ t i) k) := by blk_ext [iblk, idx t]; rfl

theorem pick_at (k : Fin 2432) : pick (iblk m c 1 t) (iblk m c 2 t) (iblk m c 3 t) (iblk m c 4 t) (iblk m c 5 t) (iblk m c 6 t) (iblk m c 7 t) i k
    = pick (args m c).z0 (args m c).z1 (args m c).z2 (args m c).z3 (args m c).z4 (args m c).z5 (args m c).z6 (at_ t i) k := by
  unfold pick
  split_ifs
  · exact b7 m c t i _
  · exact b6 m c t i _
  · exact b5 m c t i _
  · exact b4 m c t i _
  · exact b3 m c t i _
  · exact b2 m c t i _
  · exact b1 m c t i _
end blocks

/-- What a tile adds. -/
def tile (d : Fin 1024) (k : Fin 2432) : EReal :=
  ∑ i : Fin 512, (args m c).h (ix2 (at_ t i) d) * pick (args m c).z0 (args m c).z1 (args m c).z2 (args m c).z3 (args m c).z4 (args m c).z5 (args m c).z6 (at_ t i) k

theorem tile_eq (d : Fin 1024) (k : Fin 2432) (x : FVec Ideal S512x1024 .bf16) (z0 z1 z2 z3 z4 z5 : FVec Ideal S512x384 .bf16) (z6 : FVec Ideal S512x128 .bf16)
    (hx : ∀ i, x (ix2 i d) = (args m c).h (ix2 (at_ t i) d))
    (hz : ∀ i, pick z0 z1 z2 z3 z4 z5 z6 i k = pick (args m c).z0 (args m c).z1 (args m c).z2 (args m c).z3 (args m c).z4 (args m c).z5 (args m c).z6 (at_ t i) k) :
    ∑ i : Fin 512, x (ix2 i d) * pick z0 z1 z2 z3 z4 z5 z6 i k = tile m c t d k :=
  Finset.sum_congr rfl fun i _ => congrArg₂ (· * ·) (hx i) (hz i)

theorem out_on (h : ¬t.val % 8 = 0) (d : Fin 1024) (k : Fin 2432) : outsAt0 m c t.val t.isLt (ix3 (0 : Fin 1) d k)
    = (show FVec Ideal S1x1024x2432 .f32 from outsAt0 m c (t.val - 1) (by have := t.isLt; omega)) (ix3 (0 : Fin 1) d k) + tile m c t d k := by
  rw [outsAt0_B m c t h]
  frame_out
  exact (seven d k _ _ _ _ _ _ _ _ _ []).trans (congrArg₂ (· + ·) rfl (tile_eq m c t d k _ _ _ _ _ _ _ _ (fun i => b0 m c t i d) fun i => pick_at m c t i k))

theorem out_begin (h : t.val % 8 = 0) (d : Fin 1024) (k : Fin 2432) : outsAt0 m c t.val t.isLt (ix3 (0 : Fin 1) d k) = (0 : EReal) + tile m c t d k := by
  rw [outsAt0_A m c t h]
  frame_open
  simp (disch := decide) only [↓ View.readCov_skip, ↓ View.readCov_fill]
  frame_out
  exact (seven d k _ _ _ _ _ _ _ _ _ _).trans (congrArg₂ (· + ·) (zero_apply d k) (tile_eq m c t d k _ _ _ _ _ _ _ _ (fun i => b0 m c t i d) fun i => pick_at m c t i k))

theorem eight_tiles (F : Fin 4096 → EReal) (h : ∀ s : Fin 8, 8 * (t.val / 8) + s.val < cfg0.N) :
    ∑ s : Fin 8, ∑ k : Fin 512, F (at_ ⟨8 * (t.val / 8) + s.val, h s⟩ k) = ∑ R : Fin 4096, F R := by
  refine Fin.sum_mul_add_congr fun s k hl => congrArg F (Fin.ext ?_)
  show (8 * (t.val / 8) + s.val) * 512 + k.val = s.val * 512 + k.val
  have : t.val < 8 := t.isLt
  omega

theorem out_sum (h : t.val % 8 = 7) (d : Fin 1024) (k : Fin 2432) : outsAt0 m c t.val t.isLt (ix3 (0 : Fin 1) d k) = (args m c).G d k := by
  have e := Pipeline.eq_sum_fin_of_reset_step_apply_of_flush (M := EReal) (fun n h (y : Fin 1024 × Fin 2432) => outsAt0 m c n h (ix3 (0 : Fin 1) y.1 y.2)) 8 (fun _ => 0)
    (fun t y => tile m c t y.1 y.2) (fun t h y => out_begin m c t h y.1 y.2) (fun t h y => out_on m c t h y.1 y.2) t h (d, k)
  exact e.trans ((zero_add _).trans (eight_tiles t
    (fun R => (args m c).h (ix2 R d) * pick (args m c).z0 (args m c).z1 (args m c).z2 (args m c).z3 (args m c).z4 (args m c).z5 (args m c).z6 R k) _))

theorem dw_array : (dats m 0 c).arrAt 8 cfg0.N = (args m c).dw := by
  refine (dats m 0 c).arrAt_eq_of_coversWhere 8 (fun i : S2x1024x2432.Idx => (args m c).G (i 1) (i 2)) (fun β => β 0 ≤ 0) (by decide +kernel) (fun t hf y => ?_)
    (fun j => by show (j 0).val ≤ 0 ↔ (j 0).val / 1 ≤ 0; omega)
  blk_simp
  rw [after0_8]
  idx_vars y
  obtain rfl := Subsingleton.elim y0 0
  rw [out_sum m c t ((flush0_8 t).1 hf)]
  refine congrArg₂ (args m c).G (Fin.ext ?_) (Fin.ext ?_)
  · blk_simp [idx t]
  · blk_simp [idx t]

end Cert.Own.Dw

end
-- ==== Proof.DwResults.lean ====
module

public import proofs.«01_k».proof.Proof.DwArrays
public import proofs.«01_k».proof.Proof.Gen.Reference3Ideal.Run
public import proofs.«01_k».proof.Defs

@[expose] public section

set_option maxRecDepth 16384

noncomputable section

namespace Cert.Own.Dw

open Idealize.ShloMosaic Idealize.ShloMosaic.TcCoe Idealize.SL.Sem

section ref
open Cert.Reference3Ideal Cert.Reference3Ideal.Gen

variable (h : FVec Ideal S4096x1024 .bf16) (z0 z1 z2 z3 z4 z5 : FVec Ideal S4096x384 .bf16) (z6 : FVec Ideal S4096x128 .bf16) (old : FVec Ideal S2x1024x2432 .f32)

/-- The projection's gradient in one array. -/
def refZ : FVec Ideal S4096x2432 .f32 :=
  concatenate S4096x2432 1 [⟨S4096x384, extf .f32 z0 bitsLt_bf16_f32⟩, ⟨S4096x384, extf .f32 z1 bitsLt_bf16_f32⟩, ⟨S4096x384, extf .f32 z2 bitsLt_bf16_f32⟩,
    ⟨S4096x384, extf .f32 z3 bitsLt_bf16_f32⟩, ⟨S4096x384, extf .f32 z4 bitsLt_bf16_f32⟩, ⟨S4096x384, extf .f32 z5 bitsLt_bf16_f32⟩, ⟨S4096x128, extf .f32 z6 bitsLt_bf16_f32⟩]
    concatenates_S4096x384_S4096x384_S4096x384_S4096x384_S4096x384_S4096x384_S4096x128_S4096x2432_d1
/-- The weights' gradient of the first layer. -/
def refG (z : FVec Ideal S4096x2432 .f32) : FVec Ideal S1x1024x2432 .f32 :=
  broadcastInDim S1x1024x2432 ![1, 2] bcast_S1024x2432_S1x1024x2432_1_2 (transpose S1024x2432 [1, 0]
    (Host.dotGeneral dot_S4096x2432_S4096x1024_S2432x1024_0_0_1_1_n_n none z (extf .f32 h bitsLt_bf16_f32)) transposes_S2432x1024_S1024x2432_1_0)
def refOld : FVec Ideal S1x1024x2432 .f32 :=
  broadcastInDim S1x1024x2432 ![1, 2] bcast_S1024x2432_S1x1024x2432_1_2
    (shapeCast S1024x2432 (extractStridedSlice S1x1024x2432 ![1, 0, 0] old slices_S2x1024x2432_S1x1024x2432_1_0_0) shapeCasts_S1x1024x2432_S1024x2432)
def refDw (a b : FVec Ideal S1x1024x2432 .f32) : FVec Ideal S2x1024x2432 .f32 :=
  concatenate S2x1024x2432 0 [⟨S1x1024x2432, a⟩, ⟨S1x1024x2432, b⟩] concatenates_S1x1024x2432_S1x1024x2432_S2x1024x2432_d0

variable (R : Fin 4096) (d : Fin 1024) (k : Fin 2432)

theorem refZ_apply : refZ z0 z1 z2 z3 z4 z5 z6 (ix2 R k) = pick z0 z1 z2 z3 z4 z5 z6 R k := by
  have := k.isLt
  rcases (by omega : k.val < 384 ∨ (384 ≤ k.val ∧ k.val < 768) ∨ (768 ≤ k.val ∧ k.val < 1152) ∨ (1152 ≤ k.val ∧ k.val < 1536) ∨ (1536 ≤ k.val ∧ k.val < 1920)
    ∨ (1920 ≤ k.val ∧ k.val < 2304) ∨ 2304 ≤ k.val) with h | h | h | h | h | h | h
  all_goals
    unfold pick
    pointwise [refZ]
    repeat first
    | rw [dif_neg (by omega)]
    | rw [dif_pos (by omega)]
    try first
    | rfl
    | exact congrArg _ (congrArg (ix2 R) (Fin.ext (by dsimp only; omega)))
theorem refG_apply (z : FVec Ideal S4096x2432 .f32) : refG h z (ix3 (0 : Fin 1) d k) = ∑ R : Fin 4096, z (ix2 R k) * h (ix2 R d) := by
  pointwise [refG]
theorem refOld_apply : refOld old (ix3 (0 : Fin 1) d k) = old (ix3 (1 : Fin 2) d k) := by
  pointwise [refOld]
theorem refDw_apply (a b : FVec Ideal S1x1024x2432 .f32) (l : Fin 2) : refDw a b (ix3 l d k) = if l.val ≤ 0 then a (ix3 (0 : Fin 1) d k) else b (ix3 (0 : Fin 1) d k) := by
  pointwise [refDw]
  fin_cases l <;> rfl

theorem refG_eq : refG h (refZ z0 z1 z2 z3 z4 z5 z6) (ix3 (0 : Fin 1) d k) = (Args.mk h z0 z1 z2 z3 z4 z5 z6 old).G d k := by
  rw [refG_apply]
  unfold Args.G
  refine Finset.sum_congr rfl fun R _ => ?_
  rw [refZ_apply]
  exact mul_comm _ _

theorem dw_apply (A : Args) (l : Fin 2) : A.dw (ix3 l d k) = if l.val ≤ 0 then A.G d k else A.old (ix3 l d k) := rfl

theorem refDw_eq : refDw (refG h (refZ z0 z1 z2 z3 z4 z5 z6)) (refOld old) = (Args.mk h z0 z1 z2 z3 z4 z5 z6 old).dw := by
  funext y
  idx_vars y
  rw [refDw_apply, dw_apply]
  split_ifs with e
  · exact refG_eq ..
  · rw [refOld_apply]
    exact congrArg old (congrArg (fun l => ix3 l _ _) (Fin.ext (by have := y0.isLt; show 1 = y0.val; omega)))

variable (m : (ℓ : Loc nD τ sig) → Buf (Elt Ideal) ℓ) (c : Dev nD)

/-- The arrays the reference is given. -/
def argsR : Args where
  h := m ((c.tc : Thread nD τ).loc main_arg0)
  z0 := m ((c.tc : Thread nD τ).loc main_arg1)
  z1 := m ((c.tc : Thread nD τ).loc main_arg2)
  z2 := m ((c.tc : Thread nD τ).loc main_arg3)
  z3 := m ((c.tc : Thread nD τ).loc main_arg4)
  z4 := m ((c.tc : Thread nD τ).loc main_arg5)
  z5 := m ((c.tc : Thread nD τ).loc main_arg6)
  z6 := m ((c.tc : Thread nD τ).loc main_arg7)
  old := m ((c.tc : Thread nD τ).loc main_arg8)
end ref

theorem V_old (m : (ℓ : Loc Cert.Kernel3Ideal.nD Cert.Kernel3Ideal.τ Cert.Kernel3Ideal.sig) → Buf (Elt Ideal) ℓ) (c : Dev Cert.Kernel3Ideal.nD) :
    Cert.Kernel3Ideal.Gen.V m c Cert.Kernel3Ideal.main_v0 = m ((c.tc : Thread _ _).loc Cert.Kernel3Ideal.main_arg8) := by
  unfold Cert.Kernel3Ideal.Gen.V
  after_results
  try rfl

/-- The kernel and the reference leave the same array. -/
theorem algebraic : Cert.algebraic_Kernel3Ideal_Reference3Ideal := by
  intro m g m' g' _ hm
  have R (c) : argsR m' c = args m c := by
    obtain ⟨h0, h1, h2, h3, h4, h5, h6, h7, h8⟩ := hm c
    unfold argsR args
    rw [h0, h1, h2, h3, h4, h5, h6, h7, h8, V_old]
    rfl
  refine ⟨fun c => (Cert.Kernel3Ideal.Gen.dats m 0 c).arrAt 8 Cert.Kernel3Ideal.cfg0.N,
    Cert.Kernel3Ideal.Value.run_blocks m g, (θ_run _ _ _).mono (fun r h c => ?_) (Cert.Reference3Ideal.Value.run m' g')⟩
  obtain ⟨a0, rest⟩ := h c
  exact ⟨a0.trans ((refDw_eq (argsR m' c).h (argsR m' c).z0 (argsR m' c).z1 (argsR m' c).z2 (argsR m' c).z3 (argsR m' c).z4 (argsR m' c).z5 (argsR m' c).z6 (argsR m' c).old).trans
    ((congrArg Args.dw (R c)).trans (dw_array m c).symm)), rest⟩

end Cert.Own.Dw

end
-- ==== Proof.Dw0Arrays.lean ====
module

public import proofs.«01_k».proof.Proof.DwKernel
public import proofs.«01_k».proof.Proof.Gen.Kernel4Ideal.Value

@[expose] public section

set_option maxRecDepth 16384

noncomputable section

namespace Cert.Own.Dw0

open Idealize.ShloMosaic Idealize.ShloMosaic.TcCoe Cert.Kernel4Ideal Cert.Kernel4Ideal.Gen Idealize.SL.Sem
open Cert.Own.Dw (ld_col canon_col)

/-! ## The first 1920 columns: two pieces -/

section pick
variable {n : ℕ} (za : FVec Ideal ⟨2, ![n, 768]⟩ .bf16) (zg : FVec Ideal ⟨2, ![n, 1152]⟩ .bf16) (i : Fin n) (k : Fin 1920)

/-- Column `k` of the two pieces side by side. -/
def pick : EReal :=
  if h : 768 ≤ k.val then zg (ix2 i (⟨k.val - 768, by omega⟩ : Fin 1152)) else za (ix2 i (⟨k.val, by omega⟩ : Fin 768))

variable {k}
theorem pick_a (j : Fin 768) (e : k.val = 0 + j.val) : pick za zg i k = za (ix2 i j) := by
  unfold pick
  rw [dif_neg (by omega)]
  exact congrArg za (congrArg (ix2 i) (Fin.ext (by simp only; omega)))
theorem pick_g (j : Fin 1152) (e : k.val = 768 + j.val) : pick za zg i k = zg (ix2 i j) := by
  unfold pick
  rw [dif_pos (by omega)]
  exact congrArg zg (congrArg (ix2 i) (Fin.ext (by simp only; omega)))
end pick

section pay
variable (x : FVec Ideal S512x1024 .bf16) (za : FVec Ideal S512x768 .bf16) (zg : FVec Ideal S512x1152 .bf16) (d : Fin 1024)

theorem pay2_apply (p : FVec Ideal S1x1024x768 .f32) (k : Fin 768) :
    k0_pay2 (F := Ideal) x p za (ix3 (0 : Fin 1) d k) = p (ix3 (0 : Fin 1) d k) + ∑ i : Fin 512, x (ix2 i d) * za (ix2 i k) := by pointwise [k0_pay2]
theorem pay3_apply (p : FVec Ideal S1x1024x1152 .f32) (k : Fin 1152) :
    k0_pay3 (F := Ideal) x p zg (ix3 (0 : Fin 1) d k) = p (ix3 (0 : Fin 1) d k) + ∑ i : Fin 512, x (ix2 i d) * zg (ix2 i k) := by pointwise [k0_pay3]
theorem zero_apply (k : Fin 1920) : k0_pay1 (F := Ideal) (ix3 (0 : Fin 1) d k) = 0 := by pointwise [k0_pay1]

variable (P : FVec Ideal S1x1024x1920 .f32) (L : List (View.Piece (Elt Ideal) S1x1024x1920 .f32)) (k : Fin 1920)

/-- The pieces a point stores, over what was there. -/
theorem two : View.canon
    ((⟨Rect.unit (s := S1x1024x1920) ![0, 0, 768] ![1, 1024, 1152] inb_S1x1024x1920_S1x1024x1152_0_0_768,
        k0_pay3 (F := Ideal) x (View.ld (Val := Elt Ideal) (e' := .f32) P (Rect.unit (s := S1x1024x1920) ![0, 0, 768] ![1, 1024, 1152] inb_S1x1024x1920_S1x1024x1152_0_0_768)) zg⟩ : View.Piece (Elt Ideal) S1x1024x1920 .f32)
      :: ⟨Rect.unit (s := S1x1024x1920) ![0, 0, 0] ![1, 1024, 768] inb_S1x1024x1920_S1x1024x768_0_0_0,
        k0_pay2 (F := Ideal) x (View.ld (Val := Elt Ideal) (e' := .f32) P (Rect.unit (s := S1x1024x1920) ![0, 0, 0] ![1, 1024, 768] inb_S1x1024x1920_S1x1024x768_0_0_0)) za⟩
      :: L) (ix3 (0 : Fin 1) d k) = P (ix3 (0 : Fin 1) d k) + ∑ i : Fin 512, x (ix2 i d) * pick za zg i k := by
  refine canon_col _ d k _ _ _ (fun j e => (pay3_apply ..).trans (congrArg₂ (· + ·) (ld_col _ d k P j e) (Finset.sum_congr rfl fun i _ => ?_))) fun h1 => ?_
  · rw [pick_g _ _ i j e]
  refine canon_col _ d k _ _ _ (fun j e => (pay2_apply ..).trans (congrArg₂ (· + ·) (ld_col _ d k P j e) (Finset.sum_congr rfl fun i _ => ?_))) fun h0 => ?_
  · rw [pick_a _ _ i j e]
  exact absurd k.isLt (by omega)
end pay

/-- The arrays of the weights' gradient. -/
structure Args where
  h : FVec Ideal S4096x1024 .bf16
  za : FVec Ideal S4096x768 .bf16
  zg : FVec Ideal S4096x1152 .bf16
  old : FVec Ideal S2x1024x1920 .f32

/-- The gradient of the weight from feature `d` to column `k`. -/
def Args.G (A : Args) (d : Fin 1024) (k : Fin 1920) : EReal := ∑ R : Fin 4096, A.h (ix2 R d) * pick A.za A.zg R k
/-- The first layer's gradient, the other layer's as it was. -/
def Args.dw (A : Args) : FVec Ideal S2x1024x1920 .f32 := fun i => if (i 0).val ≤ 0 then A.G (i 1) (i 2) else A.old i

variable (m : (ℓ : Loc nD τ sig) → Buf (Elt Ideal) ℓ) (c : Dev nD) (t : Fin cfg0.N)

/-- The kernel's arrays. -/
def args : Args where
  h := V m c main_arg0
  za := V m c main_arg1
  zg := V m c main_arg2
  old := V m c main_v0

theorem idx : ∀ t : Fin cfg0.N, win0_0.index t = ![t.val, 0] ∧ win0_1.index t = ![t.val, 0] ∧ win0_2.index t = ![t.val, 0] ∧ win0_3.index t = ![0, 0, 0] :=
  (by decide +kernel : ∀ t : Fin grid0.N, _)

/-- The array's row of a tile's row. -/
def at_ (i : Fin 512) : Fin 4096 := ⟨t.val * 512 + i.val, by have : t.val < 8 := t.isLt; omega⟩

section blocks
variable (i : Fin 512)
theorem b0 (d : Fin 1024) : iblk m c 0 t (ix2 i d) = (args m c).h (ix2 (at_ t i) d) := by blk_ext [iblk, idx t]; rfl
theorem b1 (k : Fin 768) : iblk m c 1 t (ix2 i k) = (args m c).za (ix2 (at_ t i) k) := by blk_ext [iblk, idx t]; rfl
theorem b2 (k : Fin 1152) : iblk m c 2 t (ix2 i k) = (args m c).zg (ix2 (at_ t i) k) := by blk_ext [iblk, idx t]; rfl

theorem pick_at (k : Fin 1920) : pick (iblk m c 1 t) (iblk m c 2 t) i k = pick (args m c).za (args m c).zg (at_ t i) k := by
  unfold pick
  split_ifs
  · exact b2 m c t i _
  · exact b1 m c t i _
end blocks

/-- What a tile adds. -/
def tile (d : Fin 1024) (k : Fin 1920) : EReal := ∑ i : Fin 512, (args m c).h (ix2 (at_ t i) d) * pick (args m c).za (args m c).zg (at_ t i) k

theorem tile_eq (d : Fin 1024) (k : Fin 1920) (x : FVec Ideal S512x1024 .bf16) (za : FVec Ideal S512x768 .bf16) (zg : FVec Ideal S512x1152 .bf16)
    (hx : ∀ i, x (ix2 i d) = (args m c).h (ix2 (at_ t i) d)) (hz : ∀ i, pick za zg i k = pick (args m c).za (args m c).zg (at_ t i) k) :
    ∑ i : Fin 512, x (ix2 i d) * pick za zg i k = tile m c t d k :=
  Finset.sum_congr rfl fun i _ => congrArg₂ (· * ·) (hx i) (hz i)

theorem out_on (h : ¬t.val % 8 = 0) (d : Fin 1024) (k : Fin 1920) : outsAt0 m c t.val t.isLt (ix3 (0 : Fin 1) d k)
    = (show FVec Ideal S1x1024x1920 .f32 from outsAt0 m c (t.val - 1) (by have := t.isLt; omega)) (ix3 (0 : Fin 1) d k) + tile m c t d k := by
  rw [outsAt0_B m c t h]
  frame_out
  exact (two _ _ _ d _ [] k).trans (congrArg₂ (· + ·) rfl (tile_eq m c t d k _ _ _ (fun i => b0 m c t i d) fun i => pick_at m c t i k))

theorem out_begin (h : t.val % 8 = 0) (d : Fin 1024) (k : Fin 1920) : outsAt0 m c t.val t.isLt (ix3 (0 : Fin 1) d k) = (0 : EReal) + tile m c t d k := by
  rw [outsAt0_A m c t h]
  frame_open
  simp (disch := decide) only [↓ View.readCov_skip, ↓ View.readCov_fill]
  frame_out
  exact (two _ _ _ d _ _ k).trans (congrArg₂ (· + ·) (zero_apply d k) (tile_eq m c t d k _ _ _ (fun i => b0 m c t i d) fun i => pick_at m c t i k))

theorem eight_tiles (F : Fin 4096 → EReal) (h : ∀ s : Fin 8, 8 * (t.val / 8) + s.val < cfg0.N) :
    ∑ s : Fin 8, ∑ k : Fin 512, F (at_ ⟨8 * (t.val / 8) + s.val, h s⟩ k) = ∑ R : Fin 4096, F R := by
  refine Fin.sum_mul_add_congr fun s k hl => congrArg F (Fin.ext ?_)
  show (8 * (t.val / 8) + s.val) * 512 + k.val = s.val * 512 + k.val
  have : t.val < 8 := t.isLt
  omega

theorem out_sum (h : t.val % 8 = 7) (d : Fin 1024) (k : Fin 1920) : outsAt0 m c t.val t.isLt (ix3 (0 : Fin 1) d k) = (args m c).G d k := by
  have e := Pipeline.eq_sum_fin_of_reset_step_apply_of_flush (M := EReal) (fun n h (y : Fin 1024 × Fin 1920) => outsAt0 m c n h (ix3 (0 : Fin 1) y.1 y.2)) 8 (fun _ => 0)
    (fun t y => tile m c t y.1 y.2) (fun t h y => out_begin m c t h y.1 y.2) (fun t h y => out_on m c t h y.1 y.2) t h (d, k)
  exact e.trans ((zero_add _).trans (eight_tiles t (fun R => (args m c).h (ix2 R d) * pick (args m c).za (args m c).zg R k) _))

theorem dw_array : (dats m 0 c).arrAt 3 cfg0.N = (args m c).dw := by
  refine (dats m 0 c).arrAt_eq_of_coversWhere 3 (fun i : S2x1024x1920.Idx => (args m c).G (i 1) (i 2)) (fun β => β 0 ≤ 0) (by decide +kernel) (fun t hf y => ?_)
    (fun j => by show (j 0).val ≤ 0 ↔ (j 0).val / 1 ≤ 0; omega)
  blk_simp
  rw [after0_3]
  idx_vars y
  obtain rfl := Subsingleton.elim y0 0
  rw [out_sum m c t ((flush0_3 t).1 hf)]
  refine congrArg₂ (args m c).G (Fin.ext ?_) (Fin.ext ?_)
  · blk_simp [idx t]
  · blk_simp [idx t]

end Cert.Own.Dw0

end
-- ==== Proof.Dw0Results.lean ====
module

public import proofs.«01_k».proof.Proof.Dw0Arrays
public import proofs.«01_k».proof.Proof.Gen.Reference4Ideal.Run
public import proofs.«01_k».proof.Defs

@[expose] public section

set_option maxRecDepth 16384

noncomputable section

namespace Cert.Own.Dw0

open Idealize.ShloMosaic Idealize.ShloMosaic.TcCoe Idealize.SL.Sem

section ref
open Cert.Reference4Ideal Cert.Reference4Ideal.Gen

variable (h : FVec Ideal S4096x1024 .bf16) (za : FVec Ideal S4096x768 .bf16) (zg : FVec Ideal S4096x1152 .bf16) (old : FVec Ideal S2x1024x1920 .f32)

/-- The projection's gradient in one array. -/
def refZ : FVec Ideal S4096x1920 .f32 :=
  concatenate S4096x1920 1 [⟨S4096x768, extf .f32 za bitsLt_bf16_f32⟩, ⟨S4096x1152, extf .f32 zg bitsLt_bf16_f32⟩] concatenates_S4096x768_S4096x1152_S4096x1920_d1
/-- The weights' gradient of the first layer. -/
def refG (z : FVec Ideal S4096x1920 .f32) : FVec Ideal S1x1024x1920 .f32 :=
  broadcastInDim S1x1024x1920 ![1, 2] bcast_S1024x1920_S1x1024x1920_1_2 (transpose S1024x1920 [1, 0]
    (Host.dotGeneral dot_S4096x1920_S4096x1024_S1920x1024_0_0_1_1_n_n none z (extf .f32 h bitsLt_bf16_f32)) transposes_S1920x1024_S1024x1920_1_0)
def refOld : FVec Ideal S1x1024x1920 .f32 :=
  broadcastInDim S1x1024x1920 ![1, 2] bcast_S1024x1920_S1x1024x1920_1_2
    (shapeCast S1024x1920 (extractStridedSlice S1x1024x1920 ![1, 0, 0] old slices_S2x1024x1920_S1x1024x1920_1_0_0) shapeCasts_S1x1024x1920_S1024x1920)
def refDw (a b : FVec Ideal S1x1024x1920 .f32) : FVec Ideal S2x1024x1920 .f32 :=
  concatenate S2x1024x1920 0 [⟨S1x1024x1920, a⟩, ⟨S1x1024x1920, b⟩] concatenates_S1x1024x1920_S1x1024x1920_S2x1024x1920_d0

variable (R : Fin 4096) (d : Fin 1024) (k : Fin 1920)

theorem refZ_apply : refZ za zg (ix2 R k) = pick za zg R k := by
  have := k.isLt
  rcases (by omega : k.val < 768 ∨ 768 ≤ k.val) with h | h
  all_goals
    unfold pick
    pointwise [refZ]
    repeat first
    | rw [dif_neg (by omega)]
    | rw [dif_pos (by omega)]
    try first
    | rfl
    | exact congrArg _ (congrArg (ix2 R) (Fin.ext (by dsimp only; omega)))
theorem refG_apply (z : FVec Ideal S4096x1920 .f32) : refG h z (ix3 (0 : Fin 1) d k) = ∑ R : Fin 4096, z (ix2 R k) * h (ix2 R d) := by
  pointwise [refG]
theorem refOld_apply : refOld old (ix3 (0 : Fin 1) d k) = old (ix3 (1 : Fin 2) d k) := by
  pointwise [refOld]
theorem refDw_apply (a b : FVec Ideal S1x1024x1920 .f32) (l : Fin 2) : refDw a b (ix3 l d k) = if l.val ≤ 0 then a (ix3 (0 : Fin 1) d k) else b (ix3 (0 : Fin 1) d k) := by
  pointwise [refDw]
  fin_cases l <;> rfl

theorem refG_eq : refG h (refZ za zg) (ix3 (0 : Fin 1) d k) = (Args.mk h za zg old).G d k := by
  rw [refG_apply]
  unfold Args.G
  refine Finset.sum_congr rfl fun R _ => ?_
  rw [refZ_apply]
  exact mul_comm _ _

theorem dw_apply (A : Args) (l : Fin 2) : A.dw (ix3 l d k) = if l.val ≤ 0 then A.G d k else A.old (ix3 l d k) := rfl

theorem refDw_eq : refDw (refG h (refZ za zg)) (refOld old) = (Args.mk h za zg old).dw := by
  funext y
  idx_vars y
  rw [refDw_apply, dw_apply]
  split_ifs with e
  · exact refG_eq ..
  · rw [refOld_apply]
    exact congrArg old (congrArg (fun l => ix3 l _ _) (Fin.ext (by have := y0.isLt; show 1 = y0.val; omega)))

variable (m : (ℓ : Loc nD τ sig) → Buf (Elt Ideal) ℓ) (c : Dev nD)

/-- The arrays the reference is given. -/
def argsR : Args where
  h := m ((c.tc : Thread nD τ).loc main_arg0)
  za := m ((c.tc : Thread nD τ).loc main_arg1)
  zg := m ((c.tc : Thread nD τ).loc main_arg2)
  old := m ((c.tc : Thread nD τ).loc main_arg3)
end ref

theorem V_old (m : (ℓ : Loc Cert.Kernel4Ideal.nD Cert.Kernel4Ideal.τ Cert.Kernel4Ideal.sig) → Buf (Elt Ideal) ℓ) (c : Dev Cert.Kernel4Ideal.nD) :
    Cert.Kernel4Ideal.Gen.V m c Cert.Kernel4Ideal.main_v0 = m ((c.tc : Thread _ _).loc Cert.Kernel4Ideal.main_arg3) := by
  unfold Cert.Kernel4Ideal.Gen.V
  after_results
  try rfl

/-- The kernel and the reference leave the same array. -/
theorem algebraic : Cert.algebraic_Kernel4Ideal_Reference4Ideal := by
  intro m g m' g' _ hm
  have R (c) : argsR m' c = args m c := by
    obtain ⟨h0, h1, h2, h3⟩ := hm c
    unfold argsR args
    rw [h0, h1, h2, h3, V_old]
    rfl
  refine ⟨fun c => (Cert.Kernel4Ideal.Gen.dats m 0 c).arrAt 3 Cert.Kernel4Ideal.cfg0.N,
    Cert.Kernel4Ideal.Value.run_blocks m g, (θ_run _ _ _).mono (fun r h c => ?_) (Cert.Reference4Ideal.Value.run m' g')⟩
  obtain ⟨a0, rest⟩ := h c
  exact ⟨a0.trans ((refDw_eq (argsR m' c).h (argsR m' c).za (argsR m' c).zg (argsR m' c).old).trans
    ((congrArg Args.dw (R c)).trans (dw_array m c).symm)), rest⟩

end Cert.Own.Dw0

end
-- ==== Proof.LnArrays.lean ====
module

public import proofs.«01_k».proof.Proof.Gen.Kernel5Ideal.Value
public import Idealize.ShloMosaic.Lib.Pointwise
public import Idealize.ShloMosaic.Lib.Pointwise.IndexVar
public import Idealize.ShloMosaic.Lib.MatmulPlain
public import Idealize.ShloMosaic.Lib.WholeRead
public import Idealize.ShloMosaic.Lib.Pipeline.ValueKit

@[expose] public section

set_option maxRecDepth 16384

noncomputable section

namespace Cert.Own.Ln

open Idealize.ShloMosaic Idealize.ShloMosaic.TcCoe Cert.Kernel5Ideal Cert.Kernel5Ideal.Gen Idealize.SL.Sem

/-- The arrays of the normalisation and the projection. -/
structure Args where
  x : FVec Ideal S4096x1024 .f32
  p : FVec Ideal S2x1x1024 .f32
  s : FVec Ideal S2x1x1024 .f32
  g : FVec Ideal S1x1024 .f32
  w : FVec Ideal S1024x4352 .bf16

namespace Args
variable (A : Args)

/-- The mean square of a position, and the small number added. -/
def var (R : Fin 4096) : EReal := Ideal.div (∑ k : Fin 1024, A.x (ix2 R k) * A.x (ix2 R k)) (Ideal.ofBits .f32 0x44800000#32) + Ideal.ofBits .f32 0x358637BD#32
def ex (R : Fin 4096) : Fin 2 := ⟨R.val / 2048, by omega⟩
/-- What is projected. -/
def h (R : Fin 4096) (d : Fin 1024) : EReal :=
  A.x (ix2 R d) * Ideal.rsqrt (A.var R) * A.g (ix2 (0 : Fin 1) d) * (Ideal.ofBits .f32 0x3F800000#32 + A.s (ix3 (ex R) (0 : Fin 1) d)) + A.p (ix3 (ex R) (0 : Fin 1) d)
def hidden (e : FTy) : FVec Ideal S4096x1024 e := fun j => A.h (j 0) (j 1)
/-- A position's projection to a column. -/
def proj (R : Fin 4096) (k : Fin 4352) : EReal := ∑ d : Fin 1024, A.h R d * A.w (ix2 d k)
/-- The columns of the projection from the `a`-th on. -/
def cols (e : FTy) (a n : ℕ) (ha : a + n ≤ 4352) : FVec Ideal ⟨2, ![4096, n]⟩ e :=
  fun j => A.proj (j 0) ⟨a + (j 1).val, Nat.lt_of_lt_of_le (Nat.add_lt_add_left (j 1).isLt a) ha⟩
end Args

/-! ## The body at an index -/

section pay
variable (x : FVec Ideal S512x1024 .f32) (g : FVec Ideal S1x1024 .f32) (s p : FVec Ideal S1x1x1024 .f32) (H : FVec Ideal S512x1024 .bf16) (w : FVec Ideal S1024x384 .bf16) (i : Fin 512) (d : Fin 1024) (k : Fin 384)

theorem hidden_apply : k0_pay2 (F := Ideal) x g s p (ix2 i d)
    = x (ix2 i d) * Ideal.rsqrt (Ideal.div (∑ k : Fin 1024, x (ix2 i k) * x (ix2 i k)) (Ideal.ofBits .f32 0x44800000#32) + Ideal.ofBits .f32 0x358637BD#32) * g (ix2 (0 : Fin 1) d)
      * (Ideal.ofBits .f32 0x3F800000#32 + s (ix3 (0 : Fin 1) (0 : Fin 1) d)) + p (ix3 (0 : Fin 1) (0 : Fin 1) d) := by
  pointwise [k0_pay2]
theorem a_apply (w : FVec Ideal S1024x768 .bf16) (k : Fin 768) : k0_pay3 (F := Ideal) x g s p w (ix2 i k) = ∑ d : Fin 1024, k0_pay2 (F := Ideal) x g s p (ix2 i d) * w (ix2 d k) := by
  unfold k0_pay3
  generalize k0_pay2 (F := Ideal) x g s p = H
  pointwise
theorem g_apply (w : FVec Ideal S1024x1152 .bf16) (k : Fin 1152) : k0_pay4 (F := Ideal) x g s p w (ix2 i k) = ∑ d : Fin 1024, k0_pay2 (F := Ideal) x g s p (ix2 i d) * w (ix2 d k) := by
  unfold k0_pay4
  generalize k0_pay2 (F := Ideal) x g s p = H
  pointwise
theorem q0_apply : k0_pay5 (F := Ideal) H w (ix2 i k) = ∑ d : Fin 1024, H (ix2 i d) * w (ix2 d k) := by pointwise [k0_pay5]
theorem q1_apply : k0_pay6 (F := Ideal) H w (ix2 i k) = ∑ d : Fin 1024, H (ix2 i d) * w (ix2 d k) := by pointwise [k0_pay6]
theorem q2_apply : k0_pay7 (F := Ideal) H w (ix2 i k) = ∑ d : Fin 1024, H (ix2 i d) * w (ix2 d k) := by pointwise [k0_pay7]
theorem q3_apply : k0_pay8 (F := Ideal) H w (ix2 i k) = ∑ d : Fin 1024, H (ix2 i d) * w (ix2 d k) := by pointwise [k0_pay8]
theorem q4_apply : k0_pay9 (F := Ideal) H w (ix2 i k) = ∑ d : Fin 1024, H (ix2 i d) * w (ix2 d k) := by pointwise [k0_pay9]
theorem q5_apply : k0_pay10 (F := Ideal) H w (ix2 i k) = ∑ d : Fin 1024, H (ix2 i d) * w (ix2 d k) := by pointwise [k0_pay10]
theorem f_apply (w : FVec Ideal S1024x128 .bf16) (k : Fin 128) : k0_pay1 (F := Ideal) H w (ix2 i k) = ∑ d : Fin 1024, H (ix2 i d) * w (ix2 d k) := by pointwise [k0_pay1]
end pay

variable (m : (ℓ : Loc nD τ sig) → Buf (Elt Ideal) ℓ) (c : Dev nD) (t : Fin cfg0.N)

/-- The kernel's arrays. -/
def args : Args where
  x := V m c main_arg0
  p := V m c main_arg1
  s := V m c main_arg2
  g := V m c main_arg3
  w := V m c main_arg4

theorem idx : ∀ t : Fin cfg0.N, (win0_0.index t = ![t.val, 0] ∧ win0_1.index t = ![t.val / 4, 0, 0] ∧ win0_2.index t = ![t.val / 4, 0, 0] ∧ win0_3.index t = ![0, 0] ∧ win0_4.index t = ![0, 0])
    ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- The array's row of a tile's row, and a tile's example. -/
def at_ (i : Fin 512) : Fin 4096 := ⟨t.val * 512 + i.val, by have : t.val < 8 := t.isLt; omega⟩
def ex : Fin 2 := ⟨t.val / 4, by have : t.val < 8 := t.isLt; omega⟩

section blocks
variable (i : Fin 512) (d : Fin 1024)
theorem b0 : iblk m c 0 t (ix2 i d) = (args m c).x (ix2 (at_ t i) d) := by blk_ext [iblk, idx t]; rfl
theorem b1 : iblk m c 1 t (ix3 (0 : Fin 1) (0 : Fin 1) d) = (args m c).p (ix3 (ex t) (0 : Fin 1) d) := by blk_ext [iblk, idx t]; rfl
theorem b2 : iblk m c 2 t (ix3 (0 : Fin 1) (0 : Fin 1) d) = (args m c).s (ix3 (ex t) (0 : Fin 1) d) := by blk_ext [iblk, idx t]; rfl
theorem b3 : iblk m c 3 t (ix2 (0 : Fin 1) d) = (args m c).g (ix2 (0 : Fin 1) d) := by blk_ext [iblk, idx t]
theorem b4 (k : Fin 4352) : iblk m c 4 t (ix2 d k) = (args m c).w (ix2 d k) := by blk_ext [iblk, idx t]
theorem ex_at : Args.ex (at_ t i) = ex t := Fin.ext (by
  show (t.val * 512 + i.val) / 2048 = t.val / 4
  omega)

theorem ld_apply {n a : ℕ} (h : ∀ b, ![0, a] b + ![1024, n] b ≤ S1024x4352.size b) (ha : a + n ≤ 4352) (x : Vec Ideal S1024x4352 .bf16) (k : Fin n) :
    View.ld (Val := Elt Ideal) (e' := .bf16) x (Rect.unit (s := S1024x4352) ![0, a] ![1024, n] h) (ix2 d k) = x (ix2 d (⟨a + k.val, by omega⟩ : Fin 4352)) := by
  refine congrArg x ?_
  funext b; apply Fin.ext
  fin_cases b
  · show 0 + 1 * d.val = d.val
    omega
  · show a + 1 * k.val = a + k.val
    omega

/-- A tile of what is projected. -/
def hAt : FVec Ideal S512x1024 .bf16 := k0_pay2 (F := Ideal) (iblk m c 0 t) (iblk m c 3 t) (iblk m c 2 t) (iblk m c 1 t)

theorem hAt_apply : hAt m c t (ix2 i d) = (args m c).h (at_ t i) d := by
  refine (hidden_apply ..).trans ?_
  unfold Args.h Args.var
  rw [ex_at]
  refine congrArg₂ (· + ·) (congrArg₂ (· * ·) (congrArg₂ (· * ·) (congrArg₂ (· * ·) (b0 m c t i d) (congrArg Ideal.rsqrt (congrArg₂ (· + ·) (congrArg₂ Ideal.div
    (Finset.sum_congr rfl fun k _ => congrArg₂ (· * ·) (b0 m c t i k) (b0 m c t i k)) rfl) rfl))) (b3 m c t d)) (congrArg₂ (· + ·) rfl (b2 m c t d))) (b1 m c t d)

theorem cols_tile {n a : ℕ} (h : ∀ b, ![0, a] b + ![1024, n] b ≤ S1024x4352.size b) (ha : a + n ≤ 4352) (k : Fin n) :
    ∑ d : Fin 1024, hAt m c t (ix2 i d) * View.ld (Val := Elt Ideal) (e' := .bf16) (iblk m c 4 t) (Rect.unit (s := S1024x4352) ![0, a] ![1024, n] h) (ix2 d k)
      = (args m c).proj (at_ t i) ⟨a + k.val, by omega⟩ :=
  Finset.sum_congr rfl fun d _ => congrArg₂ (· * ·) (hAt_apply m c t i d) ((ld_apply d h ha _ k).trans (b4 m c t d _))
end blocks

/-! ## The ten arrays -/

theorem h_array : (dats m 0 c).arrAt 5 cfg0.N = (args m c).hidden .bf16 := by
  refine (dats m 0 c).arrAt_eq_of_covers 5 _ (by decide +kernel) fun t hf y => ?_
  blk_simp
  rw [after0_5]
  unfold_out out0_5
  frame_out
  idx_vars y
  refine (hAt_apply m c t y0 y1).trans (congrArg₂ (args m c).h (Fin.ext ?_) (Fin.ext ?_))
  · blk_simp [idx t]
    rfl
  · blk_simp [idx t]
theorem za_array : (dats m 0 c).arrAt 6 cfg0.N = (args m c).cols .f32 0 768 (by decide) := by
  refine (dats m 0 c).arrAt_eq_of_covers 6 _ (by decide +kernel) fun t hf y => ?_
  blk_simp
  rw [after0_6]
  unfold_out out0_6
  frame_out
  idx_vars y
  refine ((a_apply ..).trans (cols_tile m c t y0 _ (by decide) y1)).trans (congrArg₂ (args m c).proj (Fin.ext ?_) (Fin.ext ?_))
  · blk_simp [idx t]
    rfl
  · blk_simp [idx t]
theorem zg_array : (dats m 0 c).arrAt 7 cfg0.N = (args m c).cols .f32 768 1152 (by decide) := by
  refine (dats m 0 c).arrAt_eq_of_covers 7 _ (by decide +kernel) fun t hf y => ?_
  blk_simp
  rw [after0_7]
  unfold_out out0_7
  frame_out
  idx_vars y
  refine ((g_apply ..).trans (cols_tile m c t y0 _ (by decide) y1)).trans (congrArg₂ (args m c).proj (Fin.ext ?_) (Fin.ext ?_))
  · blk_simp [idx t]
    rfl
  · blk_simp [idx t]
theorem q0_array : (dats m 0 c).arrAt 8 cfg0.N = (args m c).cols .bf16 1920 384 (by decide) := by
  refine (dats m 0 c).arrAt_eq_of_covers 8 _ (by decide +kernel) fun t hf y => ?_
  blk_simp
  rw [after0_8]
  unfold_out out0_8
  frame_out
  idx_vars y
  refine ((q0_apply ..).trans (cols_tile m c t y0 _ (by decide) y1)).trans (congrArg₂ (args m c).proj (Fin.ext ?_) (Fin.ext ?_))
  · blk_simp [idx t]
    rfl
  · blk_simp [idx t]
theorem q1_array : (dats m 0 c).arrAt 9 cfg0.N = (args m c).cols .bf16 2304 384 (by decide) := by
  refine (dats m 0 c).arrAt_eq_of_covers 9 _ (by decide +kernel) fun t hf y => ?_
  blk_simp
  rw [after0_9]
  unfold_out out0_9
  frame_out
  idx_vars y
  refine ((q1_apply ..).trans (cols_tile m c t y0 _ (by decide) y1)).trans (congrArg₂ (args m c).proj (Fin.ext ?_) (Fin.ext ?_))
  · blk_simp [idx t]
    rfl
  · blk_simp [idx t]
theorem q2_array : (dats m 0 c).arrAt 10 cfg0.N = (args m c).cols .bf16 2688 384 (by decide) := by
  refine (dats m 0 c).arrAt_eq_of_covers 10 _ (by decide +kernel) fun t hf y => ?_
  blk_simp
  rw [after0_10]
  unfold_out out0_10
  frame_out
  idx_vars y
  refine ((q2_apply ..).trans (cols_tile m c t y0 _ (by decide) y1)).trans (congrArg₂ (args m c).proj (Fin.ext ?_) (Fin.ext ?_))
  · blk_simp [idx t]
    rfl
  · blk_simp [idx t]
theorem q3_array : (dats m 0 c).arrAt 11 cfg0.N = (args m c).cols .bf16 3072 384 (by decide) := by
  refine (dats m 0 c).arrAt_eq_of_covers 11 _ (by decide +kernel) fun t hf y => ?_
  blk_simp
  rw [after0_11]
  unfold_out out0_11
  frame_out
  idx_vars y
  refine ((q3_apply ..).trans (cols_tile m c t y0 _ (by decide) y1)).trans (congrArg₂ (args m c).proj (Fin.ext ?_) (Fin.ext ?_))
  · blk_simp [idx t]
    rfl
  · blk_simp [idx t]
theorem q4_array : (dats m 0 c).arrAt 12 cfg0.N = (args m c).cols .bf16 3456 384 (by decide) := by
  refine (dats m 0 c).arrAt_eq_of_covers 12 _ (by decide +kernel) fun t hf y => ?_
  blk_simp
  rw [after0_12]
  unfold_out out0_12
  frame_out
  idx_vars y
  refine ((q4_apply ..).trans (cols_tile m c t y0 _ (by decide) y1)).trans (congrArg₂ (args m c).proj (Fin.ext ?_) (Fin.ext ?_))
  · blk_simp [idx t]
    rfl
  · blk_simp [idx t]
theorem q5_array : (dats m 0 c).arrAt 13 cfg0.N = (args m c).cols .bf16 3840 384 (by decide) := by
  refine (dats m 0 c).arrAt_eq_of_covers 13 _ (by decide +kernel) fun t hf y => ?_
  blk_simp
  rw [after0_13]
  unfold_out out0_13
  frame_out
  idx_vars y
  refine ((q5_apply ..).trans (cols_tile m c t y0 _ (by decide) y1)).trans (congrArg₂ (args m c).proj (Fin.ext ?_) (Fin.ext ?_))
  · blk_simp [idx t]
    rfl
  · blk_simp [idx t]
theorem zf_array : (dats m 0 c).arrAt 14 cfg0.N = (args m c).cols .f32 4224 128 (by decide) := by
  refine (dats m 0 c).arrAt_eq_of_covers 14 _ (by decide +kernel) fun t hf y => ?_
  blk_simp
  rw [after0_14]
  unfold_out out0_14
  frame_out
  idx_vars y
  refine ((f_apply ..).trans (cols_tile m c t y0 _ (by decide) y1)).trans (congrArg₂ (args m c).proj (Fin.ext ?_) (Fin.ext ?_))
  · blk_simp [idx t]
    rfl
  · blk_simp [idx t]

end Cert.Own.Ln

end
-- ==== Proof.LnResults.lean ====
module

public import proofs.«01_k».proof.Proof.LnArrays
public import proofs.«01_k».proof.Proof.DxRef
public import proofs.«01_k».proof.Proof.Gen.Reference5Ideal.Run
public import proofs.«01_k».proof.Defs

@[expose] public section

set_option maxRecDepth 16384

noncomputable section

namespace Cert.Own.Ln

open Idealize.ShloMosaic Idealize.ShloMosaic.TcCoe Idealize.SL.Sem
open Cert.Own.Dx (Wide refX refV refR refG refN refX_apply refV_apply refR_apply refG_apply refN_apply row_of row_div row_mod mulf_at)

section ref
open Cert.Reference5Ideal Cert.Reference5Ideal.Gen

variable (A : Args) (b : Fin 2) (i : Fin 2048) (d : Fin 1024) (k : Fin 4352)

abbrev row : Fin 4096 := Cert.Own.Dx.Args.row b i

/-- An example's vector on all its positions. -/
def refP (p : FVec Ideal S2x1x1024 .f32) : Wide := broadcastInDim S2x2048x1024 ![0, 1, 2] bcast_S2x1x1024_S2x2048x1024_0_1_2 p
/-- What the reference projects, by examples. -/
def refH : Wide := addf (refN (mulf (mulf (refX A.x) (refR (refV (refX A.x)))) (refG A.g)) A.s) (refP A.p)
def refHidden (H : Wide) : FVec Ideal S4096x1024 .bf16 := truncf .bf16 (shapeCast S4096x1024 H shapeCasts_S2x2048x1024_S4096x1024) bitsLt_bf16_f32
/-- The projection. -/
def refY (H : Wide) (w : FVec Ideal S1024x4352 .bf16) : FVec Ideal S4096x4352 .f32 :=
  shapeCast S4096x4352 (Host.dotGeneral dot_S2x2048x1024_S1024x4352_S2x2048x4352_2_0_01_1_n_n none H (extf .f32 w bitsLt_bf16_f32)) shapeCasts_S2x2048x4352_S4096x4352

theorem refP_apply (p : FVec Ideal S2x1x1024 .f32) : refP p (ix3 b i d) = p (ix3 b (0 : Fin 1) d) := by pointwise [refP]
theorem refHidden_apply (H : Wide) (R : Fin 4096) (e0 : (⟨R.val / 2048, by omega⟩ : Fin 2) = b) (e1 : (⟨R.val % 2048, by omega⟩ : Fin 2048) = i) :
    refHidden H (ix2 R d) = H (ix3 b i d) := by
  subst e0 e1
  pointwise [refHidden]
theorem refY_apply (H : Wide) (w : FVec Ideal S1024x4352 .bf16) (R : Fin 4096) (e0 : (⟨R.val / 2048, by omega⟩ : Fin 2) = b) (e1 : (⟨R.val % 2048, by omega⟩ : Fin 2048) = i) :
    refY H w (ix2 R k) = ∑ d : Fin 1024, H (ix3 b i d) * w (ix2 d k) := by
  subst e0 e1
  pointwise [refY]
theorem addf_at (X Y : Wide) (j : S2x2048x1024.Idx) : addf X Y j = X j + Y j := rfl

theorem ex_row : Args.ex (row b i) = b := row_div b i
theorem var_eq : refV (refX A.x) (ix3 b i (0 : Fin 1)) = A.var (row b i) := by
  rw [refV_apply]
  simp only [refX_apply]
  rfl
theorem refH_eq : refH A (ix3 b i d) = A.h (row b i) d := by
  unfold refH Args.h
  rw [addf_at, refN_apply, mulf_at, mulf_at, refR_apply, var_eq, refG_apply, refP_apply, refX_apply, ex_row]
  rfl
theorem hidden_at (R : Fin 4096) : (A.hidden .bf16) (ix2 R d) = A.h R d := rfl
theorem hidden_eq : refHidden (refH A) = A.hidden .bf16 := by
  funext y
  idx_vars y
  obtain ⟨b, i, rfl⟩ := row_of y0
  rw [refHidden_apply b i y1 (refH A) (row b i) (row_div b i) (row_mod b i), hidden_at]
  exact refH_eq ..
theorem proj_eq (R : Fin 4096) : refY (refH A) A.w (ix2 R k) = A.proj R k := by
  obtain ⟨b, i, rfl⟩ := row_of R
  rw [refY_apply b i k (refH A) A.w (row b i) (row_div b i) (row_mod b i)]
  unfold Args.proj
  simp only [refH_eq]
/-- A slice of the projection's columns. -/
theorem cols_eq (e : FTy) (a n : ℕ) (ha : a + n ≤ 4352) (h : S4096x4352.Slices ![0, a] ⟨2, ![4096, n]⟩) (y : FVec Ideal ⟨2, ![4096, n]⟩ e)
    (hy : ∀ j, y j = extractStridedSlice ⟨2, ![4096, n]⟩ ![0, a] (refY (refH A) A.w) h j) : y = A.cols e a n ha := by
  funext j
  rw [hy]
  have e0 : extractStridedSlice ⟨2, ![4096, n]⟩ ![0, a] (refY (refH A) A.w) h j
      = refY (refH A) A.w (ix2 (j 0 : Fin 4096) (⟨a + (j 1).val, Nat.lt_of_lt_of_le (Nat.add_lt_add_left (j 1).isLt a) ha⟩ : Fin 4352)) := by
    refine congrArg (refY (refH A) A.w) ?_
    funext b; apply Fin.ext
    fin_cases b
    · exact Nat.zero_add _
    · rfl
  exact e0.trans (proj_eq A _ _)

variable (m : (ℓ : Loc nD τ sig) → Buf (Elt Ideal) ℓ) (c : Dev nD)

/-- The arrays the reference is given. -/
def argsR : Args where
  x := m ((c.tc : Thread nD τ).loc main_arg0)
  p := m ((c.tc : Thread nD τ).loc main_arg1)
  s := m ((c.tc : Thread nD τ).loc main_arg2)
  g := m ((c.tc : Thread nD τ).loc main_arg3)
  w := m ((c.tc : Thread nD τ).loc main_arg4)
end ref

open Cert.Reference5Ideal.Gen in
/-- The kernel and the reference leave the same arrays. -/
theorem algebraic : Cert.algebraic_Kernel5Ideal_Reference5Ideal := by
  intro m g m' g' _ hm
  have R (c) : argsR m' c = args m c := by
    obtain ⟨h0, h1, h2, h3, h4⟩ := hm c
    unfold argsR args
    rw [h0, h1, h2, h3, h4]
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N,
    fun c => (Cert.Kernel5Ideal.Gen.dats m 0 c).arrAt 8 Cert.Kernel5Ideal.cfg0.N, fun c => (Cert.Kernel5Ideal.Gen.dats m 0 c).arrAt 9 Cert.Kernel5Ideal.cfg0.N, fun c => (Cert.Kernel5Ideal.Gen.dats m 0 c).arrAt 10 Cert.Kernel5Ideal.cfg0.N,
    fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N,
    Cert.Kernel5Ideal.Value.run_blocks m g, (θ_run _ _ _).mono (fun r h c => ?_) (Cert.Reference5Ideal.Value.run m' g')⟩
  obtain ⟨a0, a1, a2, a3, a4, a5, a6, a7, a8, a9, rest⟩ := h c
  have C (e : FTy) (a n : ℕ) (ha : a + n ≤ 4352) : (argsR m' c).cols e a n ha = (args m c).cols e a n ha := congrArg (fun A : Args => A.cols e a n ha) (R c)
  exact ⟨a0.trans ((hidden_eq (argsR m' c)).trans ((congrArg (fun A : Args => A.hidden .bf16) (R c)).trans (h_array m c).symm)),
    (a1.trans (cols_eq (argsR m' c) .f32 0 768 (by decide) Cert.Reference5Ideal.Gen.facts.slices_S4096x4352_S4096x768_0_0 _ fun _ => rfl)).trans ((C ..).trans (za_array m c).symm),
    (a2.trans (cols_eq (argsR m' c) .f32 768 1152 (by decide) Cert.Reference5Ideal.Gen.facts.slices_S4096x4352_S4096x1152_0_768 _ fun _ => rfl)).trans ((C ..).trans (zg_array m c).symm),
    (a3.trans (cols_eq (argsR m' c) .bf16 1920 384 (by decide) Cert.Reference5Ideal.Gen.facts.slices_S4096x4352_S4096x384_0_1920 _ fun _ => rfl)).trans ((C ..).trans (q0_array m c).symm),
    (a4.trans (cols_eq (argsR m' c) .bf16 2304 384 (by decide) Cert.Reference5Ideal.Gen.facts.slices_S4096x4352_S4096x384_0_2304 _ fun _ => rfl)).trans ((C ..).trans (q1_array m c).symm),
    (a5.trans (cols_eq (argsR m' c) .bf16 2688 384 (by decide) Cert.Reference5Ideal.Gen.facts.slices_S4096x4352_S4096x384_0_2688 _ fun _ => rfl)).trans ((C ..).trans (q2_array m c).symm),
    (a6.trans (cols_eq (argsR m' c) .bf16 3072 384 (by decide) Cert.Reference5Ideal.Gen.facts.slices_S4096x4352_S4096x384_0_3072 _ fun _ => rfl)).trans ((C ..).trans (q3_array m c).symm),
    (a7.trans (cols_eq (argsR m' c) .bf16 3456 384 (by decide) Cert.Reference5Ideal.Gen.facts.slices_S4096x4352_S4096x384_0_3456 _ fun _ => rfl)).trans ((C ..).trans (q4_array m c).symm),
    (a8.trans (cols_eq (argsR m' c) .bf16 3840 384 (by decide) Cert.Reference5Ideal.Gen.facts.slices_S4096x4352_S4096x384_0_3840 _ fun _ => rfl)).trans ((C ..).trans (q5_array m c).symm),
    (a9.trans (cols_eq (argsR m' c) .f32 4224 128 (by decide) Cert.Reference5Ideal.Gen.facts.slices_S4096x4352_S4096x128_0_4224 _ fun _ => rfl)).trans ((C ..).trans (zf_array m c).symm),
    rest⟩

end Cert.Own.Ln

end
-- ==== Proof.GoArrays.lean ====
module

public import proofs.«01_k».proof.Proof.Gen.Kernel7Ideal.Value
public import Idealize.ShloMosaic.Lib.Pointwise
public import Idealize.ShloMosaic.Lib.Pointwise.IndexVar
public import Idealize.ShloMosaic.Lib.MatmulPlain
public import Idealize.ShloMosaic.Lib.WholeRead
public import Idealize.ShloMosaic.Lib.Pipeline.ValueKit

@[expose] public section

set_option maxRecDepth 16384

noncomputable section

namespace Cert.Own.Go

open Idealize.ShloMosaic Idealize.ShloMosaic.TcCoe Cert.Kernel7Ideal Cert.Kernel7Ideal.Gen Idealize.SL.Sem

/-- What one attention gives to a position's feature: its outputs, gated, times its rows of the weights. -/
def term (o u : Fin 384 → EReal) (w : Fin 384 → EReal) : EReal := ∑ k, o k * (u k * Ideal.logistic (u k)) * w k

/-- The arrays of the gated output projection. -/
structure Args where
  x : FVec Ideal S4096x1024 .f32
  gate : FVec Ideal S2x1x1024 .f32
  oa : FVec Ideal S4096x384 .f32
  ob : FVec Ideal S4096x384 .f32
  oc : FVec Ideal S4096x384 .f32
  zg : FVec Ideal S4096x1152 .f32
  w : FVec Ideal S1152x1024 .bf16

namespace Args
variable (A : Args)

def part (o : FVec Ideal S4096x384 .f32) (a : ℕ) (ha : a + 384 ≤ 1152) (R : Fin 4096) (d : Fin 1024) : EReal :=
  term (fun k => o (ix2 R k)) (fun k => A.zg (ix2 R (⟨a + k.val, by omega⟩ : Fin 1152))) fun k => A.w (ix2 (⟨a + k.val, by omega⟩ : Fin 1152) d)
/-- The projection of the gated outputs. -/
def out (R : Fin 4096) (d : Fin 1024) : EReal := A.part A.oa 0 (by decide) R d + A.part A.ob 384 (by decide) R d + A.part A.oc 768 (by decide) R d
def ex (R : Fin 4096) : Fin 2 := ⟨R.val / 2048, by omega⟩
def sum (R : Fin 4096) (d : Fin 1024) : EReal := A.x (ix2 R d) + A.gate (ix3 (ex R) (0 : Fin 1) d) * A.out R d
def y : FVec Ideal S4096x1024 .f32 := fun j => A.out (j 0) (j 1)
def res : FVec Ideal S4096x1024 .f32 := fun j => A.sum (j 0) (j 1)
end Args

section pay
variable (o1 u1 o2 u2 o3 u3 : FVec Ideal S512x384 .f32) (w1 w2 w3 : FVec Ideal S384x1024 .bf16) (y x : FVec Ideal S512x1024 .f32) (g : FVec Ideal S1x1x1024 .f32) (i : Fin 512) (d : Fin 1024)

theorem pay2_apply : k0_pay2 (F := Ideal) o1 u1 w1 o2 u2 w2 o3 u3 w3 (ix2 i d)
    = term (fun k => o1 (ix2 i k)) (fun k => u1 (ix2 i k)) (fun k => w1 (ix2 k d)) + term (fun k => o2 (ix2 i k)) (fun k => u2 (ix2 i k)) (fun k => w2 (ix2 k d))
      + term (fun k => o3 (ix2 i k)) (fun k => u3 (ix2 i k)) fun k => w3 (ix2 k d) := by
  unfold term
  pointwise [k0_pay2]
theorem pay1_apply : k0_pay1 (F := Ideal) y x g (ix2 i d) = x (ix2 i d) + g (ix3 (0 : Fin 1) (0 : Fin 1) d) * y (ix2 i d) := by pointwise [k0_pay1]
end pay

variable (m : (ℓ : Loc nD τ sig) → Buf (Elt Ideal) ℓ) (c : Dev nD) (t : Fin cfg0.N)

/-- The kernel's arrays. -/
def args : Args where
  x := V m c main_arg0
  gate := V m c main_arg1
  oa := V m c main_arg2
  ob := V m c main_arg3
  oc := V m c main_arg4
  zg := V m c main_arg5
  w := V m c main_arg6

theorem idx : ∀ t : Fin cfg0.N, win0_0.index t = ![t.val, 0] ∧ win0_1.index t = ![t.val / 4, 0, 0] ∧ win0_2.index t = ![t.val, 0] ∧ win0_3.index t = ![t.val, 0] ∧ win0_4.index t = ![t.val, 0]
    ∧ win0_5.index t = ![t.val, 0] ∧ win0_6.index t = ![0, 0] ∧ win0_7.index t = ![t.val, 0] ∧ win0_8.index t = ![t.val, 0] :=
  (by decide +kernel : ∀ t : Fin grid0.N, _)

/-- The array's row of a tile's row, and a tile's example. -/
def at_ (i : Fin 512) : Fin 4096 := ⟨t.val * 512 + i.val, by have : t.val < 8 := t.isLt; omega⟩
def ex : Fin 2 := ⟨t.val / 4, by have : t.val < 8 := t.isLt; omega⟩

section blocks
variable (i : Fin 512) (d : Fin 1024) (k : Fin 384)
theorem b0 : iblk m c 0 t (ix2 i d) = (args m c).x (ix2 (at_ t i) d) := by blk_ext [iblk, idx t]; rfl
theorem b1 : iblk m c 1 t (ix3 (0 : Fin 1) (0 : Fin 1) d) = (args m c).gate (ix3 (ex t) (0 : Fin 1) d) := by blk_ext [iblk, idx t]; rfl
theorem b2 : iblk m c 2 t (ix2 i k) = (args m c).oa (ix2 (at_ t i) k) := by blk_ext [iblk, idx t]; rfl
theorem b3 : iblk m c 3 t (ix2 i k) = (args m c).ob (ix2 (at_ t i) k) := by blk_ext [iblk, idx t]; rfl
theorem b4 : iblk m c 4 t (ix2 i k) = (args m c).oc (ix2 (at_ t i) k) := by blk_ext [iblk, idx t]; rfl
theorem b5 (k : Fin 1152) : iblk m c 5 t (ix2 i k) = (args m c).zg (ix2 (at_ t i) k) := by blk_ext [iblk, idx t]; rfl
theorem b6 (k : Fin 1152) : iblk m c 6 t (ix2 k d) = (args m c).w (ix2 k d) := by blk_ext [iblk, idx t]
theorem ex_at : Args.ex (at_ t i) = ex t := Fin.ext (by
  show (t.val * 512 + i.val) / 2048 = t.val / 4
  omega)

theorem ld_cols {a : ℕ} (h : ∀ b, ![0, a] b + ![512, 384] b ≤ S512x1152.size b) (ha : a + 384 ≤ 1152) (z : Vec Ideal S512x1152 .f32) :
    View.ld (Val := Elt Ideal) (e' := .f32) z (Rect.unit (s := S512x1152) ![0, a] ![512, 384] h) (ix2 i k) = z (ix2 i (⟨a + k.val, by omega⟩ : Fin 1152)) := by
  refine congrArg z ?_
  funext b; apply Fin.ext
  fin_cases b
  · show 0 + 1 * i.val = i.val
    omega
  · show a + 1 * k.val = a + k.val
    omega
theorem ld_rows {a : ℕ} (h : ∀ b, ![a, 0] b + ![384, 1024] b ≤ S1152x1024.size b) (ha : a + 384 ≤ 1152) (w : Vec Ideal S1152x1024 .bf16) :
    View.ld (Val := Elt Ideal) (e' := .bf16) w (Rect.unit (s := S1152x1024) ![a, 0] ![384, 1024] h) (ix2 k d) = w (ix2 (⟨a + k.val, by omega⟩ : Fin 1152) d) := by
  refine congrArg w ?_
  funext b; apply Fin.ext
  fin_cases b
  · show a + 1 * k.val = a + k.val
    omega
  · show 0 + 1 * d.val = d.val
    omega

theorem term_congr {o o' u u' w w' : Fin 384 → EReal} (ho : ∀ k, o k = o' k) (hu : ∀ k, u k = u' k) (hw : ∀ k, w k = w' k) : term o u w = term o' u' w' := by
  rw [funext ho, funext hu, funext hw]

theorem part_eq {a : ℕ} (h5 : ∀ b, ![0, a] b + ![512, 384] b ≤ S512x1152.size b) (h6 : ∀ b, ![a, 0] b + ![384, 1024] b ≤ S1152x1024.size b) (ha : a + 384 ≤ 1152)
    (o : FVec Ideal S512x384 .f32) (O : FVec Ideal S4096x384 .f32) (ho : ∀ k, o (ix2 i k) = O (ix2 (at_ t i) k)) :
    term (fun k => o (ix2 i k)) (fun k => View.ld (Val := Elt Ideal) (e' := .f32) (iblk m c 5 t) (Rect.unit (s := S512x1152) ![0, a] ![512, 384] h5) (ix2 i k))
      (fun k => View.ld (Val := Elt Ideal) (e' := .bf16) (iblk m c 6 t) (Rect.unit (s := S1152x1024) ![a, 0] ![384, 1024] h6) (ix2 k d)) = (args m c).part O a ha (at_ t i) d :=
  term_congr ho (fun k => (ld_cols i k h5 ha _).trans (b5 m c t i _)) fun k => (ld_rows d k h6 ha _).trans (b6 m c t d _)

/-- A tile of the projection. -/
def yAt : FVec Ideal S512x1024 .f32 :=
  k0_pay2 (F := Ideal) (iblk m c 2 t) (View.ld (Val := Elt Ideal) (e' := .f32) (iblk m c 5 t) r0_1) (View.ld (Val := Elt Ideal) (e' := .bf16) (iblk m c 6 t) r0_2)
    (iblk m c 3 t) (View.ld (Val := Elt Ideal) (e' := .f32) (iblk m c 5 t) r0_3) (View.ld (Val := Elt Ideal) (e' := .bf16) (iblk m c 6 t) r0_4)
    (iblk m c 4 t) (View.ld (Val := Elt Ideal) (e' := .f32) (iblk m c 5 t) r0_5) (View.ld (Val := Elt Ideal) (e' := .bf16) (iblk m c 6 t) r0_6)

theorem yAt_apply : yAt m c t (ix2 i d) = (args m c).out (at_ t i) d :=
  (pay2_apply ..).trans (congrArg₂ (· + ·) (congrArg₂ (· + ·) (part_eq m c t i d _ _ (by decide) _ _ fun k => b2 m c t i k) (part_eq m c t i d _ _ (by decide) _ _ fun k => b3 m c t i k))
    (part_eq m c t i d _ _ (by decide) _ _ fun k => b4 m c t i k))
theorem xAt_apply : k0_pay1 (F := Ideal) (yAt m c t) (iblk m c 0 t) (iblk m c 1 t) (ix2 i d) = (args m c).sum (at_ t i) d := by
  refine (pay1_apply ..).trans ?_
  unfold Args.sum
  rw [ex_at]
  exact congrArg₂ (· + ·) (b0 m c t i d) (congrArg₂ (· * ·) (b1 m c t d) (yAt_apply m c t i d))
end blocks

theorem y_array : (dats m 0 c).arrAt 7 cfg0.N = (args m c).y := by
  refine (dats m 0 c).arrAt_eq_of_covers 7 _ (by decide +kernel) fun t hf y => ?_
  blk_simp
  rw [after0_7]
  unfold out0_7
  frame_out
  idx_vars y
  refine (yAt_apply m c t y0 y1).trans (congrArg₂ (args m c).out (Fin.ext ?_) (Fin.ext ?_))
  · blk_simp [idx t]
    rfl
  · blk_simp [idx t]
theorem x_array : (dats m 0 c).arrAt 8 cfg0.N = (args m c).res := by
  refine (dats m 0 c).arrAt_eq_of_covers 8 _ (by decide +kernel) fun t hf y => ?_
  blk_simp
  rw [after0_8]
  unfold out0_8
  frame_out
  idx_vars y
  refine (xAt_apply m c t y0 y1).trans (congrArg₂ (args m c).sum (Fin.ext ?_) (Fin.ext ?_))
  · blk_simp [idx t]
    rfl
  · blk_simp [idx t]

end Cert.Own.Go

end
-- ==== Proof.GoResults.lean ====
module

public import proofs.«01_k».proof.Proof.GoArrays
public import proofs.«01_k».proof.Proof.DxHost
public import proofs.«01_k».proof.Proof.Gen.Reference7Ideal.Run
public import proofs.«01_k».proof.Defs

@[expose] public section

set_option maxRecDepth 16384

noncomputable section

namespace Cert.Own.Go

open Idealize.ShloMosaic Idealize.ShloMosaic.TcCoe Idealize.SL.Sem
open Cert.Own.Dx (peel)

section ref
open Cert.Reference7Ideal Cert.Reference7Ideal.Gen

variable (A : Args) (R : Fin 4096) (d : Fin 1024) (k : Fin 384)

def refOne : FVec Ideal S4096x384 .f32 := broadcastInDim S4096x384 ![] bcast_S_S4096x384 (constant (F := Ideal) S_ .f32 0x3F800000#32)
/-- An attention's gated outputs. -/
def refGated (o u : FVec Ideal S4096x384 .f32) : FVec Ideal S4096x384 .f32 := mulf o (mulf u (Host.divf refOne (addf refOne (Host.exp (Host.negf u)))))
def refCat (p q r : FVec Ideal S4096x384 .f32) : FVec Ideal S4096x1152 .f32 :=
  concatenate S4096x1152 1 [⟨S4096x384, p⟩, ⟨S4096x384, q⟩, ⟨S4096x384, r⟩] concatenates_S4096x384_S4096x384_S4096x384_S4096x1152_d1
def refOut (o : FVec Ideal S4096x1152 .f32) (w : FVec Ideal S1152x1024 .bf16) : FVec Ideal S4096x1024 .f32 :=
  Host.dotGeneral dot_S4096x1152_S1152x1024_S4096x1024_1_0_0_1_n_n none o (extf .f32 w bitsLt_bf16_f32)
def refSum (x y : FVec Ideal S4096x1024 .f32) (g : FVec Ideal S2x1x1024 .f32) : FVec Ideal S4096x1024 .f32 :=
  addf x (shapeCast S4096x1024 (mulf (broadcastInDim S2x2048x1024 ![0, 1, 2] bcast_S2x1x1024_S2x2048x1024_0_1_2 g) (shapeCast S2x2048x1024 y shapeCasts_S4096x1024_S2x2048x1024))
    shapeCasts_S2x2048x1024_S4096x1024)
def cut0 (z : FVec Ideal S4096x1152 .f32) : FVec Ideal S4096x384 .f32 := extractStridedSlice S4096x384 ![0, 0] z slices_S4096x1152_S4096x384_0_0
def cut1 (z : FVec Ideal S4096x1152 .f32) : FVec Ideal S4096x384 .f32 := extractStridedSlice S4096x384 ![0, 384] z slices_S4096x1152_S4096x384_0_384
def cut2 (z : FVec Ideal S4096x1152 .f32) : FVec Ideal S4096x384 .f32 := extractStridedSlice S4096x384 ![0, 768] z slices_S4096x1152_S4096x384_0_768

/-- The reference's projection, from its arguments. -/
def refY : FVec Ideal S4096x1024 .f32 := refOut (refCat (refGated A.oa (cut0 A.zg)) (refGated A.ob (cut1 A.zg)) (refGated A.oc (cut2 A.zg))) A.w

theorem cut0_apply (z : FVec Ideal S4096x1152 .f32) : cut0 z (ix2 R k) = z (ix2 R (⟨0 + k.val, by omega⟩ : Fin 1152)) := by
  pointwise [cut0]
theorem cut1_apply (z : FVec Ideal S4096x1152 .f32) : cut1 z (ix2 R k) = z (ix2 R (⟨384 + k.val, by omega⟩ : Fin 1152)) := by
  pointwise [cut1]
theorem cut2_apply (z : FVec Ideal S4096x1152 .f32) : cut2 z (ix2 R k) = z (ix2 R (⟨768 + k.val, by omega⟩ : Fin 1152)) := by
  pointwise [cut2]
theorem refGated_apply (o u : FVec Ideal S4096x384 .f32) : refGated o u (ix2 R k) = o (ix2 R k) * (u (ix2 R k) * Ideal.logistic (u (ix2 R k))) := by
  unfold Ideal.logistic
  pointwise [refGated, refOne]
theorem refOut_apply (o : FVec Ideal S4096x1152 .f32) (w : FVec Ideal S1152x1024 .bf16) : refOut o w (ix2 R d) = ∑ k : Fin 1152, o (ix2 R k) * w (ix2 k d) := by
  pointwise [refOut]
theorem refOut_cat (p q r : FVec Ideal S4096x384 .f32) (w : FVec Ideal S1152x1024 .bf16) : refOut (refCat p q r) w (ix2 R d)
    = ∑ k : Fin 384, p (ix2 R k) * w (ix2 (⟨0 + k.val, by omega⟩ : Fin 1152) d) + ∑ k : Fin 384, q (ix2 R k) * w (ix2 (⟨384 + k.val, by omega⟩ : Fin 1152) d)
      + ∑ k : Fin 384, r (ix2 R k) * w (ix2 (⟨768 + k.val, by omega⟩ : Fin 1152) d) := by
  rw [refOut_apply, peel 768 384 (by rfl), peel 384 384 (by rfl)]
  iterate 2 refine congrArg₂ (· + ·) ?_ ?_
  all_goals
    refine Finset.sum_congr rfl fun k _ => ?_
    have hk := k.isLt
    pointwise [refCat]
    repeat first
    | rw [dif_neg (by omega)]
    | rw [dif_pos (by omega)]
    try
      refine congrArg₂ (· * ·) ?_ (congrArg w (congrArg (fun k => ix2 k d) (Fin.ext (by simp only; omega))))
      exact congrArg _ (congrArg (ix2 R) (Fin.ext (by simp only; omega)))
  exact congrArg₂ (· * ·) (congrArg r (congrArg (ix2 R) (Fin.ext (show 768 + k.val - 384 - 384 = k.val by omega)))) rfl
theorem refSum_apply (x y : FVec Ideal S4096x1024 .f32) (g : FVec Ideal S2x1x1024 .f32) : refSum x y g (ix2 R d) = x (ix2 R d) + g (ix3 (Args.ex R) (0 : Fin 1) d) * y (ix2 R d) := by
  pointwise [refSum]
  rfl

theorem refY_at : refY A (ix2 R d) = A.out R d := by
  refine (refOut_cat R d _ _ _ A.w).trans ?_
  unfold Args.out Args.part term
  simp only [refGated_apply, cut0_apply, cut1_apply, cut2_apply]
theorem y_at : A.y (ix2 R d) = A.out R d := rfl
theorem res_at : A.res (ix2 R d) = A.x (ix2 R d) + A.gate (ix3 (Args.ex R) (0 : Fin 1) d) * A.out R d := rfl
theorem y_eq : refY A = A.y := by
  funext j
  idx_vars j
  exact refY_at A j0 j1
theorem res_eq : refSum A.x (refY A) A.gate = A.res := by
  funext j
  idx_vars j
  rw [refSum_apply, refY_at, res_at]

variable (m : (ℓ : Loc nD τ sig) → Buf (Elt Ideal) ℓ) (c : Dev nD)

/-- The arrays the reference is given. -/
def argsR : Args where
  x := m ((c.tc : Thread nD τ).loc main_arg0)
  gate := m ((c.tc : Thread nD τ).loc main_arg1)
  oa := m ((c.tc : Thread nD τ).loc main_arg2)
  ob := m ((c.tc : Thread nD τ).loc main_arg3)
  oc := m ((c.tc : Thread nD τ).loc main_arg4)
  zg := m ((c.tc : Thread nD τ).loc main_arg5)
  w := m ((c.tc : Thread nD τ).loc main_arg6)
end ref

/-- The kernel and the reference leave the same arrays. -/
theorem algebraic : Cert.algebraic_Kernel7Ideal_Reference7Ideal := by
  intro m g m' g' _ hm
  have R (c) : argsR m' c = args m c := by
    obtain ⟨h0, h1, h2, h3, h4, h5, h6⟩ := hm c
    unfold argsR args
    rw [h0, h1, h2, h3, h4, h5, h6]
  refine ⟨fun c => (Cert.Kernel7Ideal.Gen.dats m 0 c).arrAt 7 Cert.Kernel7Ideal.cfg0.N, fun c => (Cert.Kernel7Ideal.Gen.dats m 0 c).arrAt 8 Cert.Kernel7Ideal.cfg0.N,
    Cert.Kernel7Ideal.Value.run_blocks m g, (θ_run _ _ _).mono (fun r h c => ?_) (Cert.Reference7Ideal.Value.run m' g')⟩
  obtain ⟨a0, a1, rest⟩ := h c
  exact ⟨a0.trans ((y_eq (argsR m' c)).trans ((congrArg Args.y (R c)).trans (y_array m c).symm)),
    a1.trans ((res_eq (argsR m' c)).trans ((congrArg Args.res (R c)).trans (x_array m c).symm)), rest⟩

end Cert.Own.Go

end
-- ==== Proof.ObKernel.lean ====
module

public import proofs.«01_k».proof.Proof.Gen.Kernel6Ideal.Value
public import Idealize.ShloMosaic.Lib.Pointwise
public import Idealize.ShloMosaic.Lib.Pointwise.IndexVar
public import Idealize.ShloMosaic.Lib.MatmulPlain
public import Idealize.ShloMosaic.Lib.WholeRead
public import Idealize.ShloMosaic.Lib.Pipeline.ValueKit

@[expose] public section

set_option maxRecDepth 16384

noncomputable section

namespace Cert.Own.Ob

open Idealize.ShloMosaic Idealize.ShloMosaic.TcCoe Cert.Kernel6Ideal Cert.Kernel6Ideal.Gen Idealize.SL.Sem

def one : EReal := Ideal.ofBits .f32 0x3F800000#32
/-- The gate of a logit, and its slope. -/
def silu (u : EReal) : EReal := u * Ideal.logistic u
def slope (u : EReal) : EReal := Ideal.logistic u * (one + u * (one - Ideal.logistic u))

section pick
variable {n : ℕ} (o0 o1 o2 : FVec Ideal ⟨2, ![n, 384]⟩ .f32) (i : Fin n) (k : Fin 1152)

/-- Column `k` of the three attentions' outputs side by side. -/
def pick : EReal :=
  if h2 : 768 ≤ k.val then o2 (ix2 i (⟨k.val - 768, by omega⟩ : Fin 384))
  else if h1 : 384 ≤ k.val then o1 (ix2 i (⟨k.val - 384, by omega⟩ : Fin 384))
  else o0 (ix2 i (⟨k.val, by omega⟩ : Fin 384))

variable {k}
theorem pick0 (j : Fin 384) (e : k.val = 0 + j.val) : pick o0 o1 o2 i k = o0 (ix2 i j) := by
  unfold pick
  rw [dif_neg (by omega), dif_neg (by omega)]
  exact congrArg o0 (congrArg (ix2 i) (Fin.ext (by simp only; omega)))
theorem pick1 (j : Fin 384) (e : k.val = 384 + j.val) : pick o0 o1 o2 i k = o1 (ix2 i j) := by
  unfold pick
  rw [dif_neg (by omega), dif_pos (by omega)]
  exact congrArg o1 (congrArg (ix2 i) (Fin.ext (by simp only; omega)))
theorem pick2 (j : Fin 384) (e : k.val = 768 + j.val) : pick o0 o1 o2 i k = o2 (ix2 i j) := by
  unfold pick
  rw [dif_pos (by omega)]
  exact congrArg o2 (congrArg (ix2 i) (Fin.ext (by simp only; omega)))
end pick

/-! ## The body at an index -/

section pay
variable (v x y : FVec Ideal S512x1024 .f32) (g p : FVec Ideal S1x1x1024 .f32) (u o : FVec Ideal S512x384 .f32) (w : FVec Ideal S1024x384 .bf16) (q : FVec Ideal S384x1024 .f32)
  (i : Fin 512) (d : Fin 1024) (j : Fin 384)

theorem pay6_apply : k0_pay6 (F := Ideal) x g (ix2 i d) = x (ix2 i d) * g (ix3 (0 : Fin 1) (0 : Fin 1) d) := by pointwise [k0_pay6]
theorem pay5_apply : k0_pay5 (F := Ideal) x p y (ix3 (0 : Fin 1) (0 : Fin 1) d) = p (ix3 (0 : Fin 1) (0 : Fin 1) d) + ∑ k : Fin 512, x (ix2 k d) * y (ix2 k d) := by
  pointwise [k0_pay5]
theorem zero4 : k0_pay4 (F := Ideal) (ix3 (0 : Fin 1) (0 : Fin 1) d) = 0 := by pointwise [k0_pay4]
theorem zero3 (k : Fin 1152) : k0_pay3 (F := Ideal) (ix2 k d) = 0 := by pointwise [k0_pay3]

theorem pay10_apply : k0_pay10 (F := Ideal) v u w (ix2 i j) = (∑ d : Fin 1024, v (ix2 i d) * w (ix2 d j)) * silu (u (ix2 i j)) := by
  unfold silu
  pointwise [k0_pay10, k0_pay9, k0_pay8, k0_pay7]
theorem pay15_apply : k0_pay15 (F := Ideal) (k0_pay7 v) (k0_pay13 u) w (ix2 i j) = (∑ d : Fin 1024, v (ix2 i d) * w (ix2 d j)) * silu (u (ix2 i j)) := by
  unfold silu
  pointwise [k0_pay15, k0_pay14, k0_pay13, k0_pay7]
theorem pay20_apply : k0_pay20 (F := Ideal) (k0_pay7 v) u w (ix2 i j) = (∑ d : Fin 1024, v (ix2 i d) * w (ix2 d j)) * silu (u (ix2 i j)) := by
  unfold silu
  pointwise [k0_pay20, k0_pay19, k0_pay18, k0_pay7]

theorem pay11_apply : k0_pay11 (F := Ideal) v u o w (ix2 i j) = (∑ d : Fin 1024, v (ix2 i d) * w (ix2 d j)) * o (ix2 i j) * slope (u (ix2 i j)) := by
  unfold slope one
  pointwise [k0_pay11, k0_pay9, k0_pay7]
theorem pay16_apply : k0_pay16 (F := Ideal) (k0_pay7 v) u o w (ix2 i j) = (∑ d : Fin 1024, v (ix2 i d) * w (ix2 d j)) * o (ix2 i j) * slope (u (ix2 i j)) := by
  unfold slope one
  pointwise [k0_pay16, k0_pay14, k0_pay7]
theorem pay1_apply : k0_pay1 (F := Ideal) u (k0_pay21 (k0_pay7 v) o w) (k0_pay22 u) k0_pay23 (ix2 i j)
    = (∑ d : Fin 1024, v (ix2 i d) * w (ix2 d j)) * o (ix2 i j) * slope (u (ix2 i j)) := by
  unfold slope one
  pointwise [k0_pay1, k0_pay21, k0_pay19, k0_pay22, k0_pay23, k0_pay7]

theorem pay12_apply : k0_pay12 (F := Ideal) v u o q (ix2 j d) = q (ix2 j d) + ∑ i : Fin 512, o (ix2 i j) * silu (u (ix2 i j)) * v (ix2 i d) := by
  unfold silu
  pointwise [k0_pay12, k0_pay8, k0_pay7]
theorem pay17_apply : k0_pay17 (F := Ideal) (k0_pay7 v) o (k0_pay13 u) q (ix2 j d) = q (ix2 j d) + ∑ i : Fin 512, o (ix2 i j) * silu (u (ix2 i j)) * v (ix2 i d) := by
  unfold silu
  pointwise [k0_pay17, k0_pay13, k0_pay7]
theorem pay2_apply : k0_pay2 (F := Ideal) (k0_pay7 v) o (k0_pay18 u) q (ix2 j d) = q (ix2 j d) + ∑ i : Fin 512, o (ix2 i j) * silu (u (ix2 i j)) * v (ix2 i d) := by
  unfold silu
  pointwise [k0_pay2, k0_pay18, k0_pay7]
end pay

/-! ## The pieces of a block together -/

section columns
variable {N M n a : ℕ} (h : ∀ b, (![0, a] : Fin 2 → ℕ) b + (![M, n] : Fin 2 → ℕ) b ≤ (⟨2, ![M, N]⟩ : Shape).size b) (i : Fin M) (k : Fin N)

theorem emb_col (j : Fin n) (e : k.val = a + j.val) : (Rect.unit (s := ⟨2, ![M, N]⟩) ![0, a] ![M, n] h).emb (ix2 i j) = ix2 i k := by
  funext b; apply Fin.ext
  fin_cases b
  · show 0 + 1 * i.val = i.val
    omega
  · show a + 1 * j.val = k.val
    omega
theorem canon_col {e' : EltTy} (w : (Rect.unit (s := ⟨2, ![M, N]⟩) ![0, a] ![M, n] h).shape.Idx → Elt Ideal e') (L : List (View.Piece (Elt Ideal) ⟨2, ![M, N]⟩ e')) (v : Elt Ideal e')
    (hit : ∀ j : Fin n, k.val = a + j.val → w (ix2 i j) = v) (miss : ¬(a ≤ k.val ∧ k.val < a + n) → View.canon L (ix2 i k) = v) :
    View.canon ((⟨Rect.unit (s := ⟨2, ![M, N]⟩) ![0, a] ![M, n] h, w⟩ : View.Piece (Elt Ideal) ⟨2, ![M, N]⟩ e') :: L) (ix2 i k) = v := by
  by_cases hk : a ≤ k.val ∧ k.val < a + n
  · have e : k.val = a + (⟨k.val - a, by omega⟩ : Fin n).val := by simp only; omega
    rw [← hit _ e, ← emb_col h i k _ e]
    exact View.canon_cons_emb (Rect.unit (s := ⟨2, ![M, N]⟩) ![0, a] ![M, n] h) w L _
  · rw [← miss hk]
    refine View.canon_cons_of_not_mem _ L fun hm => hk ?_
    exact (Rect.mem_set_unit (inb := h)).1 hm 1
end columns

section rows
variable {N M n a : ℕ} (h : ∀ b, (![a, 0] : Fin 2 → ℕ) b + (![n, M] : Fin 2 → ℕ) b ≤ (⟨2, ![N, M]⟩ : Shape).size b) (k : Fin N) (d : Fin M)

theorem emb_row (j : Fin n) (e : k.val = a + j.val) : (Rect.unit (s := ⟨2, ![N, M]⟩) ![a, 0] ![n, M] h).emb (ix2 j d) = ix2 k d := by
  funext b; apply Fin.ext
  fin_cases b
  · show a + 1 * j.val = k.val
    omega
  · show 0 + 1 * d.val = d.val
    omega
theorem canon_row (w : (Rect.unit (s := ⟨2, ![N, M]⟩) ![a, 0] ![n, M] h).shape.Idx → Elt Ideal .f32) (L : List (View.Piece (Elt Ideal) ⟨2, ![N, M]⟩ .f32)) (v : EReal)
    (hit : ∀ j : Fin n, k.val = a + j.val → w (ix2 j d) = v) (miss : ¬(a ≤ k.val ∧ k.val < a + n) → View.canon L (ix2 k d) = v) :
    View.canon ((⟨Rect.unit (s := ⟨2, ![N, M]⟩) ![a, 0] ![n, M] h, w⟩ : View.Piece (Elt Ideal) ⟨2, ![N, M]⟩ .f32) :: L) (ix2 k d) = v := by
  by_cases hk : a ≤ k.val ∧ k.val < a + n
  · have e : k.val = a + (⟨k.val - a, by omega⟩ : Fin n).val := by simp only; omega
    rw [← hit _ e, ← emb_row h k d _ e]
    exact View.canon_cons_emb (Rect.unit (s := ⟨2, ![N, M]⟩) ![a, 0] ![n, M] h) w L _
  · rw [← miss hk]
    refine View.canon_cons_of_not_mem _ L fun hm => hk ?_
    exact (Rect.mem_set_unit (inb := h)).1 hm 0
end rows

section three
variable (v : FVec Ideal S512x1024 .f32) (u : FVec Ideal S512x1152 .f32) (wt : FVec Ideal S1024x1152 .bf16) (o0 o1 o2 : FVec Ideal S512x384 .f32)
  (P : FVec Ideal S1152x1024 .f32) (L : List (View.Piece (Elt Ideal) S1152x1024 .f32)) (i : Fin 512) (d : Fin 1024) (k : Fin 1152)

def colU (a : ℕ) (h : ∀ b, (![0, a] : Fin 2 → ℕ) b + (![512, 384] : Fin 2 → ℕ) b ≤ S512x1152.size b) : FVec Ideal S512x384 .f32 :=
  View.ld (Val := Elt Ideal) (e' := .f32) u (Rect.unit (s := S512x1152) ![0, a] ![512, 384] h)
def colW (a : ℕ) (h : ∀ b, (![0, a] : Fin 2 → ℕ) b + (![1024, 384] : Fin 2 → ℕ) b ≤ S1024x1152.size b) : FVec Ideal S1024x384 .bf16 :=
  View.ld (Val := Elt Ideal) (e' := .bf16) wt (Rect.unit (s := S1024x1152) ![0, a] ![1024, 384] h)
def rowP (a : ℕ) (h : ∀ b, (![a, 0] : Fin 2 → ℕ) b + (![384, 1024] : Fin 2 → ℕ) b ≤ S1152x1024.size b) : FVec Ideal S384x1024 .f32 :=
  View.ld (Val := Elt Ideal) (e' := .f32) P (Rect.unit (s := S1152x1024) ![a, 0] ![384, 1024] h)
theorem colU_apply {a : ℕ} (h : ∀ b, (![0, a] : Fin 2 → ℕ) b + (![512, 384] : Fin 2 → ℕ) b ≤ S512x1152.size b) (j : Fin 384) (e : k.val = a + j.val) :
    colU u a h (ix2 i j) = u (ix2 i k) := congrArg u (emb_col (N := 1152) (M := 512) (n := 384) h i k j e)
theorem colW_apply {a : ℕ} (h : ∀ b, (![0, a] : Fin 2 → ℕ) b + (![1024, 384] : Fin 2 → ℕ) b ≤ S1024x1152.size b) (j : Fin 384) (e : k.val = a + j.val) :
    colW wt a h (ix2 d j) = wt (ix2 d k) := congrArg wt (emb_col (N := 1152) (M := 1024) (n := 384) h d k j e)
theorem rowP_apply {a : ℕ} (h : ∀ b, (![a, 0] : Fin 2 → ℕ) b + (![384, 1024] : Fin 2 → ℕ) b ≤ S1152x1024.size b) (j : Fin 384) (e : k.val = a + j.val) :
    rowP P a h (ix2 j d) = P (ix2 k d) := congrArg P (emb_row (N := 1152) (M := 1024) (n := 384) h k d j e)

/-- The gradient of the logits a point stores. -/
theorem three_cols : View.canon
    ((⟨Rect.unit (s := S512x1152) ![0, 768] ![512, 384] inb_S512x1152_S512x384_0_768,
        k0_pay1 (F := Ideal) (colU u 768 inb_S512x1152_S512x384_0_768) (k0_pay21 (k0_pay7 v) o2 (colW wt 768 inb_S1024x1152_S1024x384_0_768)) (k0_pay22 (colU u 768 inb_S512x1152_S512x384_0_768)) k0_pay23⟩ :
          View.Piece (Elt Ideal) S512x1152 .bf16)
      :: ⟨Rect.unit (s := S512x1152) ![0, 384] ![512, 384] inb_S512x1152_S512x384_0_384,
        k0_pay16 (F := Ideal) (k0_pay7 v) (colU u 384 inb_S512x1152_S512x384_0_384) o1 (colW wt 384 inb_S1024x1152_S1024x384_0_384)⟩
      :: ⟨Rect.unit (s := S512x1152) ![0, 0] ![512, 384] inb_S512x1152_S512x384_0_0,
        k0_pay11 (F := Ideal) v (colU u 0 inb_S512x1152_S512x384_0_0) o0 (colW wt 0 inb_S1024x1152_S1024x384_0_0)⟩ :: []) (ix2 i k)
    = (∑ d : Fin 1024, v (ix2 i d) * wt (ix2 d k)) * pick o0 o1 o2 i k * slope (u (ix2 i k)) := by
  refine canon_col _ i k _ _ _ (fun j e => (pay1_apply ..).trans ?_) fun h2 => ?_
  · rw [pick2 _ _ _ i j e, colU_apply u i k _ j e]
    simp only [colW_apply wt _ k _ j e]
  refine canon_col _ i k _ _ _ (fun j e => (pay16_apply ..).trans ?_) fun h1 => ?_
  · rw [pick1 _ _ _ i j e, colU_apply u i k _ j e]
    simp only [colW_apply wt _ k _ j e]
  refine canon_col _ i k _ _ _ (fun j e => (pay11_apply ..).trans ?_) fun h0 => ?_
  · rw [pick0 _ _ _ i j e, colU_apply u i k _ j e]
    simp only [colW_apply wt _ k _ j e]
  exact absurd k.isLt (by omega)

/-- The gradient of the weights a point stores, over what was there. -/
theorem three_rows : View.canon
    ((⟨Rect.unit (s := S1152x1024) ![768, 0] ![384, 1024] inb_S1152x1024_S384x1024_768_0,
        k0_pay2 (F := Ideal) (k0_pay7 v) o2 (k0_pay18 (colU u 768 inb_S512x1152_S512x384_0_768)) (rowP P 768 inb_S1152x1024_S384x1024_768_0)⟩ : View.Piece (Elt Ideal) S1152x1024 .f32)
      :: ⟨Rect.unit (s := S1152x1024) ![384, 0] ![384, 1024] inb_S1152x1024_S384x1024_384_0,
        k0_pay17 (F := Ideal) (k0_pay7 v) o1 (k0_pay13 (colU u 384 inb_S512x1152_S512x384_0_384)) (rowP P 384 inb_S1152x1024_S384x1024_384_0)⟩
      :: ⟨Rect.unit (s := S1152x1024) ![0, 0] ![384, 1024] inb_S1152x1024_S384x1024_0_0,
        k0_pay12 (F := Ideal) v (colU u 0 inb_S512x1152_S512x384_0_0) o0 (rowP P 0 inb_S1152x1024_S384x1024_0_0)⟩ :: L) (ix2 k d)
    = P (ix2 k d) + ∑ i : Fin 512, pick o0 o1 o2 i k * silu (u (ix2 i k)) * v (ix2 i d) := by
  refine canon_row _ k d _ _ _ (fun j e => (pay2_apply ..).trans ?_) fun h2 => ?_
  · rw [rowP_apply P d k _ j e]
    simp only [pick2 _ _ _ _ j e, colU_apply u _ k _ j e]
  refine canon_row _ k d _ _ _ (fun j e => (pay17_apply ..).trans ?_) fun h1 => ?_
  · rw [rowP_apply P d k _ j e]
    simp only [pick1 _ _ _ _ j e, colU_apply u _ k _ j e]
  refine canon_row _ k d _ _ _ (fun j e => (pay12_apply ..).trans ?_) fun h0 => ?_
  · rw [rowP_apply P d k _ j e]
    simp only [pick0 _ _ _ _ j e, colU_apply u _ k _ j e]
  exact absurd k.isLt (by omega)
end three

end Cert.Own.Ob

end
-- ==== Proof.ObArrays.lean ====
module

public import proofs.«01_k».proof.Proof.ObKernel
public import Idealize.ShloMosaic.Lib.StableHlo.RunRead
public import Idealize.ShloMosaic.Lib.Pipeline.ReadBack

@[expose] public section

set_option maxRecDepth 16384

noncomputable section

namespace Cert.Own.Ob

open Idealize.ShloMosaic Idealize.ShloMosaic.TcCoe Cert.Kernel6Ideal Cert.Kernel6Ideal.Gen Idealize.SL.Sem

/-- The arrays of the output projection's backward pass. -/
structure Args where
  x : FVec Ideal S4096x1024 .f32
  gate : FVec Ideal S2x1x1024 .f32
  oa : FVec Ideal S4096x384 .f32
  ob : FVec Ideal S4096x384 .f32
  oc : FVec Ideal S4096x384 .f32
  zg : FVec Ideal S4096x1152 .f32
  w : FVec Ideal S1152x1024 .bf16

namespace Args
variable (A : Args)

def ex (R : Fin 4096) : Fin 2 := ⟨R.val / 2048, by omega⟩
def row (e : Fin 2) (i : Fin 2048) : Fin 4096 := ⟨e.val * 2048 + i.val, by omega⟩
/-- The gradient of the projection. -/
def dy (R : Fin 4096) (d : Fin 1024) : EReal := A.x (ix2 R d) * A.gate (ix3 (ex R) (0 : Fin 1) d)
/-- The gradient of the gated outputs. -/
def dcat (R : Fin 4096) (k : Fin 1152) : EReal := ∑ d : Fin 1024, A.dy R d * A.w (ix2 k d)
def o (R : Fin 4096) (k : Fin 1152) : EReal := pick A.oa A.ob A.oc R k
def gated (R : Fin 4096) (k : Fin 1152) : EReal := A.o R k * silu (A.zg (ix2 R k))
/-- The projection of the gated outputs. -/
def y (R : Fin 4096) (d : Fin 1024) : EReal := ∑ k : Fin 1152, A.gated R k * A.w (ix2 k d)

def dO (R : Fin 4096) (k : Fin 1152) : EReal := A.dcat R k * silu (A.zg (ix2 R k))
def dZ (R : Fin 4096) (k : Fin 1152) : EReal := A.dcat R k * A.o R k * slope (A.zg (ix2 R k))
def dW (k : Fin 1152) (d : Fin 1024) : EReal := ∑ R : Fin 4096, A.gated R k * A.dy R d
def dG (e : Fin 2) (d : Fin 1024) : EReal := ∑ i : Fin 2048, A.x (ix2 (row e i) d) * A.y (row e i) d

/-- The gradients as arrays: an attention's outputs, the logits, the weights, the gate. -/
def dout (a : ℕ) (ha : a + 384 ≤ 1152) : FVec Ideal S4096x384 .f32 := fun j => A.dO (j 0) ⟨a + (j 1).val, Nat.lt_of_lt_of_le (Nat.add_lt_add_left (j 1).isLt a) ha⟩
def dzg : FVec Ideal S4096x1152 .bf16 := fun j => A.dZ (j 0) (j 1)
def dw : FVec Ideal S1152x1024 .f32 := fun j => A.dW (j 0) (j 1)
def dgate : FVec Ideal S2x1x1024 .f32 := fun j => A.dG (j 0) (j 2)
end Args

/-! ## What the region finds -/

def hostOne : FVec Ideal S4096x1152 .f32 := broadcastInDim S4096x1152 ![] bcast_S_S4096x1152 (constant (F := Ideal) S_ .f32 0x3F800000#32)
def hostCat (p q r : FVec Ideal S4096x384 .f32) : FVec Ideal S4096x1152 .f32 :=
  concatenate S4096x1152 1 [⟨S4096x384, p⟩, ⟨S4096x384, q⟩, ⟨S4096x384, r⟩] concatenates_S4096x384_S4096x384_S4096x384_S4096x1152_d1
def hostSilu (u : FVec Ideal S4096x1152 .f32) : FVec Ideal S4096x1152 .f32 := mulf u (Host.divf hostOne (addf hostOne (Host.exp (Host.negf u))))
def hostDot (o : FVec Ideal S4096x1152 .f32) (w : FVec Ideal S1152x1024 .bf16) : FVec Ideal S4096x1024 .f32 :=
  Host.dotGeneral dot_S4096x1152_S1152x1024_S4096x1024_1_0_0_1_n_n none o (extf .f32 w bitsLt_bf16_f32)
def hostT (w : FVec Ideal S1152x1024 .bf16) : FVec Ideal S1024x1152 .bf16 := transpose S1024x1152 [1, 0] w transposes_S1152x1024_S1024x1152_1_0

section host
variable (p q r : FVec Ideal S4096x384 .f32) (u o : FVec Ideal S4096x1152 .f32) (w : FVec Ideal S1152x1024 .bf16) (R : Fin 4096) (d : Fin 1024) (k : Fin 1152)
theorem hostCat_apply : hostCat p q r (ix2 R k) = pick p q r R k := by
  have := k.isLt
  rcases (by omega : k.val < 384 ∨ (384 ≤ k.val ∧ k.val < 768) ∨ 768 ≤ k.val) with h | h | h
  all_goals
    unfold pick
    pointwise [hostCat]
    repeat first
    | rw [dif_neg (by omega)]
    | rw [dif_pos (by omega)]
    try first
    | rfl
    | exact congrArg _ (congrArg (ix2 R) (Fin.ext (by dsimp only; omega)))
theorem hostSilu_apply : hostSilu u (ix2 R k) = silu (u (ix2 R k)) := by
  unfold silu Ideal.logistic
  pointwise [hostSilu, hostOne]
theorem hostDot_apply : hostDot o w (ix2 R d) = ∑ k : Fin 1152, o (ix2 R k) * w (ix2 k d) := by
  pointwise [hostDot]
theorem hostT_apply : hostT w (ix2 d k) = w (ix2 k d) := by
  pointwise [hostT]
theorem mulf_at (X Y : FVec Ideal S4096x1152 .f32) (j : S4096x1152.Idx) : mulf X Y j = X j * Y j := rfl
theorem host_y (A : Args) : hostDot (mulf (hostCat A.oa A.ob A.oc) (hostSilu A.zg)) A.w (ix2 R d) = A.y R d := by
  rw [hostDot_apply]
  unfold Args.y Args.gated Args.o
  simp only [mulf_at, hostCat_apply, hostSilu_apply]
end host

variable (m : (ℓ : Loc nD τ sig) → Buf (Elt Ideal) ℓ) (c : Dev nD) (t : Fin cfg0.N)

/-- The kernel's arrays. -/
def args : Args where
  x := V m c main_arg0
  gate := V m c main_arg1
  oa := V m c main_arg2
  ob := V m c main_arg3
  oc := V m c main_arg4
  zg := V m c main_arg5
  w := V m c main_arg6

theorem V_t : V m c main_v5 = hostT (args m c).w := by
  unfold args
  rw [V_main_arg6]
  unfold V
  after_reads_simp [hostOps0, hostOps0_1, hostOps0_2]
  rfl
theorem V_y : V m c main_v4 = hostDot (mulf (hostCat (args m c).oa (args m c).ob (args m c).oc) (hostSilu (args m c).zg)) (args m c).w := by
  unfold args
  rw [V_main_arg2, V_main_arg3, V_main_arg4, V_main_arg5, V_main_arg6]
  unfold V
  after_reads_simp [hostOps0, hostOps0_1, hostOps0_2]
  rfl

theorem idx : ∀ t : Fin cfg0.N, (win0_0.index t = ![t.val, 0] ∧ win0_1.index t = ![t.val, 0] ∧ win0_2.index t = ![t.val / 4, 0, 0] ∧ win0_3.index t = ![t.val, 0] ∧ win0_4.index t = ![t.val, 0]
    ∧ win0_5.index t = ![t.val, 0] ∧ win0_6.index t = ![t.val, 0] ∧ win0_8.index t = ![0, 0]) ∧ win0_9.index t = ![t.val, 0] ∧ win0_10.index t = ![t.val, 0] ∧ win0_11.index t = ![t.val, 0]
    ∧ win0_12.index t = ![t.val, 0] ∧ win0_13.index t = ![0, 0] ∧ win0_14.index t = ![t.val / 4, 0, 0] :=
  (by decide +kernel : ∀ t : Fin grid0.N, _)

/-- The array's row of a tile's row, and a tile's example. -/
def at_ (i : Fin 512) : Fin 4096 := ⟨t.val * 512 + i.val, by have : t.val < 8 := t.isLt; omega⟩
def ex : Fin 2 := ⟨t.val / 4, by have : t.val < 8 := t.isLt; omega⟩

section blocks
variable (i : Fin 512) (d : Fin 1024) (j : Fin 384) (k : Fin 1152)
theorem b0 : iblk m c 0 t (ix2 i d) = (args m c).x (ix2 (at_ t i) d) := by blk_ext [iblk, idx t]; rfl
theorem b1' : iblk m c 1 t (ix2 i d) = (show FVec Ideal S4096x1024 .f32 from V m c main_v4) (ix2 (at_ t i) d) := by blk_ext [iblk, idx t]; rfl
theorem b1 : iblk m c 1 t (ix2 i d) = (args m c).y (at_ t i) d := by
  rw [b1', V_y]
  exact host_y (at_ t i) d (args m c)
theorem b2 : iblk m c 2 t (ix3 (0 : Fin 1) (0 : Fin 1) d) = (args m c).gate (ix3 (ex t) (0 : Fin 1) d) := by blk_ext [iblk, idx t]; rfl
theorem b3 : iblk m c 3 t (ix2 i j) = (args m c).oa (ix2 (at_ t i) j) := by blk_ext [iblk, idx t]; rfl
theorem b4 : iblk m c 4 t (ix2 i j) = (args m c).ob (ix2 (at_ t i) j) := by blk_ext [iblk, idx t]; rfl
theorem b5 : iblk m c 5 t (ix2 i j) = (args m c).oc (ix2 (at_ t i) j) := by blk_ext [iblk, idx t]; rfl
theorem b6 : iblk m c 6 t (ix2 i k) = (args m c).zg (ix2 (at_ t i) k) := by blk_ext [iblk, idx t]; rfl
theorem b8' : iblk m c 8 t (ix2 d k) = (show FVec Ideal S1024x1152 .bf16 from V m c main_v5) (ix2 d k) := by blk_ext [iblk, idx t]
theorem b8 : iblk m c 8 t (ix2 d k) = (args m c).w (ix2 k d) := by
  rw [b8', V_t]
  exact hostT_apply _ d k
theorem ex_at : Args.ex (at_ t i) = ex t := Fin.ext (by
  show (t.val * 512 + i.val) / 2048 = t.val / 4
  omega)

/-- A tile of the projection's gradient. -/
def yAt : FVec Ideal S512x1024 .f32 := k0_pay6 (F := Ideal) (iblk m c 0 t) (iblk m c 2 t)
theorem yAt_apply : yAt m c t (ix2 i d) = (args m c).dy (at_ t i) d := by
  refine (pay6_apply ..).trans ?_
  unfold Args.dy
  rw [ex_at]
  exact congrArg₂ (· * ·) (b0 m c t i d) (b2 m c t d)
theorem dcat_at (wt : FVec Ideal S1024x384 .bf16) (hw : ∀ d, wt (ix2 d j) = (args m c).w (ix2 k d)) : ∑ d : Fin 1024, yAt m c t (ix2 i d) * wt (ix2 d j) = (args m c).dcat (at_ t i) k :=
  Finset.sum_congr rfl fun d _ => congrArg₂ (· * ·) (yAt_apply m c t i d) (hw d)
theorem pick_at : pick (iblk m c 3 t) (iblk m c 4 t) (iblk m c 5 t) i k = (args m c).o (at_ t i) k := by
  unfold Args.o pick
  split_ifs
  · exact b5 m c t i _
  · exact b4 m c t i _
  · exact b3 m c t i _

def uAt (a : ℕ) (h : ∀ b, (![0, a] : Fin 2 → ℕ) b + (![512, 384] : Fin 2 → ℕ) b ≤ S512x1152.size b) : FVec Ideal S512x384 .f32 := colU (iblk m c 6 t) a h
def wAt (a : ℕ) (h : ∀ b, (![0, a] : Fin 2 → ℕ) b + (![1024, 384] : Fin 2 → ℕ) b ≤ S1024x1152.size b) : FVec Ideal S1024x384 .bf16 := colW (iblk m c 8 t) a h
theorem out_tile {a : ℕ} (h6 : ∀ b, (![0, a] : Fin 2 → ℕ) b + (![512, 384] : Fin 2 → ℕ) b ≤ S512x1152.size b)
    (h8 : ∀ b, (![0, a] : Fin 2 → ℕ) b + (![1024, 384] : Fin 2 → ℕ) b ≤ S1024x1152.size b) (ha : a + 384 ≤ 1152) :
    (∑ d : Fin 1024, yAt m c t (ix2 i d) * wAt m c t a h8 (ix2 d j)) * silu (uAt m c t a h6 (ix2 i j)) = (args m c).dout a ha (ix2 (at_ t i) j) := by
  refine congrArg₂ (· * ·) (dcat_at m c t i j ⟨a + j.val, Nat.lt_of_lt_of_le (Nat.add_lt_add_left j.isLt a) ha⟩ _ fun d => ?_) (congrArg silu ?_)
  · exact (colW_apply _ d ⟨a + j.val, _⟩ h8 j rfl).trans (b8 m c t d _)
  · exact (colU_apply _ i ⟨a + j.val, _⟩ h6 j rfl).trans (b6 m c t i _)
end blocks

/-! ## What a point leaves in the output windows -/

/-- A point begins everything, goes on with everything, or begins an example and goes on with the weights. -/
theorem cases_ : (t.val % 8 = 0 ∧ t.val % 4 = 0) ∨ (¬t.val % 8 = 0 ∧ ¬t.val % 4 = 0) ∨ (¬t.val % 8 = 0 ∧ t.val % 4 = 0) := by omega

theorem doa_out : (outsAt0 m c t.val t.isLt).1 = k0_pay10 (yAt m c t) (uAt m c t 0 inb_S512x1152_S512x384_0_0) (wAt m c t 0 inb_S1024x1152_S1024x384_0_0) := by
  rcases cases_ t with ⟨h0, h1⟩ | ⟨h0, h1⟩ | ⟨h0, h1⟩
  · rw [outsAt0_A m c t h0 h1]; frame_out; rfl
  · rw [outsAt0_B m c t h0 h1]; frame_out; rfl
  · rw [outsAt0_C m c t h0 h1]; frame_out; rfl
theorem dob_out : (outsAt0 m c t.val t.isLt).2.1
    = k0_pay15 (k0_pay7 (yAt m c t)) (k0_pay13 (uAt m c t 384 inb_S512x1152_S512x384_0_384)) (wAt m c t 384 inb_S1024x1152_S1024x384_0_384) := by
  rcases cases_ t with ⟨h0, h1⟩ | ⟨h0, h1⟩ | ⟨h0, h1⟩
  · rw [outsAt0_A m c t h0 h1]; frame_out; rfl
  · rw [outsAt0_B m c t h0 h1]; frame_out; rfl
  · rw [outsAt0_C m c t h0 h1]; frame_out; rfl
theorem doc_out : (outsAt0 m c t.val t.isLt).2.2.1
    = k0_pay20 (k0_pay7 (yAt m c t)) (uAt m c t 768 inb_S512x1152_S512x384_0_768) (wAt m c t 768 inb_S1024x1152_S1024x384_0_768) := by
  rcases cases_ t with ⟨h0, h1⟩ | ⟨h0, h1⟩ | ⟨h0, h1⟩
  · rw [outsAt0_A m c t h0 h1]; frame_out; rfl
  · rw [outsAt0_B m c t h0 h1]; frame_out; rfl
  · rw [outsAt0_C m c t h0 h1]; frame_out; rfl

section logits
variable (i : Fin 512) (k : Fin 1152)
theorem dzg_tile : (∑ d : Fin 1024, yAt m c t (ix2 i d) * (show FVec Ideal S1024x1152 .bf16 from iblk m c 8 t) (ix2 d k)) * pick (iblk m c 3 t) (iblk m c 4 t) (iblk m c 5 t) i k
    * slope ((show FVec Ideal S512x1152 .f32 from iblk m c 6 t) (ix2 i k)) = (args m c).dZ (at_ t i) k :=
  congrArg₂ (· * ·) (congrArg₂ (· * ·) (Finset.sum_congr rfl fun d _ => congrArg₂ (· * ·) (yAt_apply m c t i d) (b8 m c t d k)) (pick_at m c t i k)) (congrArg slope (b6 m c t i k))
theorem dzg_out : (outsAt0 m c t.val t.isLt).2.2.2.1 (ix2 i k) = (args m c).dZ (at_ t i) k := by
  rcases cases_ t with ⟨h0, h1⟩ | ⟨h0, h1⟩ | ⟨h0, h1⟩
  · rw [outsAt0_A m c t h0 h1]; frame_out; exact (three_cols (yAt m c t) _ _ _ _ _ i k).trans (dzg_tile m c t i k)
  · rw [outsAt0_B m c t h0 h1]; frame_out; exact (three_cols (yAt m c t) _ _ _ _ _ i k).trans (dzg_tile m c t i k)
  · rw [outsAt0_C m c t h0 h1]; frame_out; exact (three_cols (yAt m c t) _ _ _ _ _ i k).trans (dzg_tile m c t i k)
end logits

section sums
variable (d : Fin 1024) (k : Fin 1152)

/-- What a tile adds to the weights' gradient and to the gate's. -/
def wTile (k : Fin 1152) (d : Fin 1024) : EReal := ∑ i : Fin 512, (args m c).gated (at_ t i) k * (args m c).dy (at_ t i) d
def gTile (d : Fin 1024) : EReal := ∑ i : Fin 512, (args m c).x (ix2 (at_ t i) d) * (args m c).y (at_ t i) d

theorem wTile_eq : ∑ i : Fin 512, pick (iblk m c 3 t) (iblk m c 4 t) (iblk m c 5 t) i k * silu ((show FVec Ideal S512x1152 .f32 from iblk m c 6 t) (ix2 i k)) * yAt m c t (ix2 i d) = wTile m c t k d :=
  Finset.sum_congr rfl fun i _ => congrArg₂ (· * ·) (congrArg₂ (· * ·) (pick_at m c t i k) (congrArg silu (b6 m c t i k))) (yAt_apply m c t i d)
theorem gTile_eq (p : FVec Ideal S1x1x1024 .f32) : k0_pay5 (F := Ideal) (iblk m c 0 t) p (iblk m c 1 t) (ix3 (0 : Fin 1) (0 : Fin 1) d) = p (ix3 (0 : Fin 1) (0 : Fin 1) d) + gTile m c t d :=
  (pay5_apply ..).trans (congrArg₂ (· + ·) rfl (Finset.sum_congr rfl fun i _ => congrArg₂ (· * ·) (b0 m c t i d) (b1 m c t i d)))

theorem dw_begin (h : t.val % 8 = 0) : (outsAt0 m c t.val t.isLt).2.2.2.2.1 (ix2 k d) = (0 : EReal) + wTile m c t k d := by
  rw [outsAt0_A m c t h (by omega)]
  frame_open
  simp (disch := decide) only [↓ View.readCov_skip, ↓ View.readCov_fill]
  frame_out
  exact (three_rows (yAt m c t) _ _ _ _ _ _ d k).trans (congrArg₂ (· + ·) (zero3 d k) (wTile_eq m c t d k))
theorem dw_on (h : ¬t.val % 8 = 0) : (outsAt0 m c t.val t.isLt).2.2.2.2.1 (ix2 k d)
    = (show FVec Ideal S1152x1024 .f32 from (outsAt0 m c (t.val - 1) (by have := t.isLt; omega)).2.2.2.2.1) (ix2 k d) + wTile m c t k d := by
  rcases cases_ t with ⟨h0, h1⟩ | ⟨h0, h1⟩ | ⟨h0, h1⟩
  · exact absurd h0 h
  · rw [outsAt0_B m c t h0 h1]; frame_out
    exact (three_rows (yAt m c t) _ _ _ _ _ [] d k).trans (congrArg₂ (· + ·) rfl (wTile_eq m c t d k))
  · rw [outsAt0_C m c t h0 h1]; frame_out
    exact (three_rows (yAt m c t) _ _ _ _ _ [] d k).trans (congrArg₂ (· + ·) rfl (wTile_eq m c t d k))

theorem gate_begin (h : t.val % 4 = 0) : (outsAt0 m c t.val t.isLt).2.2.2.2.2 = k0_pay5 (iblk m c 0 t) (k0_pay4 (F := Ideal)) (iblk m c 1 t) := by
  rcases cases_ t with ⟨h0, h1⟩ | ⟨h0, h1⟩ | ⟨h0, h1⟩
  · rw [outsAt0_A m c t h0 h1]; frame_out
  · exact absurd h h1
  · rw [outsAt0_C m c t h0 h1]; frame_out
theorem gate_on (h : ¬t.val % 4 = 0) : (outsAt0 m c t.val t.isLt).2.2.2.2.2
    = k0_pay5 (iblk m c 0 t) (outsAt0 m c (t.val - 1) (by have := t.isLt; omega)).2.2.2.2.2 (iblk m c 1 t) := by
  rw [outsAt0_B m c t (by omega) h]; frame_out

theorem four_tiles (F : Fin 4096 → EReal) (h : ∀ s : Fin 4, 4 * (t.val / 4) + s.val < cfg0.N) :
    ∑ s : Fin 4, ∑ k : Fin 512, F (at_ ⟨4 * (t.val / 4) + s.val, h s⟩ k) = ∑ i : Fin 2048, F (Args.row (ex t) i) := by
  refine Fin.sum_mul_add_congr fun s k hl => congrArg F (Fin.ext ?_)
  show (4 * (t.val / 4) + s.val) * 512 + k.val = t.val / 4 * 2048 + (s.val * 512 + k.val)
  omega
theorem eight_tiles (F : Fin 4096 → EReal) (h : ∀ s : Fin 8, 8 * (t.val / 8) + s.val < cfg0.N) :
    ∑ s : Fin 8, ∑ k : Fin 512, F (at_ ⟨8 * (t.val / 8) + s.val, h s⟩ k) = ∑ R : Fin 4096, F R := by
  refine Fin.sum_mul_add_congr fun s k hl => congrArg F (Fin.ext ?_)
  show (8 * (t.val / 8) + s.val) * 512 + k.val = s.val * 512 + k.val
  have : t.val < 8 := t.isLt
  omega

theorem dw_sum (h : t.val % 8 = 7) : (outsAt0 m c t.val t.isLt).2.2.2.2.1 (ix2 k d) = (args m c).dW k d := by
  have e := Pipeline.eq_sum_fin_of_reset_step_apply_of_flush (M := EReal) (fun n h (y : Fin 1152 × Fin 1024) => (outsAt0 m c n h).2.2.2.2.1 (ix2 y.1 y.2)) 8 (fun _ => 0)
    (fun t y => wTile m c t y.1 y.2) (fun t h y => dw_begin m c t y.2 y.1 h) (fun t h y => dw_on m c t y.2 y.1 h) t h (k, d)
  exact e.trans ((zero_add _).trans (eight_tiles t (fun R => (args m c).gated R k * (args m c).dy R d) _))
theorem gate_sum (h : t.val % 4 = 3) : (outsAt0 m c t.val t.isLt).2.2.2.2.2 (ix3 (0 : Fin 1) (0 : Fin 1) d) = (args m c).dG (ex t) d := by
  have e := Pipeline.eq_sum_fin_of_reset_step_apply_of_flush (M := EReal) (fun n h (d : Fin 1024) => (outsAt0 m c n h).2.2.2.2.2 (ix3 (0 : Fin 1) (0 : Fin 1) d)) 4 (fun _ => 0)
    (fun t d => gTile m c t d) (fun t h d => by beta_reduce; rw [gate_begin m c t h, gTile_eq, zero4]) (fun t h d => by beta_reduce; rw [gate_on m c t h, gTile_eq]) t h d
  exact e.trans ((zero_add _).trans (four_tiles t (fun R => (args m c).x (ix2 R d) * (args m c).y R d) _))
end sums

/-! ## The arrays the kernel leaves -/

theorem doa_array : (dats m 0 c).arrAt 9 cfg0.N = (args m c).dout 0 (by decide) := by
  refine (dats m 0 c).arrAt_eq_of_covers 9 _ (by decide +kernel) fun t hf y => ?_
  blk_simp
  rw [after0_9, doa_out]
  idx_vars y
  refine (pay10_apply ..).trans ((out_tile m c t y0 y1 _ _ (by decide)).trans (congrArg _ ?_))
  blk_ext [idx t]
  rfl
theorem dob_array : (dats m 0 c).arrAt 10 cfg0.N = (args m c).dout 384 (by decide) := by
  refine (dats m 0 c).arrAt_eq_of_covers 10 _ (by decide +kernel) fun t hf y => ?_
  blk_simp
  rw [after0_10, dob_out]
  idx_vars y
  refine (pay15_apply ..).trans ((out_tile m c t y0 y1 _ _ (by decide)).trans (congrArg _ ?_))
  blk_ext [idx t]
  rfl
theorem doc_array : (dats m 0 c).arrAt 11 cfg0.N = (args m c).dout 768 (by decide) := by
  refine (dats m 0 c).arrAt_eq_of_covers 11 _ (by decide +kernel) fun t hf y => ?_
  blk_simp
  rw [after0_11, doc_out]
  idx_vars y
  refine (pay20_apply ..).trans ((out_tile m c t y0 y1 _ _ (by decide)).trans (congrArg _ ?_))
  blk_ext [idx t]
  rfl
theorem dzg_array : (dats m 0 c).arrAt 12 cfg0.N = (args m c).dzg := by
  refine (dats m 0 c).arrAt_eq_of_covers 12 _ (by decide +kernel) fun t hf y => ?_
  blk_simp
  rw [after0_12]
  idx_vars y
  refine (dzg_out m c t y0 y1).trans (congrArg₂ (args m c).dZ (Fin.ext ?_) (Fin.ext ?_))
  · blk_simp [idx t]
    rfl
  · blk_simp [idx t]
theorem dw_array : (dats m 0 c).arrAt 13 cfg0.N = (args m c).dw := by
  refine (dats m 0 c).arrAt_eq_of_covers 13 _ (by decide +kernel) fun t hf y => ?_
  blk_simp
  rw [after0_13]
  idx_vars y
  refine (dw_sum m c t y1 y0 ((flush0_13 t).1 hf)).trans (congrArg₂ (args m c).dW (Fin.ext ?_) (Fin.ext ?_))
  · blk_simp [idx t]
  · blk_simp [idx t]
theorem dgate_array : (dats m 0 c).arrAt 14 cfg0.N = (args m c).dgate := by
  refine (dats m 0 c).arrAt_eq_of_covers 14 _ (by decide +kernel) fun t hf y => ?_
  blk_simp
  rw [after0_14]
  idx_vars y
  obtain rfl := Subsingleton.elim y0 0
  obtain rfl := Subsingleton.elim y1 0
  refine (gate_sum m c t y2 ((flush0_14 t).1 hf)).trans (congrArg₂ (args m c).dG (Fin.ext ?_) (Fin.ext ?_))
  · blk_simp [idx t]
    rfl
  · blk_simp [idx t]

end Cert.Own.Ob

end
-- ==== Proof.ObFinite.lean ====
module

public import proofs.«01_k».proof.Proof.DxFinite

@[expose] public section

set_option maxRecDepth 16384

noncomputable section

namespace Cert.Own.Pre6

open Idealize.ShloMosaic Cert.Pre_finite6

/-! What the third precondition says: every entry of every argument of the output projection's backward pass, but for the gates' logits, is a real number. -/

theorem h6 : S_.BroadcastsInDim S1152x1024 (![] : Fin 0 → Fin S1152x1024.rank) := by decide
theorem r6 : S1152x1024.ReducesTo [0, 1] S_ := by decide

instance facts : Cert.Pre_finite6.Facts where
  bitsLt_bf16_f32 := Pre.bitsLt_bf16_f32
  h_S_ := Pre.h_S_
  bcast_S_S4096x1024 := Pre2.h10
  reducesTo_S4096x1024_S_d0_1 := Pre2.r10
  bcast_S_S2x1x1024 := Pre2.h12
  reducesTo_S2x1x1024_S_d0_1_2 := Pre2.r12
  bcast_S_S4096x384 := Pre2.h2
  reducesTo_S4096x384_S_d0_1 := Pre2.r2
  bcast_S_S1152x1024 := h6
  reducesTo_S1152x1024_S_d0_1 := r6

theorem reals (x : FVec Ideal S4096x1024 .f32) (g : FVec Ideal S2x1x1024 .f32) (o0 o1 o2 : FVec Ideal S4096x384 .f32) (u : FVec Ideal S4096x1152 .f32) (w : FVec Ideal S1152x1024 .bf16)
    (h : Cert.Pre_finite6.fn (F := Ideal) x g o0 o1 o2 u w = fun _ => 1#1) : Pre2.Real x ∧ Pre2.Real g ∧ Pre2.Real o0 ∧ Pre2.Real o1 ∧ Pre2.Real o2 ∧ Pre2.Real w := by
  have e := congrFun h (fun i => i.elim0)
  unfold Cert.Pre_finite6.fn fn_part1 at e
  obtain ⟨e, e6⟩ := Pre.and_eq_one _ _ _ e
  obtain ⟨e, e4⟩ := Pre.and_eq_one _ _ _ e
  obtain ⟨e, e3⟩ := Pre.and_eq_one _ _ _ e
  obtain ⟨e, e2⟩ := Pre.and_eq_one _ _ _ e
  obtain ⟨e0, e1⟩ := Pre.and_eq_one _ _ _ e
  exact ⟨Pre.reals_of x _ _ _ e0, Pre.reals_of g _ _ _ e1, Pre.reals_of o0 _ _ _ e2, Pre.reals_of o1 _ _ _ e3, Pre.reals_of o2 _ _ _ e4,
    Pre.reals_of (extf .f32 w Pre.bitsLt_bf16_f32) _ _ _ e6⟩

end Cert.Own.Pre6

end
-- ==== Proof.ObResults.lean ====
module

public import proofs.«01_k».proof.Proof.ObArrays
public import proofs.«01_k».proof.Proof.ObFinite
public import proofs.«01_k».proof.Proof.GoResults
public import proofs.«01_k».proof.Proof.DxReal
public import proofs.«01_k».proof.Proof.Gen.Reference6Ideal.Run

@[expose] public section

set_option maxRecDepth 16384

noncomputable section

namespace Cert.Own.Ob

open Idealize.ShloMosaic Idealize.ShloMosaic.TcCoe Idealize.SL.Sem
open Cert.Own.Dx (Is Is.add Is.mul Is.sum)
open Cert.Own.Go (refOne refGated refGated_apply cut0 cut1 cut2 cut0_apply cut1_apply cut2_apply)

/-! ## The reference's stretches -/

section ref
open Cert.Reference6Ideal Cert.Reference6Ideal.Gen

variable (A : Args) (R : Fin 4096) (d : Fin 1024) (k : Fin 1152) (j : Fin 384)

def refDy (x : FVec Ideal S4096x1024 .f32) (g : FVec Ideal S2x1x1024 .f32) : FVec Ideal S4096x1024 .f32 :=
  shapeCast S4096x1024 (mulf (broadcastInDim S2x2048x1024 ![0, 1, 2] bcast_S2x1x1024_S2x2048x1024_0_1_2 g) (shapeCast S2x2048x1024 x shapeCasts_S4096x1024_S2x2048x1024))
    shapeCasts_S2x2048x1024_S4096x1024
def refBack (y : FVec Ideal S4096x1024 .f32) (w : FVec Ideal S1152x1024 .bf16) : FVec Ideal S4096x1152 .f32 :=
  Host.dotGeneral dot_S4096x1024_S1152x1024_S4096x1152_1_1_0_0_n_n none y (extf .f32 w bitsLt_bf16_f32)
def refSig (u : FVec Ideal S4096x384 .f32) : FVec Ideal S4096x384 .f32 := Host.divf refOne (addf refOne (Host.exp (Host.negf u)))
def refZ (o D u : FVec Ideal S4096x384 .f32) : FVec Ideal S4096x384 .f32 :=
  addf (mulf (mulf o D) (refSig u)) (mulf (mulf u (mulf o D)) (mulf (refSig u) (subf refOne (refSig u))))
def refW (y : FVec Ideal S4096x1024 .f32) (o : FVec Ideal S4096x1152 .f32) : FVec Ideal S1152x1024 .f32 :=
  transpose S1152x1024 [1, 0] (Host.dotGeneral dot_S4096x1024_S4096x1152_S1024x1152_0_0_1_1_n_n none y o) transposes_S1024x1152_S1152x1024_1_0
def refGate (x y : FVec Ideal S4096x1024 .f32) : FVec Ideal S2x1x1024 .f32 :=
  shapeCast S2x1x1024 (Host.reduceAdd (mulf (shapeCast S2x2048x1024 x shapeCasts_S4096x1024_S2x2048x1024) (shapeCast S2x2048x1024 y shapeCasts_S4096x1024_S2x2048x1024))
    (constant (F := Ideal) S_ .f32 0x00000000#32) reducesTo_S2x2048x1024_S2x1024_d1 h_S_) shapeCasts_S2x1024_S2x1x1024
def refNarrow (z : FVec Ideal S4096x1152 .f32) : FVec Ideal S4096x1152 .bf16 := truncf .bf16 z bitsLt_bf16_f32

/-- What the rule for the gate gives a logit. -/
def zRule (o D u : EReal) : EReal := o * D * Ideal.logistic u + u * (o * D) * (Ideal.logistic u * (one - Ideal.logistic u))

theorem refDy_apply (x : FVec Ideal S4096x1024 .f32) (g : FVec Ideal S2x1x1024 .f32) : refDy x g (ix2 R d) = g (ix3 (Args.ex R) (0 : Fin 1) d) * x (ix2 R d) := by
  pointwise [refDy]
  rfl
theorem refBack_apply (y : FVec Ideal S4096x1024 .f32) (w : FVec Ideal S1152x1024 .bf16) : refBack y w (ix2 R k) = ∑ d : Fin 1024, y (ix2 R d) * w (ix2 k d) := by
  pointwise [refBack]
theorem refZ_apply (o D u : FVec Ideal S4096x384 .f32) : refZ o D u (ix2 R j) = zRule (o (ix2 R j)) (D (ix2 R j)) (u (ix2 R j)) := by
  unfold zRule one Ideal.logistic
  pointwise [refZ, refSig, refOne]
theorem refW_apply (y : FVec Ideal S4096x1024 .f32) (o : FVec Ideal S4096x1152 .f32) : refW y o (ix2 k d) = ∑ R : Fin 4096, y (ix2 R d) * o (ix2 R k) := by
  pointwise [refW]
theorem refGate_apply (x y : FVec Ideal S4096x1024 .f32) (e : Fin 2) :
    refGate x y (ix3 e (0 : Fin 1) d) = ∑ i : Fin 2048, x (ix2 (Args.row e i) d) * y (ix2 (Args.row e i) d) := by
  pointwise [refGate]
  rfl
theorem refNarrow_apply (z : FVec Ideal S4096x1152 .f32) : refNarrow z (ix2 R k) = z (ix2 R k) := by
  pointwise [refNarrow]

/-- A rule taken on each attention's columns is the rule on all of them. -/
theorem pick_rule (G : FVec Ideal S4096x384 .f32 → FVec Ideal S4096x384 .f32 → FVec Ideal S4096x384 .f32 → FVec Ideal S4096x384 .f32) (f : EReal → EReal → EReal → EReal)
    (hG : ∀ o D u R (j : Fin 384), G o D u (ix2 R j) = f (o (ix2 R j)) (D (ix2 R j)) (u (ix2 R j))) (p q r : FVec Ideal S4096x384 .f32) (D u : FVec Ideal S4096x1152 .f32) :
    pick (G p (cut0 D) (cut0 u)) (G q (cut1 D) (cut1 u)) (G r (cut2 D) (cut2 u)) R k = f (pick p q r R k) (D (ix2 R k)) (u (ix2 R k)) := by
  have hk := k.isLt
  rcases (by omega : k.val < 384 ∨ (384 ≤ k.val ∧ k.val < 768) ∨ 768 ≤ k.val) with h | h | h
  · obtain ⟨j, rfl⟩ : ∃ j : Fin 384, k = ⟨0 + j.val, Nat.lt_of_lt_of_le (Nat.add_lt_add_left j.isLt _) (by decide)⟩ := ⟨⟨k.val, h⟩, Fin.ext (by simp only; omega)⟩
    rw [pick0 _ _ _ R j rfl, pick0 p _ _ R j rfl, hG, cut0_apply, cut0_apply]
  · obtain ⟨j, rfl⟩ : ∃ j : Fin 384, k = ⟨384 + j.val, Nat.lt_of_lt_of_le (Nat.add_lt_add_left j.isLt _) (by decide)⟩ := ⟨⟨k.val - 384, by omega⟩, Fin.ext (by simp only; omega)⟩
    rw [pick1 _ _ _ R j rfl, pick1 p _ _ R j rfl, hG, cut1_apply, cut1_apply]
  · obtain ⟨j, rfl⟩ : ∃ j : Fin 384, k = ⟨768 + j.val, Nat.lt_of_lt_of_le (Nat.add_lt_add_left j.isLt _) (by decide)⟩ := ⟨⟨k.val - 768, by omega⟩, Fin.ext (by simp only; omega)⟩
    rw [pick2 _ _ _ R j rfl, pick2 p _ _ R j rfl, hG, cut2_apply, cut2_apply]

/-- The reference's stretches on the arguments. -/
def refD : FVec Ideal S4096x1152 .f32 := refBack (refDy A.x A.gate) A.w
def refG : FVec Ideal S4096x1152 .f32 := hostCat (refGated A.oa (cut0 A.zg)) (refGated A.ob (cut1 A.zg)) (refGated A.oc (cut2 A.zg))
def refDz : FVec Ideal S4096x1152 .bf16 :=
  refNarrow (hostCat (refZ A.oa (cut0 (refD A)) (cut0 A.zg)) (refZ A.ob (cut1 (refD A)) (cut1 A.zg)) (refZ A.oc (cut2 (refD A)) (cut2 A.zg)))

theorem refDy_at : refDy A.x A.gate (ix2 R d) = A.dy R d := (refDy_apply R d A.x A.gate).trans (mul_comm ..)
theorem refD_at : refD A (ix2 R k) = A.dcat R k :=
  (refBack_apply R k _ A.w).trans (Finset.sum_congr rfl fun d _ => congrArg (· * A.w (ix2 k d)) (refDy_at A R d))
theorem refG_at : refG A (ix2 R k) = A.gated R k :=
  (hostCat_apply _ _ _ R k).trans (pick_rule R k (fun o _ u => refGated o u) (fun o _ u => o * silu u) (fun o _ u R j => refGated_apply R j o u) A.oa A.ob A.oc A.zg A.zg)
theorem refDz_at : refDz A (ix2 R k) = zRule (A.o R k) (A.dcat R k) (A.zg (ix2 R k)) := by
  refine (refNarrow_apply R k _).trans ((hostCat_apply _ _ _ R k).trans ((pick_rule R k refZ zRule (fun o D u R j => refZ_apply R j o D u) A.oa A.ob A.oc (refD A) A.zg).trans ?_))
  rw [refD_at]
  rfl

theorem doa_eq : refGated (cut0 (refD A)) (cut0 A.zg) = A.dout 0 (by decide) := by
  funext y
  idx_vars y
  rw [refGated_apply, cut0_apply, cut0_apply, refD_at]
  rfl
theorem dob_eq : refGated (cut1 (refD A)) (cut1 A.zg) = A.dout 384 (by decide) := by
  funext y
  idx_vars y
  rw [refGated_apply, cut1_apply, cut1_apply, refD_at]
  rfl
theorem doc_eq : refGated (cut2 (refD A)) (cut2 A.zg) = A.dout 768 (by decide) := by
  funext y
  idx_vars y
  rw [refGated_apply, cut2_apply, cut2_apply, refD_at]
  rfl
theorem refW_at : refW (refDy A.x A.gate) (refG A) (ix2 k d) = A.dW k d := by
  rw [refW_apply]
  unfold Args.dW
  refine Finset.sum_congr rfl fun R _ => ?_
  rw [refDy_at, refG_at]
  exact mul_comm ..
theorem refY_at : hostDot (refG A) A.w (ix2 R d) = A.y R d := by
  rw [hostDot_apply]
  unfold Args.y
  simp only [refG_at]
theorem refGate_at (e : Fin 2) : refGate A.x (hostDot (refG A) A.w) (ix3 e (0 : Fin 1) d) = A.dG e d := by
  rw [refGate_apply]
  unfold Args.dG
  simp only [refY_at]
theorem dw_eq : refW (refDy A.x A.gate) (refG A) = A.dw := by
  funext y
  idx_vars y
  exact refW_at A y1 y0
theorem dgate_eq : refGate A.x (hostDot (refG A) A.w) = A.dgate := by
  funext y
  idx_vars y
  obtain rfl := Subsingleton.elim y1 0
  exact refGate_at A y2 y0

/-- Every entry but the logits' is real. -/
structure Args.Finite : Prop where
  x : ∀ y, Is (A.x y)
  gate : ∀ y, Is (A.gate y)
  oa : ∀ y, Is (A.oa y)
  ob : ∀ y, Is (A.ob y)
  oc : ∀ y, Is (A.oc y)
  w : ∀ y, Is (A.w y)

/-- The rule for the gate, gathered, at any logit. -/
theorem zRule_eq {o D : EReal} (ho : Is o) (hD : Is D) (u : EReal) : zRule o D u = D * o * slope u := by
  obtain ⟨o, rfl⟩ := ho
  obtain ⟨D, rfl⟩ := hD
  unfold zRule slope one
  induction u using EReal.rec with
  | coe u =>
    rw [Dx.word_one, Ideal.logistic_coe]
    simp only [← EReal.coe_mul, ← EReal.coe_add, ← EReal.coe_sub]
    congr 1
    ring
  | bot => simp [Dx.word_one, Ideal.logistic_bot]
  | top =>
    have e : (1 : EReal) - 1 = 0 := by rw [← EReal.coe_one, ← EReal.coe_sub, sub_self, EReal.coe_zero]
    simp [Dx.word_one, Ideal.logistic_top, e, mul_comm]
theorem dzg_eq (h : A.Finite) : refDz A = A.dzg := by
  funext y
  idx_vars y
  refine (refDz_at A y0 y1).trans (zRule_eq ?_ (Is.sum fun d => ((h.x _).mul (h.gate _)).mul (h.w _)) _)
  unfold Args.o pick
  split_ifs
  · exact h.oc _
  · exact h.ob _
  · exact h.oa _

variable (m : (ℓ : Loc nD τ sig) → Buf (Elt Ideal) ℓ) (c : Dev nD)

/-- The arrays the reference is given. -/
def argsR : Args where
  x := m ((c.tc : Thread nD τ).loc main_arg0)
  gate := m ((c.tc : Thread nD τ).loc main_arg1)
  oa := m ((c.tc : Thread nD τ).loc main_arg2)
  ob := m ((c.tc : Thread nD τ).loc main_arg3)
  oc := m ((c.tc : Thread nD τ).loc main_arg4)
  zg := m ((c.tc : Thread nD τ).loc main_arg5)
  w := m ((c.tc : Thread nD τ).loc main_arg6)

theorem res_dzg : Value.res_out3 m c = refDz (argsR m c) := rfl
end ref

open Cert.Kernel6Ideal in
theorem finite_of (m : (ℓ : Loc nD τ sig) → Buf (Elt Ideal) ℓ) (hp : Cert.Pre_Kernel6Ideal_finite6 m) (c : Dev nD) : (args m c).Finite := by
  obtain ⟨h0, h1, h2, h3, h4, h6⟩ := Pre6.reals _ _ _ _ _ _ _ (hp c)
  unfold args
  rw [Gen.V_main_arg0, Gen.V_main_arg1, Gen.V_main_arg2, Gen.V_main_arg3, Gen.V_main_arg4, Gen.V_main_arg5, Gen.V_main_arg6]
  exact ⟨fun y => ⟨_, h0 y⟩, fun y => ⟨_, h1 y⟩, fun y => ⟨_, h2 y⟩, fun y => ⟨_, h3 y⟩, fun y => ⟨_, h4 y⟩, fun y => ⟨_, h6 y⟩⟩

/-- Over the reals the kernel and the reference leave the same arrays. -/
theorem algebraic : Cert.algebraic_Kernel6Ideal_Reference6Ideal_pre_finite6 := by
  intro m g m' g' hp hm
  have R (c) : argsR m' c = args m c := by
    obtain ⟨h0, h1, h2, h3, h4, h5, h6⟩ := hm c
    unfold argsR args
    rw [h0, h1, h2, h3, h4, h5, h6, Cert.Kernel6Ideal.Gen.V_main_arg0, Cert.Kernel6Ideal.Gen.V_main_arg1, Cert.Kernel6Ideal.Gen.V_main_arg2, Cert.Kernel6Ideal.Gen.V_main_arg3,
      Cert.Kernel6Ideal.Gen.V_main_arg4, Cert.Kernel6Ideal.Gen.V_main_arg5, Cert.Kernel6Ideal.Gen.V_main_arg6]
  refine ⟨fun c => (Cert.Kernel6Ideal.Gen.dats m 0 c).arrAt 9 Cert.Kernel6Ideal.cfg0.N, fun c => (Cert.Kernel6Ideal.Gen.dats m 0 c).arrAt 10 Cert.Kernel6Ideal.cfg0.N,
    fun c => (Cert.Kernel6Ideal.Gen.dats m 0 c).arrAt 11 Cert.Kernel6Ideal.cfg0.N, fun c => (Cert.Kernel6Ideal.Gen.dats m 0 c).arrAt 12 Cert.Kernel6Ideal.cfg0.N,
    fun c => (Cert.Kernel6Ideal.Gen.dats m 0 c).arrAt 13 Cert.Kernel6Ideal.cfg0.N, fun c => (Cert.Kernel6Ideal.Gen.dats m 0 c).arrAt 14 Cert.Kernel6Ideal.cfg0.N,
    Cert.Kernel6Ideal.Value.run_blocks m g, (θ_run _ _ _).mono (fun r h c => ?_) (Cert.Reference6Ideal.Value.run m' g')⟩
  obtain ⟨a0, a1, a2, a3, a4, a5, rest⟩ := h c
  exact ⟨a0.trans ((doa_eq (argsR m' c)).trans ((congrArg (Args.dout · 0 (by decide)) (R c)).trans (doa_array m c).symm)),
    a1.trans ((dob_eq (argsR m' c)).trans ((congrArg (Args.dout · 384 (by decide)) (R c)).trans (dob_array m c).symm)),
    a2.trans ((doc_eq (argsR m' c)).trans ((congrArg (Args.dout · 768 (by decide)) (R c)).trans (doc_array m c).symm)),
    a3.trans ((res_dzg m' c).trans ((dzg_eq _ (by rw [R c]; exact finite_of m hp c)).trans ((congrArg Args.dzg (R c)).trans (dzg_array m c).symm))),
    a4.trans ((dw_eq (argsR m' c)).trans ((congrArg Args.dw (R c)).trans (dw_array m c).symm)),
    a5.trans ((dgate_eq (argsR m' c)).trans ((congrArg Args.dgate (R c)).trans (dgate_array m c).symm)), rest⟩

end Cert.Own.Ob

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Results
public import proofs.«01_k».proof.Proof.DxResults
public import proofs.«01_k».proof.Proof.DwResults
public import proofs.«01_k».proof.Proof.Dw0Results
public import proofs.«01_k».proof.Proof.LnResults
public import proofs.«01_k».proof.Proof.GoResults
public import proofs.«01_k».proof.Proof.ObResults
public import Idealize.ShloMosaic.Adequacy
public import Idealize.ShloMosaic.Init

@[expose] public section

noncomputable section

namespace Cert.Proof

open Idealize.ShloMosaic Idealize.SL.Sem Cert.Kernel

/-- The reference runs, leaves its arguments, and declares no semaphore. -/
theorem reference_frame : Cert.quiescent_ReferenceIdeal := fun m ρ _ =>
  (θ_run _ _ _).mono (fun r h => ⟨fun c => (h c).2.2.2.2.2, sem_eq_zero_of_no_sems (by decide) r.2⟩) (Cert.ReferenceIdeal.Value.run m ρ)

theorem preserves : Cert.preserves_Kernel_KernelIdeal :=
  ⟨IdealRules.named_const.statement _ _ _ _ _ rfl, IdealRules.named_const.statement _ _ _ _ _ rfl⟩

/-- The other references likewise. -/
theorem reference2_frame : Cert.quiescent_Reference2Ideal := fun m ρ _ =>
  (θ_run _ _ _).mono (fun r h => ⟨fun c => (h c).2.2.2.2, sem_eq_zero_of_no_sems (by decide) r.2⟩) (Cert.Reference2Ideal.Value.run m ρ)
theorem reference3_frame : Cert.quiescent_Reference3Ideal := fun m ρ _ =>
  (θ_run _ _ _).mono (fun r h => ⟨fun c => (h c).2, sem_eq_zero_of_no_sems (by decide) r.2⟩) (Cert.Reference3Ideal.Value.run m ρ)
theorem reference4_frame : Cert.quiescent_Reference4Ideal := fun m ρ _ =>
  (θ_run _ _ _).mono (fun r h => ⟨fun c => (h c).2, sem_eq_zero_of_no_sems (by decide) r.2⟩) (Cert.Reference4Ideal.Value.run m ρ)
theorem reference5_frame : Cert.quiescent_Reference5Ideal := fun m ρ _ =>
  (θ_run _ _ _).mono (fun r h => ⟨fun c => (h c).2.2.2.2.2.2.2.2.2.2, sem_eq_zero_of_no_sems (by decide) r.2⟩) (Cert.Reference5Ideal.Value.run m ρ)
theorem reference6_frame : Cert.quiescent_Reference6Ideal := fun m ρ _ =>
  (θ_run _ _ _).mono (fun r h => ⟨fun c => (h c).2.2.2.2.2.2, sem_eq_zero_of_no_sems (by decide) r.2⟩) (Cert.Reference6Ideal.Value.run m ρ)
theorem reference7_frame : Cert.quiescent_Reference7Ideal := fun m ρ _ =>
  (θ_run _ _ _).mono (fun r h => ⟨fun c => (h c).2.2, sem_eq_zero_of_no_sems (by decide) r.2⟩) (Cert.Reference7Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Own.Pre.facts, Cert.Own.Pre2.facts, Cert.Own.Pre6.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    reference2_frame, fun m ρ _ => reference2_frame m ρ trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, fun m ρ _ => Cert.Kernel6Ideal.Gen.frame m ρ,
    reference6_frame, fun m ρ _ => reference6_frame m ρ trivial,
    fun m ρ _ => Cert.Kernel7.Gen.frame m ρ, fun m ρ _ => Cert.Kernel7Ideal.Gen.frame m ρ, reference7_frame,
    preserves, Cert.Own.algebraic, trivial, Cert.Own.Dx.algebraic, trivial, Cert.Own.Dw.algebraic, trivial, Cert.Own.Dw0.algebraic,
    trivial, Cert.Own.Ln.algebraic, trivial, Cert.Own.Ob.algebraic, trivial, Cert.Own.Go.algebraic⟩

end Cert.Proof

end
